-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_weights [hPre_routing_weights : Cert.Pre_routing_weights.Facts] (m : (ℓ : Loc Cert.KernelIdeal.nD Cert.KernelIdeal.τ Cert.KernelIdeal.sig) → Buf (Elt Ideal) ℓ) : Prop :=
  ∀ c : Dev Cert.KernelIdeal.nD,
    (Cert.Pre_routing_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_weights [hPre_routing_weights : Cert.Pre_routing_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inputs4 [hPre_finite_inputs4 : Cert.Pre_finite_inputs4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inputs4 [hPre_finite_inputs4 : Cert.Pre_finite_inputs4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routing_weights [hKernelIdeal : Cert.KernelIdeal.Facts] [hPre_routing_weights : Cert.Pre_routing_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routing_weights [hReferenceIdeal : Cert.ReferenceIdeal.Facts] [hPre_routing_weights : Cert.Pre_routing_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_inputs4 [hKernel4Ideal : Cert.Kernel4Ideal.Facts] [hPre_finite_inputs4 : Cert.Pre_finite_inputs4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inputs4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_inputs4 [hReference4Ideal : Cert.Reference4Ideal.Facts] [hPre_finite_inputs4 : Cert.Pre_finite_inputs4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def preserves_Kernel_KernelIdeal : Prop :=
  True

def algebraic_KernelIdeal_ReferenceIdeal_pre_routing_weights [hKernelIdeal : Cert.KernelIdeal.Facts] [hReferenceIdeal : Cert.ReferenceIdeal.Facts] [hPre_routing_weights : Cert.Pre_routing_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "log2e" .f32 0x3FB8AA3B#32 (((Real.log 2)⁻¹ : ℝ) : EReal)
  ∧ IdealRules.named_const.Statement Cert.Kernel4Ideal.κ "qscale" .f32 0x3E38AA3B#32 (((1 / 8) * (Real.log 2)⁻¹ : ℝ) : EReal)

def algebraic_Kernel4Ideal_Reference4Ideal_pre_finite_inputs4 [hKernel4Ideal : Cert.Kernel4Ideal.Facts] [hReference4Ideal : Cert.Reference4Ideal.Facts] [hPre_finite_inputs4 : Cert.Pre_finite_inputs4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inputs4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v89) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v126) = v0 c
          ∧ r.2.mem ((c.tc : Thread Cert.Reference5Ideal.nD Cert.Reference5Ideal.τ).loc Cert.Reference5Ideal.main_v194) = v1 c
          ∧ r.2.mem ((c.tc : Thread Cert.Reference5Ideal.nD Cert.Reference5Ideal.τ).loc Cert.Reference5Ideal.main_v197) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routing_weights : Cert.Pre_routing_weights.Facts) (hPre_finite_inputs4 : Cert.Pre_finite_inputs4.Facts),
    quiescent_Kernel (hKernel := hKernel)
    ∧ quiescent_KernelIdeal (hKernelIdeal := hKernelIdeal)
    ∧ quiescent_KernelIdeal_pre_routing_weights (hKernelIdeal := hKernelIdeal) (hPre_routing_weights := hPre_routing_weights)
    ∧ quiescent_ReferenceIdeal (hReferenceIdeal := hReferenceIdeal)
    ∧ quiescent_ReferenceIdeal_pre_routing_weights (hReferenceIdeal := hReferenceIdeal) (hPre_routing_weights := hPre_routing_weights)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_inputs4 (hKernel4Ideal := hKernel4Ideal) (hPre_finite_inputs4 := hPre_finite_inputs4)
    ∧ quiescent_Reference4Ideal (hReference4Ideal := hReference4Ideal)
    ∧ quiescent_Reference4Ideal_pre_finite_inputs4 (hReference4Ideal := hReference4Ideal) (hPre_finite_inputs4 := hPre_finite_inputs4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_routing_weights (hKernelIdeal := hKernelIdeal) (hReferenceIdeal := hReferenceIdeal) (hPre_routing_weights := hPre_routing_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_inputs4 (hKernel4Ideal := hKernel4Ideal) (hReference4Ideal := hReference4Ideal) (hPre_finite_inputs4 := hPre_finite_inputs4)
    ∧ preserves_Kernel5_Kernel5Ideal
    ∧ algebraic_Kernel5Ideal_Reference5Ideal (hKernel5Ideal := hKernel5Ideal) (hReference5Ideal := hReference5Ideal)
-- ==== Pre_finite_inputs4.lean ====
abbrev S8x4096x3584 : Shape := ⟨3, ![8, 4096, 3584]⟩
abbrev S4x64 : Shape := ⟨2, ![4, 64]⟩
abbrev S128 : Shape := ⟨1, ![128]⟩
abbrev S_ : Shape := ⟨0, ![]⟩

class Facts : Prop where
  bcast_S_S8x4096x3584 : S_.BroadcastsInDim S8x4096x3584 (![] : Fin 0 → Fin S8x4096x3584.rank)
  reducesTo_S8x4096x3584_S_d0_1_2 : S8x4096x3584.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8x4096x3584 .f32) (main_arg1 : FVec F S4x64 .f32) (main_arg2 : FVec F S128 .f32) : IVec S_ 1 :=
  let main_v0 : FVec F S8x4096x3584 .f32 := Host.absf main_arg0
  let main_cst : FVec F S_ .f32 := constant S_ .f32 0x7F800000#32
  let main_v1 : FVec F S8x4096x3584 .f32 := broadcastInDim S8x4096x3584 ![] bcast_S_S8x4096x3584 main_cst
  let main_v2 : IVec S8x4096x3584 1 := cmpf .olt main_v0 main_v1
  let main_c : IVec S_ 1 := constantI S_ 1 1#1
  let main_v3 : IVec S_ 1 := (fun x v => Host.reduce IntOp.andi x v reducesTo_S8x4096x3584_S_d0_1_2 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Pre_routing_weights.lean ====
abbrev S32768x1024 : Shape := ⟨2, ![32768, 1024]⟩
abbrev S32768x128 : Shape := ⟨2, ![32768, 128]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : FVec F S32768x1024 .f32) (main_arg1 : FVec F S32768x128 .f32) (main_arg2 : FVec F S16x1024x512 .f32) (main_arg3 : FVec F S16x1024x512 .f32) (main_arg4 : FVec F S16x512x1024 .f32) (main_arg5 : FVec F S1024 .f32) (main_arg6 : FVec F S1024 .f32) : IVec S_ 1 :=
  let main_cst : FVec F S_ .f32 := constant S_ .f32 0x00000000#32
  let main_v0 : FVec F S32768x128 .f32 := broadcastInDim S32768x128 ![] bcast_S_S32768x128 main_cst
  let main_v1 : IVec S32768x128 1 := cmpf .oge main_arg1 main_v0
  let main_c : IVec S_ 1 := constantI S_ 1 1#1
  let main_v2 : IVec S_ 1 := (fun x v => Host.reduce IntOp.andi x v reducesTo_S32768x128_S_d0_1 h_S_) main_v1 main_c
  let main_cst_0 : FVec F S_ .f32 := constant S_ .f32 0x7F800000#32
  let main_v3 : FVec F S32768x128 .f32 := broadcastInDim S32768x128 ![] bcast_S_S32768x128 main_cst_0
  let main_v4 : IVec S32768x128 1 := cmpf .olt main_arg1 main_v3
  let main_c_1 : IVec S_ 1 := constantI S_ 1 1#1
  let main_v5 : IVec S_ 1 := (fun x v => Host.reduce IntOp.andi x v reducesTo_S32768x128_S_d0_1 h_S_) main_v4 main_c_1
  let main_v6 : IVec S_ 1 := andi main_v2 main_v5
  main_v6
-- ==== Kernel.lean ====
abbrev S32768x1024 : Shape := ⟨2, ![32768, 1024]⟩
abbrev S32768x128 : Shape := ⟨2, ![32768, 128]⟩
abbrev S16x1024x512 : Shape := ⟨3, ![16, 1024, 512]⟩
abbrev S16x512x1024 : Shape := ⟨3, ![16, 512, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 15
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S1024, .f32⟩
  | .hbm, ⟨6, _⟩ => ⟨S1024, .f32⟩
  | .hbm, ⟨7, _⟩ => ⟨S32768x1024, .bf16⟩
  | .hbm, ⟨8, _⟩ => ⟨S16x1024x512, .bf16⟩
  | .hbm, ⟨9, _⟩ => ⟨S16x1024x512, .bf16⟩
  | .hbm, ⟨10, _⟩ => ⟨S16x512x1024, .bf16⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S32768x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S32768x1024 : Shape := ⟨2, ![32768, 1024]⟩
abbrev S32768x128 : Shape := ⟨2, ![32768, 128]⟩
abbrev S16x1024x512 : Shape := ⟨3, ![16, 1024, 512]⟩
abbrev S16x512x1024 : Shape := ⟨3, ![16, 512, 1024]⟩
abbrev S1024 : Shape := ⟨1, ![1024]⟩
abbrev S16x512x32768 : Shape := ⟨3, ![16, 512, 32768]⟩
abbrev S16x32768x512 : Shape := ⟨3, ![16, 32768, 512]⟩
abbrev S_ : Shape := ⟨0, ![]⟩
abbrev S16x32768x1024 : Shape := ⟨3, ![16, 32768, 1024]⟩
abbrev S32768x16 : Shape := ⟨2, ![32768, 16]⟩
abbrev S16x32768 : Shape := ⟨2, ![16, 32768]⟩
abbrev S16x32768x1 : Shape := ⟨3, ![16, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S1024, .f32⟩
  | .hbm, ⟨6, _⟩ => ⟨S1024, .f32⟩
  | .hbm, ⟨7, _⟩ => ⟨S16x512x32768, .f32⟩
  | .hbm, ⟨8, _⟩ => ⟨S16x32768x512, .f32⟩
  | .hbm, ⟨9, _⟩ => ⟨S16x32768x512, .f32⟩
  | .hbm, ⟨10, _⟩ => ⟨S16x32768x512, .f32⟩
  | .hbm, ⟨11, _⟩ => ⟨S_, .f32⟩
  | .hbm, ⟨12, _⟩ => ⟨S16x32768x512, .f32⟩
  | .hbm, ⟨13, _⟩ => ⟨S16x32768x512, .f32⟩
  | .hbm, ⟨14, _⟩ => ⟨S_, .f32⟩
  | .hbm, ⟨15, _⟩ => ⟨S16x32768x512, .f32⟩
  | .hbm, ⟨16, _⟩ => ⟨S16x32768x512, .f32⟩
  | .hbm, ⟨17, _⟩ => ⟨S16x32768x512, .f32⟩
  | .hbm, ⟨18, _⟩ => ⟨S16x512x32768, .f32⟩
  | .hbm, ⟨19, _⟩ => ⟨S16x32768x512, .f32⟩
  | .hbm, ⟨20, _⟩ => ⟨S16x32768x512, .f32⟩
  | .hbm, ⟨21, _⟩ => ⟨S16x32768x1024, .f32⟩
  | .hbm, ⟨22, _⟩ => ⟨S32768x16, .f32⟩
  | .hbm, ⟨23, _⟩ => ⟨S16x32768, .f32⟩
  | .hbm, ⟨24, _⟩ => ⟨S16x32768x1, .f32⟩
  | .hbm, ⟨25, _⟩ => ⟨S16x32768x1024, .f32⟩
  | .hbm, ⟨26, _⟩ => ⟨S16x32768x1024, .f32⟩
  | .hbm, ⟨27, _⟩ => ⟨S_, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Kernel2.lean ====
abbrev S32768x1024 : Shape := ⟨2, ![32768, 1024]⟩
abbrev S1024x6688 : Shape := ⟨2, ![1024, 6688]⟩
abbrev S1024x3584 : Shape := ⟨2, ![1024, 3584]⟩
abbrev S32768x3584 : Shape := ⟨2, ![32768, 3584]⟩
abbrev S1024x1024 : Shape := ⟨2, ![1024, 1024]⟩
abbrev S1024x1792 : Shape := ⟨2, ![1024, 1792]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x6688, .f32⟩
  | .hbm, ⟨2, _⟩ => ⟨S1024x3584, .f32⟩
  | .hbm, ⟨3, _⟩ => ⟨S1024x3584, .bf16⟩
  | .hbm, ⟨4, _⟩ => ⟨S32768x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x1024 : Shape := ⟨2, ![32768, 1024]⟩
abbrev S1024x6688 : Shape := ⟨2, ![1024, 6688]⟩
abbrev S32768x6688 : Shape := ⟨2, ![32768, 6688]⟩
abbrev S32768x3584 : Shape := ⟨2, ![32768, 3584]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x6688, .f32⟩
  | .hbm, ⟨2, _⟩ => ⟨S32768x1024, .f32⟩
  | .hbm, ⟨3, _⟩ => ⟨S32768x6688, .f32⟩
  | .hbm, ⟨4, _⟩ => ⟨S32768x3584, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S32768x1024 : Shape := ⟨2, ![32768, 1024]⟩
abbrev S1024x6688 : Shape := ⟨2, ![1024, 6688]⟩
abbrev S1024x3072 : Shape := ⟨2, ![1024, 3072]⟩
abbrev S1024x32 : Shape := ⟨2, ![1024, 32]⟩
abbrev S_ : Shape := ⟨0, ![]⟩
abbrev S1024x96 : Shape := ⟨2, ![1024, 96]⟩
abbrev S1024x3200 : Shape := ⟨2, ![1024, 3200]⟩
abbrev S32768x3200 : Shape := ⟨2, ![32768, 3200]⟩
abbrev S512x1024 : Shape := ⟨2, ![512, 1024]⟩
abbrev S512x3200 : Shape := ⟨2, ![512, 3200]⟩

abbrev nBuf : Space → Nat
  | .hbm => 9
  | .vmem => 5
  | .smem => 0
  | _ => 0

abbrev bufTy : (tb : Table) → Fin (tcTables nBuf tb) → BufTy
  | .hbm, ⟨0, _⟩ => ⟨S32768x1024, .bf16⟩
  | .hbm, ⟨1, _⟩ => ⟨S1024x6688, .f32⟩
  | .hbm, ⟨2, _⟩ => ⟨S1024x3072, .f32⟩
  | .hbm, ⟨3, _⟩ => ⟨S1024x32, .f32⟩
  | .hbm, ⟨4, _⟩ => ⟨S_, .f32⟩
  | .hbm, ⟨5, _⟩ => ⟨S1024x96, .f32⟩
  | .hbm, ⟨6, _⟩ => ⟨S1024x3200, .f32⟩
  | .hbm, ⟨7, _⟩ => ⟨S1024x3200, .bf16⟩
  | .hbm, ⟨8, _⟩ => ⟨S32768x3200, .f32⟩
  | .local _ .vmem, ⟨0, _⟩ => ⟨S512x1024, .bf16⟩
  | .local _ .vmem, ⟨1, _⟩ => ⟨S512x1024, .bf16⟩
  | .local _ .vmem, ⟨2, _⟩ => ⟨S1024x3200, .bf16⟩
  | .local _ .vmem, ⟨3, _⟩ => ⟨S512x3200, .f32⟩
  | .local _ .vmem, ⟨4, _⟩ => ⟨S512x3200, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x1024 : Shape := ⟨2, ![32768, 1024]⟩
abbrev S1024x6688 : Shape := ⟨2, ![1024, 6688]⟩
abbrev S32768x6688 : Shape := ⟨2, ![32768, 6688]⟩
abbrev S32768x3072 : Shape := ⟨2, ![32768, 3072]⟩
abbrev S32768x16 : Shape := ⟨2, ![32768, 16]⟩
abbrev S_ : Shape := ⟨0, ![]⟩
abbrev S32768x96 : Shape := ⟨2, ![32768, 96]⟩
abbrev S32768x3200 : Shape := ⟨2, ![32768, 3200]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x6688, .f32⟩
  | .hbm, ⟨2, _⟩ => ⟨S32768x1024, .f32⟩
  | .hbm, ⟨3, _⟩ => ⟨S32768x6688, .f32⟩
  | .hbm, ⟨4, _⟩ => ⟨S32768x3072, .f32⟩
  | .hbm, ⟨5, _⟩ => ⟨S32768x16, .f32⟩
  | .hbm, ⟨6, _⟩ => ⟨S32768x16, .f32⟩
  | .hbm, ⟨7, _⟩ => ⟨S_, .f32⟩
  | .hbm, ⟨8, _⟩ => ⟨S32768x96, .f32⟩
  | .hbm, ⟨9, _⟩ => ⟨S32768x3200, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8x4096x3584 : Shape := ⟨3, ![8, 4096, 3584]⟩
abbrev S4x64 : Shape := ⟨2, ![4, 64]⟩
abbrev S128 : Shape := ⟨1, ![128]⟩
abbrev S1x128 : Shape := ⟨2, ![1, 128]⟩
abbrev S8x4096x512 : Shape := ⟨3, ![8, 4096, 512]⟩
abbrev S1x1024x128 : Shape := ⟨3, ![1, 1024, 128]⟩
abbrev S1x4096x128 : Shape := ⟨3, ![1, 4096, 128]⟩
abbrev S256x4096 : Shape := ⟨2, ![256, 4096]⟩
abbrev S4096x256 : Shape := ⟨2, ![4096, 256]⟩
abbrev S2x2x1024x256 : Shape := ⟨4, ![2, 2, 1024, 256]⟩
abbrev S2x256x512 : Shape := ⟨3, ![2, 256, 512]⟩
abbrev S2x1024x1 : Shape := ⟨3, ![2, 1024, 1]⟩
abbrev S2x1024x256 : Shape := ⟨3, ![2, 1024, 256]⟩
abbrev S4096x128 : Shape := ⟨2, ![4096, 128]⟩
abbrev S128x4096 : Shape := ⟨2, ![128, 4096]⟩
abbrev S1x4096 : Shape := ⟨2, ![1, 4096]⟩
abbrev S256x1 : Shape := ⟨2, ![256, 1]⟩
abbrev S1x512 : Shape := ⟨2, ![1, 512]⟩
abbrev S256x512 : Shape := ⟨2, ![256, 512]⟩
abbrev S1x256x512 : Shape := ⟨3, ![1, 256, 512]⟩
abbrev S1024x128 : Shape := ⟨2, ![1024, 128]⟩
abbrev S1024x1 : Shape := ⟨2, ![1024, 1]⟩
abbrev S1024x256 : Shape := ⟨2, ![1024, 256]⟩
abbrev S1x1x1024x256 : Shape := ⟨4, ![1, 1, 1024, 256]⟩
abbrev S512x256 : Shape := ⟨2, ![512, 256]⟩
abbrev S1x1x256x256 : Shape := ⟨4, ![1, 1, 256, 256]⟩
abbrev S256x256 : Shape := ⟨2, ![256, 256]⟩
abbrev S1x256x1 : Shape := ⟨3, ![1, 256, 1]⟩
abbrev S256 : Shape := ⟨1, ![256]⟩
abbrev S1x256x256 : Shape := ⟨3, ![1, 256, 256]⟩
abbrev S1x64 : Shape := ⟨2, ![1, 64]⟩
abbrev S1 : Shape := ⟨1, ![1]⟩
abbrev S1x1 : Shape := ⟨2, ![1, 1]⟩
abbrev S1x1024x1 : Shape := ⟨3, ![1, 1024, 1]⟩
abbrev S1024 : Shape := ⟨1, ![1024]⟩

abbrev nBuf : Space → Nat
  | .hbm => 5
  | .vmem => 16
  | .smem => 0
  | _ => 0

abbrev bufTy : (tb : Table) → Fin (tcTables nBuf tb) → BufTy
  | .hbm, ⟨0, _⟩ => ⟨S8x4096x3584, .f32⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S8x4096x512, .f32⟩
  | .local _ .vmem, ⟨0, _⟩ => ⟨S4x64, .f32⟩
  | .local _ .vmem, ⟨1, _⟩ => ⟨S1x128, .f32⟩
  | .local _ .vmem, ⟨2, _⟩ => ⟨S1x1024x128, .f32⟩
  | .local _ .vmem, ⟨3, _⟩ => ⟨S1x1024x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x1024x128, .f32⟩
  | .local _ .vmem, ⟨9, _⟩ => ⟨S1x1024x128, .f32⟩
  | .local _ .vmem, ⟨10, _⟩ => ⟨S256x4096, .bf16⟩
  | .local _ .vmem, ⟨11, _⟩ => ⟨S4096x256, .bf16⟩
  | .local _ .vmem, ⟨12, _⟩ => ⟨S2x2x1024x256, .bf16⟩
  | .local _ .vmem, ⟨13, _⟩ => ⟨S2x256x512, .f32⟩
  | .local _ .vmem, ⟨14, _⟩ => ⟨S2x1024x1, .f32⟩
  | .local _ .vmem, ⟨15, _⟩ => ⟨S2x1024x256, .f32⟩
  | _, _ => ⟨S8x4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 4], ![false, false, false]⟩

@[reducible] def k0_t1_loop (i : grid0.Coords) : Scf.Loop 32 :=
  let c0_i32_51 : BitVec 32 := 0#32
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let v110 : BitVec 32 := Scalar.subi v109 c0_i32_51
  let c1_i32_52 : BitVec 32 := 1#32
  let v112 : BitVec 32 := Scalar.divsi v110 c1_i32_52
  let v113 : BitVec 32 := Scalar.muli v112 c1_i32_52
  let v114 : BitVec 32 := Scalar.addi c0_i32_51 v113
  let c1_i32_53 : BitVec 32 := 1#32
  ⟨c0_i32_51, v114, c1_i32_53⟩
def k0_mult1 (i : grid0.Coords) (k0_t1 : Fin (k0_t1_loop i).trips) : BitVec 32 :=
  let c0_i32_51 : BitVec 32 := 0#32
  let c1_i32_53 : BitVec 32 := 1#32
  let arg15 : BitVec 32 := Scf.iv c0_i32_51 c1_i32_53 k0_t1
  let c512_i32_418 : BitVec 32 := 512#32
  let v625 : BitVec 32 := Scalar.muli arg15 c512_i32_418
  v625
def k0_off1 (i : grid0.Coords) (k0_t1 : Fin (k0_t1_loop i).trips) : Fin 2 → Nat :=
  let c0_419 : Index := 0#32
  let c0_i32_51 : BitVec 32 := 0#32
  let c1_i32_53 : BitVec 32 := 1#32
  let arg15 : BitVec 32 := Scf.iv c0_i32_51 c1_i32_53 k0_t1
  let c512_i32_418 : BitVec 32 := 512#32
  let v625 : BitVec 32 := Scalar.muli arg15 c512_i32_418
  let v626 : BitVec 32 := v625
  let v627 : Index := Scalar.indexCast v626
  ![0, v627.toNat]
def k0_off2 (i : grid0.Coords) (k0_t1 : Fin (k0_t1_loop i).trips) : Fin 2 → Nat :=
  let c0_i32_51 : BitVec 32 := 0#32
  let c1_i32_53 : BitVec 32 := 1#32
  let arg15 : BitVec 32 := Scf.iv c0_i32_51 c1_i32_53 k0_t1
  let c512_i32_418 : BitVec 32 := 512#32
  let v625 : BitVec 32 := Scalar.muli arg15 c512_i32_418
  let v626 : BitVec 32 := v625
  let v629 : Index := Scalar.indexCast v626
  let c0_420 : Index := 0#32
  ![v629.toNat, 0]
@[reducible] def k0_t2_loop (i : grid0.Coords) : Scf.Loop 32 :=
  let c0_i32_51 : BitVec 32 := 0#32
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let v110 : BitVec 32 := Scalar.subi v109 c0_i32_51
  let c1_i32_52 : BitVec 32 := 1#32
  let v112 : BitVec 32 := Scalar.divsi v110 c1_i32_52
  let v113 : BitVec 32 := Scalar.muli v112 c1_i32_52
  let v114 : BitVec 32 := Scalar.addi c0_i32_51 v113
  let v111 : BitVec 32 := Scalar.addi c0_i32_51 v110
  let c1_i32_54 : BitVec 32 := 1#32
  ⟨v114, v111, c1_i32_54⟩
def k0_mult2 (i : grid0.Coords) (k0_t2 : Fin (k0_t2_loop i).trips) : BitVec 32 :=
  let c0_i32_51 : BitVec 32 := 0#32
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let v110 : BitVec 32 := Scalar.subi v109 c0_i32_51
  let c1_i32_52 : BitVec 32 := 1#32
  let v112 : BitVec 32 := Scalar.divsi v110 c1_i32_52
  let v113 : BitVec 32 := Scalar.muli v112 c1_i32_52
  let v114 : BitVec 32 := Scalar.addi c0_i32_51 v113
  let c1_i32_54 : BitVec 32 := 1#32
  let arg15 : BitVec 32 := Scf.iv v114 c1_i32_54 k0_t2
  let c512_i32_418 : BitVec 32 := 512#32
  let v625 : BitVec 32 := Scalar.muli arg15 c512_i32_418
  v625
def k0_off3 (i : grid0.Coords) (k0_t2 : Fin (k0_t2_loop i).trips) : Fin 2 → Nat :=
  let c0_419 : Index := 0#32
  let c0_i32_51 : BitVec 32 := 0#32
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let v110 : BitVec 32 := Scalar.subi v109 c0_i32_51
  let c1_i32_52 : BitVec 32 := 1#32
  let v112 : BitVec 32 := Scalar.divsi v110 c1_i32_52
  let v113 : BitVec 32 := Scalar.muli v112 c1_i32_52
  let v114 : BitVec 32 := Scalar.addi c0_i32_51 v113
  let c1_i32_54 : BitVec 32 := 1#32
  let arg15 : BitVec 32 := Scf.iv v114 c1_i32_54 k0_t2
  let c512_i32_418 : BitVec 32 := 512#32
  let v625 : BitVec 32 := Scalar.muli arg15 c512_i32_418
  let v626 : BitVec 32 := v625
  let v627 : Index := Scalar.indexCast v626
  ![0, v627.toNat]
def k0_off4 (i : grid0.Coords) (k0_t2 : Fin (k0_t2_loop i).trips) : Fin 2 → Nat :=
  let c0_i32_51 : BitVec 32 := 0#32
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let v110 : BitVec 32 := Scalar.subi v109 c0_i32_51
  let c1_i32_52 : BitVec 32 := 1#32
  let v112 : BitVec 32 := Scalar.divsi v110 c1_i32_52
  let v113 : BitVec 32 := Scalar.muli v112 c1_i32_52
  let v114 : BitVec 32 := Scalar.addi c0_i32_51 v113
  let c1_i32_54 : BitVec 32 := 1#32
  let arg15 : BitVec 32 := Scf.iv v114 c1_i32_54 k0_t2
  let c512_i32_418 : BitVec 32 := 512#32
  let v625 : BitVec 32 := Scalar.muli arg15 c512_i32_418
  let v626 : BitVec 32 := v625
  let v629 : Index := Scalar.indexCast v626
  let c0_420 : Index := 0#32
  ![v629.toNat, 0]
def k0_mult3 (i : grid0.Coords) : BitVec 32 :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c0_i32_55 : BitVec 32 := 0#32
  let v115 : BitVec 32 := Scalar.addi v109 c0_i32_55
  let c512_i32_56 : BitVec 32 := 512#32
  let v116 : BitVec 32 := Scalar.muli v115 c512_i32_56
  v116
def k0_off5 (i : grid0.Coords) (c0_i32_55 : BitVec 32) : Fin 2 → Nat :=
  let c0_57 : Index := 0#32
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let v115 : BitVec 32 := Scalar.addi v109 c0_i32_55
  let c512_i32_56 : BitVec 32 := 512#32
  let v116 : BitVec 32 := Scalar.muli v115 c512_i32_56
  let v117 : BitVec 32 := v116
  let v118 : Index := Scalar.indexCast v117
  ![0, v118.toNat]
def k0_off6 (i : grid0.Coords) (c0_i32_55 : BitVec 32) : Fin 2 → Nat :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let v115 : BitVec 32 := Scalar.addi v109 c0_i32_55
  let c512_i32_56 : BitVec 32 := 512#32
  let v116 : BitVec 32 := Scalar.muli v115 c512_i32_56
  let v117 : BitVec 32 := v116
  let v120 : Index := Scalar.indexCast v117
  let c0_58 : Index := 0#32
  ![v120.toNat, 0]
def k0_mult4 (i : grid0.Coords) : BitVec 32 :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c1_i32_220 : BitVec 32 := 1#32
  let v342 : BitVec 32 := Scalar.addi v109 c1_i32_220
  let c512_i32_221 : BitVec 32 := 512#32
  let v343 : BitVec 32 := Scalar.muli v342 c512_i32_221
  v343
@[reducible] def k0_t3_loop (i : grid0.Coords) : Scf.Loop 32 :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c2_i32_388 : BitVec 32 := 2#32
  let v569 : BitVec 32 := Scalar.addi v109 c2_i32_388
  let c8_i32 : BitVec 32 := 8#32
  let v570 : BitVec 32 := Scalar.subi c8_i32 v569
  let c1_i32_390 : BitVec 32 := 1#32
  let v572 : BitVec 32 := Scalar.divsi v570 c1_i32_390
  let v573 : BitVec 32 := Scalar.muli v572 c1_i32_390
  let v574 : BitVec 32 := Scalar.addi v569 v573
  let c1_i32_391 : BitVec 32 := 1#32
  ⟨v569, v574, c1_i32_391⟩
def k0_mult5 (i : grid0.Coords) (k0_t3 : Fin (k0_t3_loop i).trips) : BitVec 32 :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c2_i32_388 : BitVec 32 := 2#32
  let v569 : BitVec 32 := Scalar.addi v109 c2_i32_388
  let c1_i32_391 : BitVec 32 := 1#32
  let arg15 : BitVec 32 := Scf.iv v569 c1_i32_391 k0_t3
  let c512_i32_418 : BitVec 32 := 512#32
  let v625 : BitVec 32 := Scalar.muli arg15 c512_i32_418
  v625
def k0_off7 (i : grid0.Coords) (k0_t3 : Fin (k0_t3_loop i).trips) : Fin 2 → Nat :=
  let c0_419 : Index := 0#32
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c2_i32_388 : BitVec 32 := 2#32
  let v569 : BitVec 32 := Scalar.addi v109 c2_i32_388
  let c1_i32_391 : BitVec 32 := 1#32
  let arg15 : BitVec 32 := Scf.iv v569 c1_i32_391 k0_t3
  let c512_i32_418 : BitVec 32 := 512#32
  let v625 : BitVec 32 := Scalar.muli arg15 c512_i32_418
  let v626 : BitVec 32 := v625
  let v627 : Index := Scalar.indexCast v626
  ![0, v627.toNat]
def k0_off8 (i : grid0.Coords) (k0_t3 : Fin (k0_t3_loop i).trips) : Fin 2 → Nat :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c2_i32_388 : BitVec 32 := 2#32
  let v569 : BitVec 32 := Scalar.addi v109 c2_i32_388
  let c1_i32_391 : BitVec 32 := 1#32
  let arg15 : BitVec 32 := Scf.iv v569 c1_i32_391 k0_t3
  let c512_i32_418 : BitVec 32 := 512#32
  let v625 : BitVec 32 := Scalar.muli arg15 c512_i32_418
  let v626 : BitVec 32 := v625
  let v629 : Index := Scalar.indexCast v626
  let c0_420 : Index := 0#32
  ![v629.toNat, 0]
@[reducible] def k0_t4_loop (i : grid0.Coords) : Scf.Loop 32 :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c2_i32_388 : BitVec 32 := 2#32
  let v569 : BitVec 32 := Scalar.addi v109 c2_i32_388
  let c8_i32 : BitVec 32 := 8#32
  let v570 : BitVec 32 := Scalar.subi c8_i32 v569
  let c1_i32_390 : BitVec 32 := 1#32
  let v572 : BitVec 32 := Scalar.divsi v570 c1_i32_390
  let v573 : BitVec 32 := Scalar.muli v572 c1_i32_390
  let v574 : BitVec 32 := Scalar.addi v569 v573
  let v571 : BitVec 32 := Scalar.addi v569 v570
  let c1_i32_392 : BitVec 32 := 1#32
  ⟨v574, v571, c1_i32_392⟩
def k0_mult6 (i : grid0.Coords) (k0_t4 : Fin (k0_t4_loop i).trips) : BitVec 32 :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c2_i32_388 : BitVec 32 := 2#32
  let v569 : BitVec 32 := Scalar.addi v109 c2_i32_388
  let c8_i32 : BitVec 32 := 8#32
  let v570 : BitVec 32 := Scalar.subi c8_i32 v569
  let c1_i32_390 : BitVec 32 := 1#32
  let v572 : BitVec 32 := Scalar.divsi v570 c1_i32_390
  let v573 : BitVec 32 := Scalar.muli v572 c1_i32_390
  let v574 : BitVec 32 := Scalar.addi v569 v573
  let c1_i32_392 : BitVec 32 := 1#32
  let arg15 : BitVec 32 := Scf.iv v574 c1_i32_392 k0_t4
  let c512_i32_418 : BitVec 32 := 512#32
  let v625 : BitVec 32 := Scalar.muli arg15 c512_i32_418
  v625
def k0_off9 (i : grid0.Coords) (k0_t4 : Fin (k0_t4_loop i).trips) : Fin 2 → Nat :=
  let c0_419 : Index := 0#32
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c2_i32_388 : BitVec 32 := 2#32
  let v569 : BitVec 32 := Scalar.addi v109 c2_i32_388
  let c8_i32 : BitVec 32 := 8#32
  let v570 : BitVec 32 := Scalar.subi c8_i32 v569
  let c1_i32_390 : BitVec 32 := 1#32
  let v572 : BitVec 32 := Scalar.divsi v570 c1_i32_390
  let v573 : BitVec 32 := Scalar.muli v572 c1_i32_390
  let v574 : BitVec 32 := Scalar.addi v569 v573
  let c1_i32_392 : BitVec 32 := 1#32
  let arg15 : BitVec 32 := Scf.iv v574 c1_i32_392 k0_t4
  let c512_i32_418 : BitVec 32 := 512#32
  let v625 : BitVec 32 := Scalar.muli arg15 c512_i32_418
  let v626 : BitVec 32 := v625
  let v627 : Index := Scalar.indexCast v626
  ![0, v627.toNat]
def k0_off10 (i : grid0.Coords) (k0_t4 : Fin (k0_t4_loop i).trips) : Fin 2 → Nat :=
  let arg2 : BitVec 32 := BitVec.ofNat 32 (i 2).val
  let c1024_i32_43 : BitVec 32 := 1024#32
  let v92 : BitVec 32 := Scalar.muli arg2 c1024_i32_43
  let c0_i32_44 : BitVec 32 := 0#32
  let v94 : BitVec 1 := Scalar.cmpi .sgt v92 c0_i32_44
  let v95 : BitVec 32 := Scalar.extui v94
  let c0_i32_45 : BitVec 32 := 0#32
  let v96 : BitVec 1 := Scalar.cmpi .slt v92 c0_i32_45
  let v97 : BitVec 32 := Scalar.extui v96
  let v98 : BitVec 32 := Scalar.subi v95 v97
  let c512_i32 : BitVec 32 := 512#32
  let c0_i32_46 : BitVec 32 := 0#32
  let v99 : BitVec 1 := Scalar.cmpi .sgt c512_i32 c0_i32_46
  let v100 : BitVec 32 := Scalar.extui v99
  let c0_i32_47 : BitVec 32 := 0#32
  let v101 : BitVec 1 := Scalar.cmpi .slt c512_i32 c0_i32_47
  let v102 : BitVec 32 := Scalar.extui v101
  let v103 : BitVec 32 := Scalar.subi v100 v102
  let v104 : BitVec 1 := Scalar.cmpi .ne v98 v103
  let v105 : BitVec 32 := Scalar.remsi v92 c512_i32
  let c0_i32_48 : BitVec 32 := 0#32
  let v106 : BitVec 1 := Scalar.cmpi .ne v105 c0_i32_48
  let v107 : BitVec 1 := Scalar.andi v104 v106
  let v93 : BitVec 32 := Scalar.divsi v92 c512_i32
  let c1_i32_49 : BitVec 32 := 1#32
  let v108 : BitVec 32 := Scalar.subi v93 c1_i32_49
  let v109 : BitVec 32 := Scalar.select v107 v108 v93
  let c2_i32_388 : BitVec 32 := 2#32
  let v569 : BitVec 32 := Scalar.addi v109 c2_i32_388
  let c8_i32 : BitVec 32 := 8#32
  let v570 : BitVec 32 := Scalar.subi c8_i32 v569
  let c1_i32_390 : BitVec 32 := 1#32
  let v572 : BitVec 32 := Scalar.divsi v570 c1_i32_390
  let v573 : BitVec 32 := Scalar.muli v572 c1_i32_390
  let v574 : BitVec 32 := Scalar.addi v569 v573
  let c1_i32_392 : BitVec 32 := 1#32
  let arg15 : BitVec 32 := Scf.iv v574 c1_i32_392 k0_t4
  let c512_i32_418 : BitVec 32 := 512#32
  let v625 : BitVec 32 := Scalar.muli arg15 c512_i32_418
  let v626 : BitVec 32 := v625
  let v629 : Index := Scalar.indexCast v626
  let c0_420 : Index := 0#32
  ![v629.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel4Ideal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== Reference4Ideal.lean ====
abbrev S8x4096x3584 : Shape := ⟨3, ![8, 4096, 3584]⟩
abbrev S4x64 : Shape := ⟨2, ![4, 64]⟩
abbrev S128 : Shape := ⟨1, ![128]⟩
abbrev S8x4096x512 : Shape := ⟨3, ![8, 4096, 512]⟩
abbrev S8x4096x4x2x64 : Shape := ⟨5, ![8, 4096, 4, 2, 64]⟩
abbrev S8x4096x4x128 : Shape := ⟨4, ![8, 4096, 4, 128]⟩
abbrev S1x64 : Shape := ⟨2, ![1, 64]⟩
abbrev S64 : Shape := ⟨1, ![64]⟩
abbrev S_ : Shape := ⟨0, ![]⟩
abbrev S8x4x2x4096x64 : Shape := ⟨5, ![8, 4, 2, 4096, 64]⟩
abbrev S8x4x4096x128 : Shape := ⟨4, ![8, 4, 4096, 128]⟩
abbrev S4 : Shape := ⟨1, ![4]⟩
abbrev S4096 : Shape := ⟨1, ![4096]⟩
abbrev S8x4x2x4096x4096 : Shape := ⟨5, ![8, 4, 2, 4096, 4096]⟩
abbrev S4096x1 : Shape := ⟨2, ![4096, 1]⟩
abbrev S1x4096 : Shape := ⟨2, ![1, 4096]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S1x4x1x4096x4096 : Shape := ⟨5, ![1, 4, 1, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S8x4096x3584, .f32⟩
  | .hbm, ⟨1, _⟩ => ⟨S4x64, .f32⟩
  | .hbm, ⟨2, _⟩ => ⟨S128, .f32⟩
  | .hbm, ⟨3, _⟩ => ⟨S8x4096x512, .f32⟩
  | .hbm, ⟨4, _⟩ => ⟨S8x4096x4x2x64, .f32⟩
  | .hbm, ⟨5, _⟩ => ⟨S8x4096x512, .f32⟩
  | .hbm, ⟨6, _⟩ => ⟨S8x4096x4x2x64, .f32⟩
  | .hbm, ⟨7, _⟩ => ⟨S8x4096x512, .f32⟩
  | .hbm, ⟨8, _⟩ => ⟨S8x4096x4x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4x2x4096x64, .f32⟩
  | .hbm, ⟨29, _⟩ => ⟨S8x4x2x4096x64, .f32⟩
  | .hbm, ⟨30, _⟩ => ⟨S8x4x4096x128, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4096, .i32⟩
  | .hbm, ⟨45, _⟩ => ⟨S8x4x2x4096x4096, .f32⟩
  | .hbm, ⟨46, _⟩ => ⟨S_, .f32⟩
  | .hbm, ⟨47, _⟩ => ⟨S8x4x2x4096x4096, .f32⟩
  | .hbm, ⟨48, _⟩ => ⟨S8x4x2x4096x4096, .f32⟩
  | .hbm, ⟨49, _⟩ => ⟨S4096x1, .i32⟩
  | .hbm, ⟨50, _⟩ => ⟨S1x4096, .i32⟩
  | .hbm, ⟨51, _⟩ => ⟨S4096x4096, .i32⟩
  | .hbm, ⟨52, _⟩ => ⟨S4096x4096, .i32⟩
  | .hbm, ⟨53, _⟩ => ⟨S4096x4096, .i32⟩
  | .hbm, ⟨54, _⟩ => ⟨S4096x4096, .i32⟩
  | .hbm, ⟨55, _⟩ => ⟨S4x1x1, .f32⟩
  | .hbm, ⟨56, _⟩ => ⟨S4x1x1, .f32⟩
  | .hbm, ⟨57, _⟩ => ⟨S4096x4096, .f32⟩
  | .hbm, ⟨58, _⟩ => ⟨S1x4096x4096, .f32⟩
  | .hbm, ⟨59, _⟩ => ⟨S4x4096x4096, .f32⟩
  | .hbm, ⟨60, _⟩ => ⟨S4x4096x4096, .f32⟩
  | .hbm, ⟨61, _⟩ => ⟨S4x4096x4096, .f32⟩
  | .hbm, ⟨62, _⟩ => ⟨S1x4x1x4096x4096, .f32⟩
  | .hbm, ⟨63, _⟩ => ⟨S8x4x2x4096x4096, .f32⟩
  | .hbm, ⟨64, _⟩ => ⟨S8x4x2x4096x4096, .f32⟩
  | .hbm, ⟨65, _⟩ => ⟨S_, .f32⟩
  | .hbm, ⟨66, _⟩ => ⟨S8x4x2x4096, .f32⟩
  | .hbm, ⟨67, _⟩ => ⟨S_, .f32⟩
  | .hbm, ⟨68, _⟩ => ⟨S8x4x2x4096, .f32⟩
  | .hbm, ⟨69, _⟩ => ⟨S8x4x2x4096, .f32⟩
  | .hbm, ⟨70, _⟩ => ⟨S8x4x2x4096x1, .f32⟩
  | .hbm, ⟨71, _⟩ => ⟨S8x4x2x4096x4096, .f32⟩
  | .hbm, ⟨72, _⟩ => ⟨S8x4x2x4096x4096, .f32⟩
  | .hbm, ⟨73, _⟩ => ⟨S8x4x2x4096x4096, .f32⟩
  | .hbm, ⟨74, _⟩ => ⟨S_, .f32⟩
  | .hbm, ⟨75, _⟩ => ⟨S8x4x2x4096, .f32⟩
  | .hbm, ⟨76, _⟩ => ⟨S8x4x2x4096x1, .f32⟩
  | .hbm, ⟨77, _⟩ => ⟨S8x4x2x4096x4096, .f32⟩
  | .hbm, ⟨78, _⟩ => ⟨S8x4x2x4096x4096, .f32⟩
  | .hbm, ⟨79, _⟩ => ⟨S8x4x1x4096x4096, .f32⟩
  | .hbm, ⟨80, _⟩ => ⟨S8x4x4096x4096, .f32⟩
  | .hbm, ⟨81, _⟩ => ⟨S8x4x1x4096x4096, .f32⟩
  | .hbm, ⟨82, _⟩ => ⟨S8x4x4096x4096, .f32⟩
  | .hbm, ⟨83, _⟩ => ⟨S8x4x4096x4096, .f32⟩
  | .hbm, ⟨84, _⟩ => ⟨S8x4x4096x4096, .f32⟩
  | .hbm, ⟨85, _⟩ => ⟨S8x4x4096x4096, .f32⟩
  | .hbm, ⟨86, _⟩ => ⟨S8x4x4096x128, .f32⟩
  | .hbm, ⟨87, _⟩ => ⟨S8x4096x4x128, .f32⟩
  | .hbm, ⟨88, _⟩ => ⟨S8x4096x4x128, .f32⟩
  | .hbm, ⟨89, _⟩ => ⟨S_, .f32⟩
  | .hbm, ⟨90, _⟩ => ⟨S8x4096x4, .f32⟩
  | .hbm, ⟨91, _⟩ => ⟨S8x4096x4x1, .f32⟩
  | .hbm, ⟨92, _⟩ => ⟨S_, .f32⟩
  | .hbm, ⟨93, _⟩ => ⟨S8x4096x4x1, .f32⟩
  | .hbm, ⟨94, _⟩ => ⟨S8x4096x4x1, .f32⟩
  | .hbm, ⟨95, _⟩ => ⟨S_, .f32⟩
  | .hbm, ⟨96, _⟩ => ⟨S8x4096x4x1, .f32⟩
  | .hbm, ⟨97, _⟩ => ⟨S8x4096x4x1, .f32⟩
  | .hbm, ⟨98, _⟩ => ⟨S8x4096x4x1, .f32⟩
  | .hbm, ⟨99, _⟩ => ⟨S8x4096x4x128, .f32⟩
  | .hbm, ⟨100, _⟩ => ⟨S8x4096x4x128, .f32⟩
  | .hbm, ⟨101, _⟩ => ⟨S1x1x1x128, .f32⟩
  | .hbm, ⟨102, _⟩ => ⟨S8x4096x4x128, .f32⟩
  | .hbm, ⟨103, _⟩ => ⟨S8x4096x4x128, .f32⟩
  | .hbm, ⟨104, _⟩ => ⟨S_, .f32⟩
  | .hbm, ⟨105, _⟩ => ⟨S8x4096x4x128, .f32⟩
  | .hbm, ⟨106, _⟩ => ⟨S8x4096x4x128, .f32⟩
  | .hbm, ⟨107, _⟩ => ⟨S8x4096x512, .f32⟩
  | _, _ => ⟨S8x4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_9 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_10 : Ref sig .tc := ⟨.hbm, 89, rfl⟩
abbrev main_v75 : Ref sig .tc := ⟨.hbm, 90, rfl⟩
abbrev main_v76 : Ref sig .tc := ⟨.hbm, 91, rfl⟩
abbrev main_cst_11 : Ref sig .tc := ⟨.hbm, 92, rfl⟩
abbrev main_v77 : Ref sig .tc := ⟨.hbm, 93, rfl⟩
abbrev main_v78 : Ref sig .tc := ⟨.hbm, 94, rfl⟩
abbrev main_cst_12 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_13 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S32768x3584 : Shape := ⟨2, ![32768, 3584]⟩
abbrev S32768x3200 : Shape := ⟨2, ![32768, 3200]⟩
abbrev S512x512 : Shape := ⟨2, ![512, 512]⟩
abbrev S512 : Shape := ⟨1, ![512]⟩
abbrev S128 : Shape := ⟨1, ![128]⟩
abbrev S3x512x1024 : Shape := ⟨3, ![3, 512, 1024]⟩
abbrev S3x1024 : Shape := ⟨2, ![3, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x512 : Shape := ⟨2, ![1, 512]⟩
abbrev S3x1x1024 : Shape := ⟨3, ![3, 1, 1024]⟩
abbrev S1x1024 : Shape := ⟨2, ![1, 1024]⟩
abbrev S32768x128 : Shape := ⟨2, ![32768, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x1x1024 : Shape := ⟨3, ![1, 1, 1024]⟩
abbrev S1x512x1024 : Shape := ⟨3, ![1, 512, 1024]⟩
abbrev S512x1024 : Shape := ⟨2, ![512, 1024]⟩

abbrev nBuf : Space → Nat
  | .hbm => 41
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x3584, .f32⟩
  | .hbm, ⟨6, _⟩ => ⟨S32768x3200, .f32⟩
  | .hbm, ⟨7, _⟩ => ⟨S512x512, .f32⟩
  | .hbm, ⟨8, _⟩ => ⟨S512, .f32⟩
  | .hbm, ⟨9, _⟩ => ⟨S128, .f32⟩
  | .hbm, ⟨10, _⟩ => ⟨S3x512x1024, .f32⟩
  | .hbm, ⟨11, _⟩ => ⟨S3x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x16, .f32⟩
  | .hbm, ⟨16, _⟩ => ⟨S16, .f32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S512x512, .bf16⟩
  | .hbm, ⟨31, _⟩ => ⟨S1x512, .f32⟩
  | .hbm, ⟨32, _⟩ => ⟨S1x128, .f32⟩
  | .hbm, ⟨33, _⟩ => ⟨S3x512x1024, .bf16⟩
  | .hbm, ⟨34, _⟩ => ⟨S3x1x1024, .f32⟩
  | .hbm, ⟨35, _⟩ => ⟨S1024x1024, .bf16⟩
  | .hbm, ⟨36, _⟩ => ⟨S1x1024, .f32⟩
  | .hbm, ⟨37, _⟩ => ⟨S1x1024, .f32⟩
  | .hbm, ⟨38, _⟩ => ⟨S32768x1024, .f32⟩
  | .hbm, ⟨39, _⟩ => ⟨S32768x1024, .bf16⟩
  | .hbm, ⟨40, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S512x512, .bf16⟩
  | .local _ .vmem, ⟨19, _⟩ => ⟨S1x512, .f32⟩
  | .local _ .vmem, ⟨20, _⟩ => ⟨S1x128, .f32⟩
  | .local _ .vmem, ⟨21, _⟩ => ⟨S3x512x1024, .bf16⟩
  | .local _ .vmem, ⟨22, _⟩ => ⟨S3x1x1024, .f32⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1024x128, .f32⟩
  | .local _ .vmem, ⟨27, _⟩ => ⟨S1x128, .f32⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S256x128, .f32⟩
  | .local _ .vmem, ⟨33, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev main_v16_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference5Ideal.lean ====
abbrev S32768x1024 : Shape := ⟨2, ![32768, 1024]⟩
abbrev S32768x512 : Shape := ⟨2, ![32768, 512]⟩
abbrev S32768x3584 : Shape := ⟨2, ![32768, 3584]⟩
abbrev S32768x3200 : Shape := ⟨2, ![32768, 3200]⟩
abbrev S512x512 : Shape := ⟨2, ![512, 512]⟩
abbrev S512 : Shape := ⟨1, ![512]⟩
abbrev S128 : Shape := ⟨1, ![128]⟩
abbrev S3x512x1024 : Shape := ⟨3, ![3, 512, 1024]⟩
abbrev S3x1024 : Shape := ⟨2, ![3, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S1x512 : Shape := ⟨2, ![1, 512]⟩
abbrev S32768x4x128 : Shape := ⟨3, ![32768, 4, 128]⟩
abbrev S32768x4 : Shape := ⟨2, ![32768, 4]⟩
abbrev S32768x4x1 : Shape := ⟨3, ![32768, 4, 1]⟩
abbrev S1x1x128 : Shape := ⟨3, ![1, 1, 128]⟩
abbrev S32768x3072 : Shape := ⟨2, ![32768, 3072]⟩
abbrev S32768x3x1024 : Shape := ⟨3, ![32768, 3, 1024]⟩
abbrev S32768x1x1024 : Shape := ⟨3, ![32768, 1, 1024]⟩
abbrev S1x1024 : Shape := ⟨2, ![1, 1024]⟩
abbrev S1x512x1024 : Shape := ⟨3, ![1, 512, 1024]⟩
abbrev S512x1024 : Shape := ⟨2, ![512, 1024]⟩
abbrev S32768 : Shape := ⟨1, ![32768]⟩
abbrev S32768x1 : Shape := ⟨2, ![32768, 1]⟩
abbrev S32768x16 : Shape := ⟨2, ![32768, 16]⟩
abbrev S1x16 : Shape := ⟨2, ![1, 16]⟩
abbrev S32768x4x4 : Shape := ⟨3, ![32768, 4, 4]⟩
abbrev S4 : Shape := ⟨1, ![4]⟩
abbrev S32768x4x1x4 : Shape := ⟨4, ![32768, 4, 1, 4]⟩
abbrev S32768x4x4x1 : Shape := ⟨4, ![32768, 4, 4, 1]⟩
abbrev S32768x4x4x4 : Shape := ⟨4, ![32768, 4, 4, 4]⟩
abbrev S1x4 : Shape := ⟨2, ![1, 4]⟩
abbrev S4x1 : Shape := ⟨2, ![4, 1]⟩
abbrev S4x4 : Shape := ⟨2, ![4, 4]⟩
abbrev S1x1x4x4 : Shape := ⟨4, ![1, 1, 4, 4]⟩
abbrev S32768x1x4 : Shape := ⟨3, ![32768, 1, 4]⟩
abbrev S1x4x4 : Shape := ⟨3, ![1, 4, 4]⟩
abbrev S32768x128 : Shape := ⟨2, ![32768, 128]⟩

abbrev nBuf : Space → Nat
  | .hbm => 261
  | .vmem => 0
  | .smem => 0
  | _ => 0

abbrev hbmTy0_0 (i : Nat) : BufTy := match i % 128 with
  | 0 => ⟨S32768x1024, .f32⟩
  | 1 => ⟨S32768x512, .f32⟩
  | 2 => ⟨S32768x512, .f32⟩
  | 3 => ⟨S32768x512, .f32⟩
  | 4 => ⟨S32768x512, .f32⟩
  | 5 => ⟨S32768x3584, .f32⟩
  | 6 => ⟨S32768x3200, .f32⟩
  | 7 => ⟨S512x512, .f32⟩
  | 8 => ⟨S512, .f32⟩
  | 9 => ⟨S128, .f32⟩
  | 10 => ⟨S3x512x1024, .f32⟩
  | 11 => ⟨S3x1024, .f32⟩
  | 12 => ⟨S1024x1024, .f32⟩
  | 13 => ⟨S1024, .f32⟩
  | 14 => ⟨S1024, .f32⟩
  | 15 => ⟨S1024x16, .f32⟩
  | 16 => ⟨S16, .f32⟩
  | 17 => ⟨S32768x512, .f32⟩
  | 18 => ⟨S32768x512, .f32⟩
  | 19 => ⟨S_, .f32⟩
  | 20 => ⟨S32768x512, .f32⟩
  | 21 => ⟨S32768x512, .f32⟩
  | 22 => ⟨S32768x512, .f32⟩
  | 23 => ⟨S_, .f32⟩
  | 24 => ⟨S32768x512, .f32⟩
  | 25 => ⟨S32768x512, .f32⟩
  | 26 => ⟨S32768x512, .f32⟩
  | 27 => ⟨S_, .f32⟩
  | 28 => ⟨S32768x512, .f32⟩
  | 29 => ⟨S32768x512, .f32⟩
  | 30 => ⟨S_, .f32⟩
  | 31 => ⟨S32768x512, .f32⟩
  | 32 => ⟨S32768x512, .f32⟩
  | 33 => ⟨S32768x512, .f32⟩
  | 34 => ⟨S32768x512, .f32⟩
  | 35 => ⟨S1x512, .f32⟩
  | 36 => ⟨S32768x512, .f32⟩
  | 37 => ⟨S32768x512, .f32⟩
  | 38 => ⟨S32768x512, .f32⟩
  | 39 => ⟨S32768x512, .f32⟩
  | 40 => ⟨S_, .f32⟩
  | 41 => ⟨S32768x512, .f32⟩
  | 42 => ⟨S32768x512, .f32⟩
  | 43 => ⟨S_, .f32⟩
  | 44 => ⟨S32768x512, .f32⟩
  | 45 => ⟨S32768x512, .f32⟩
  | 46 => ⟨S32768x512, .f32⟩
  | 47 => ⟨S32768x512, .f32⟩
  | 48 => ⟨S32768x4x128, .f32⟩
  | 49 => ⟨S32768x4x128, .f32⟩
  | 50 => ⟨S_, .f32⟩
  | 51 => ⟨S32768x4, .f32⟩
  | 52 => ⟨S32768x4x1, .f32⟩
  | 53 => ⟨S_, .f32⟩
  | 54 => ⟨S32768x4x1, .f32⟩
  | 55 => ⟨S32768x4x1, .f32⟩
  | 56 => ⟨S32768x512, .f32⟩
  | 57 => ⟨S_, .f32⟩
  | 58 => ⟨S32768x4x1, .f32⟩
  | 59 => ⟨S32768x4x1, .f32⟩
  | 60 => ⟨S32768x4x1, .f32⟩
  | 61 => ⟨S32768x4x128, .f32⟩
  | 62 => ⟨S32768x4x128, .f32⟩
  | 63 => ⟨S1x1x128, .f32⟩
  | 64 => ⟨S32768x4x128, .f32⟩
  | 65 => ⟨S32768x4x128, .f32⟩
  | 66 => ⟨S32768x512, .f32⟩
  | 67 => ⟨S32768x512, .f32⟩
  | 68 => ⟨S_, .f32⟩
  | 69 => ⟨S32768x512, .f32⟩
  | 70 => ⟨S32768x512, .f32⟩
  | 71 => ⟨S_, .f32⟩
  | 72 => ⟨S32768x512, .f32⟩
  | 73 => ⟨S32768x512, .f32⟩
  | 74 => ⟨S32768x512, .f32⟩
  | 75 => ⟨S32768x4x128, .f32⟩
  | 76 => ⟨S32768x4x128, .f32⟩
  | 77 => ⟨S32768x512, .f32⟩
  | 78 => ⟨S32768x3072, .f32⟩
  | 79 => ⟨S32768x3x1024, .f32⟩
  | 80 => ⟨S_, .f32⟩
  | 81 => ⟨S32768x1024, .f32⟩
  | 82 => ⟨S32768x1x1024, .f32⟩
  | 83 => ⟨S32768x1024, .f32⟩
  | 84 => ⟨S1x1024, .f32⟩
  | 85 => ⟨S1024, .f32⟩
  | 86 => ⟨S1x1024, .f32⟩
  | 87 => ⟨S32768x1024, .f32⟩
  | 88 => ⟨S32768x1024, .f32⟩
  | 89 => ⟨S32768x1024, .f32⟩
  | 90 => ⟨S32768x1024, .f32⟩
  | 91 => ⟨S_, .f32⟩
  | 92 => ⟨S32768x1024, .f32⟩
  | 93 => ⟨S32768x1024, .f32⟩
  | 94 => ⟨S_, .f32⟩
  | 95 => ⟨S32768x1024, .f32⟩
  | 96 => ⟨S32768x1024, .f32⟩
  | 97 => ⟨S1x512x1024, .f32⟩
  | 98 => ⟨S512x1024, .f32⟩
  | 99 => ⟨S32768x1024, .f32⟩
  | 100 => ⟨S32768x1024, .f32⟩
  | 101 => ⟨S32768x1024, .f32⟩
  | 102 => ⟨S32768x1x1024, .f32⟩
  | 103 => ⟨S32768x1024, .f32⟩
  | 104 => ⟨S1x1024, .f32⟩
  | 105 => ⟨S1024, .f32⟩
  | 106 => ⟨S1x1024, .f32⟩
  | 107 => ⟨S32768x1024, .f32⟩
  | 108 => ⟨S32768x1024, .f32⟩
  | 109 => ⟨S32768x1024, .f32⟩
  | 110 => ⟨S32768x1024, .f32⟩
  | 111 => ⟨S_, .f32⟩
  | 112 => ⟨S32768x1024, .f32⟩
  | 113 => ⟨S32768x1024, .f32⟩
  | 114 => ⟨S_, .f32⟩
  | 115 => ⟨S32768x1024, .f32⟩
  | 116 => ⟨S32768x1024, .f32⟩
  | 117 => ⟨S1x512x1024, .f32⟩
  | 118 => ⟨S512x1024, .f32⟩
  | 119 => ⟨S32768x1024, .f32⟩
  | 120 => ⟨S32768x1024, .f32⟩
  | 121 => ⟨S32768x1024, .f32⟩
  | 122 => ⟨S32768x1x1024, .f32⟩
  | 123 => ⟨S32768x1024, .f32⟩
  | 124 => ⟨S1x1024, .f32⟩
  | 125 => ⟨S1024, .f32⟩
  | 126 => ⟨S1x1024, .f32⟩
  | 127 => ⟨S32768x1024, .f32⟩
  | _ => ⟨S32768x1024, .f32⟩

abbrev hbmTy0_1 (i : Nat) : BufTy := match i % 128 with
  | 0 => ⟨S32768x1024, .f32⟩
  | 1 => ⟨S32768x1024, .f32⟩
  | 2 => ⟨S32768x1024, .f32⟩
  | 3 => ⟨S_, .f32⟩
  | 4 => ⟨S32768x1024, .f32⟩
  | 5 => ⟨S32768x1024, .f32⟩
  | 6 => ⟨S_, .f32⟩
  | 7 => ⟨S32768x1024, .f32⟩
  | 8 => ⟨S32768x1024, .f32⟩
  | 9 => ⟨S1x512x1024, .f32⟩
  | 10 => ⟨S512x1024, .f32⟩
  | 11 => ⟨S32768x1024, .f32⟩
  | 12 => ⟨S32768x1024, .f32⟩
  | 13 => ⟨S32768x1024, .f32⟩
  | 14 => ⟨S_, .f32⟩
  | 15 => ⟨S32768x1024, .f32⟩
  | 16 => ⟨S32768x1024, .f32⟩
  | 17 => ⟨S32768x1024, .f32⟩
  | 18 => ⟨S32768x1024, .f32⟩
  | 19 => ⟨S_, .f32⟩
  | 20 => ⟨S32768, .f32⟩
  | 21 => ⟨S32768x1, .f32⟩
  | 22 => ⟨S_, .f32⟩
  | 23 => ⟨S32768x1, .f32⟩
  | 24 => ⟨S32768x1, .f32⟩
  | 25 => ⟨S32768x1024, .f32⟩
  | 26 => ⟨S32768x1024, .f32⟩
  | 27 => ⟨S32768x1024, .f32⟩
  | 28 => ⟨S_, .f32⟩
  | 29 => ⟨S32768, .f32⟩
  | 30 => ⟨S32768x1, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S32768x1, .f32⟩
  | 38 => ⟨S32768x1024, .f32⟩
  | 39 => ⟨S32768x1024, .f32⟩
  | 40 => ⟨S1x1024, .f32⟩
  | 41 => ⟨S32768x1024, .f32⟩
  | 42 => ⟨S32768x1024, .f32⟩
  | 43 => ⟨S1x1024, .f32⟩
  | 44 => ⟨S32768x1024, .f32⟩
  | 45 => ⟨S32768x1024, .f32⟩
  | 46 => ⟨S32768x16, .f32⟩
  | 47 => ⟨S32768x16, .f32⟩
  | 48 => ⟨S32768x16, .f32⟩
  | 49 => ⟨S_, .f32⟩
  | 50 => ⟨S32768x16, .f32⟩
  | 51 => ⟨S32768x16, .f32⟩
  | 52 => ⟨S_, .f32⟩
  | 53 => ⟨S32768x16, .f32⟩
  | 54 => ⟨S32768x16, .f32⟩
  | 55 => ⟨S1x16, .f32⟩
  | 56 => ⟨S32768x16, .f32⟩
  | 57 => ⟨S32768x16, .f32⟩
  | 58 => ⟨S32768x4x4, .f32⟩
  | 59 => ⟨S4, .i32⟩
  | 60 => ⟨S32768x4x1x4, .f32⟩
  | 61 => ⟨S32768x4x4x1, .f32⟩
  | 62 => ⟨S32768x4x4x4, .f32⟩
  | 63 => ⟨S32768x4x4x4, .f32⟩
  | 64 => ⟨S32768x4x4x4, .i1⟩
  | 65 => ⟨S32768x4x1x4, .f32⟩
  | 66 => ⟨S32768x4x4x1, .f32⟩
  | 67 => ⟨S32768x4x4x4, .f32⟩
  | 68 => ⟨S32768x4x4x4, .f32⟩
  | 69 => ⟨S32768x4x4x4, .i1⟩
  | 70 => ⟨S1x4, .i32⟩
  | 71 => ⟨S4x1, .i32⟩
  | 72 => ⟨S4x4, .i32⟩
  | 73 => ⟨S4x4, .i32⟩
  | 74 => ⟨S4x4, .i1⟩
  | 75 => ⟨S1x1x4x4, .i1⟩
  | 76 => ⟨S32768x4x4x4, .i1⟩
  | 77 => ⟨S32768x4x4x4, .i1⟩
  | 78 => ⟨S32768x4x4x4, .i1⟩
  | 79 => ⟨S32768x4x4x4, .f32⟩
  | 80 => ⟨S_, .f32⟩
  | 81 => ⟨S32768x4x4, .f32⟩
  | 82 => ⟨S_, .f32⟩
  | 83 => ⟨S32768x4x4, .f32⟩
  | 84 => ⟨S32768x4x4, .i1⟩
  | 85 => ⟨S_, .f32⟩
  | 86 => ⟨S_, .f32⟩
  | 87 => ⟨S32768x4x4, .f32⟩
  | 88 => ⟨S32768x4x4, .f32⟩
  | 89 => ⟨S_, .f32⟩
  | 90 => ⟨S32768x4, .f32⟩
  | 91 => ⟨S32768x1x4, .f32⟩
  | 92 => ⟨S32768x4x1, .f32⟩
  | 93 => ⟨S32768x4x4, .f32⟩
  | 94 => ⟨S32768x4x4, .f32⟩
  | 95 => ⟨S32768x4x4, .i1⟩
  | 96 => ⟨S32768x1x4, .f32⟩
  | 97 => ⟨S32768x4x1, .f32⟩
  | 98 => ⟨S32768x4x4, .f32⟩
  | 99 => ⟨S32768x4x4, .f32⟩
  | 100 => ⟨S32768x4x4, .i1⟩
  | 101 => ⟨S1x4, .i32⟩
  | 102 => ⟨S4x1, .i32⟩
  | 103 => ⟨S4x4, .i32⟩
  | 104 => ⟨S4x4, .i32⟩
  | 105 => ⟨S4x4, .i1⟩
  | 106 => ⟨S1x4x4, .i1⟩
  | 107 => ⟨S32768x4x4, .i1⟩
  | 108 => ⟨S32768x4x4, .i1⟩
  | 109 => ⟨S32768x4x4, .i1⟩
  | 110 => ⟨S32768x4x4, .f32⟩
  | 111 => ⟨S_, .f32⟩
  | 112 => ⟨S32768x4, .f32⟩
  | 113 => ⟨S_, .f32⟩
  | 114 => ⟨S32768x4, .f32⟩
  | 115 => ⟨S32768x4, .i1⟩
  | 116 => ⟨S32768x4x1, .i1⟩
  | 117 => ⟨S32768x4x4, .i1⟩
  | 118 => ⟨S32768x4x4, .i1⟩
  | 119 => ⟨S32768x16, .i1⟩
  | 120 => ⟨S_, .f32⟩
  | 121 => ⟨S_, .f32⟩
  | 122 => ⟨S32768x16, .f32⟩
  | 123 => ⟨S32768x16, .f32⟩
  | 124 => ⟨S_, .f32⟩
  | 125 => ⟨S32768, .f32⟩
  | 126 => ⟨S32768x1, .f32⟩
  | 127 => ⟨S32768x1024, .bf16⟩
  | _ => ⟨S32768x1024, .f32⟩

abbrev hbmTy0_2 (i : Nat) : BufTy := match i % 128 with
  | 0 => ⟨S_, .i32⟩
  | 1 => ⟨S_, .f32⟩
  | 2 => ⟨S32768x128, .f32⟩
  | 3 => ⟨S32768x128, .f32⟩
  | 4 => ⟨S32768x128, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_cst_12 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_13 : Ref sig .tc := ⟨.hbm, 131, rfl⟩
abbrev main_v92 : Ref sig .tc := ⟨.hbm, 132, rfl⟩
abbrev main_v93 : Ref sig .tc := ⟨.hbm, 133, rfl⟩
abbrev main_cst_14 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_15 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_16 : Ref sig .tc := ⟨.hbm, 147, rfl⟩
abbrev main_v105 : Ref sig .tc := ⟨.hbm, 148, rfl⟩
abbrev main_v106 : Ref sig .tc := ⟨.hbm, 149, rfl⟩
abbrev main_cst_17 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_18 : Ref sig .tc := ⟨.hbm, 156, rfl⟩
abbrev main_v112 : Ref sig .tc := ⟨.hbm, 157, rfl⟩
abbrev main_v113 : Ref sig .tc := ⟨.hbm, 158, rfl⟩
abbrev main_cst_19 : Ref sig .tc := ⟨.hbm, 159, rfl⟩
abbrev main_v114 : Ref sig .tc := ⟨.hbm, 160, rfl⟩
abbrev main_v115 : Ref sig .tc := ⟨.hbm, 161, rfl⟩
abbrev main_cst_20 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_21 : Ref sig .tc := ⟨.hbm, 177, rfl⟩
abbrev main_v130 : Ref sig .tc := ⟨.hbm, 178, rfl⟩
abbrev main_v131 : Ref sig .tc := ⟨.hbm, 179, rfl⟩
abbrev main_cst_22 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_23 : Ref sig .tc := ⟨.hbm, 208, rfl⟩
abbrev main_v159 : Ref sig .tc := ⟨.hbm, 209, rfl⟩
abbrev main_cst_24 : Ref sig .tc := ⟨.hbm, 210, rfl⟩
abbrev main_v160 : Ref sig .tc := ⟨.hbm, 211, rfl⟩
abbrev main_v161 : Ref sig .tc := ⟨.hbm, 212, rfl⟩
abbrev main_cst_25 : Ref sig .tc := ⟨.hbm, 213, rfl⟩
abbrev main_call1_v0 : Ref sig .tc := ⟨.hbm, 214, rfl⟩
abbrev main_call1_v1 : Ref sig .tc := ⟨.hbm, 215, rfl⟩
abbrev main_v162 : Ref sig .tc := ⟨.hbm, 216, rfl⟩
abbrev main_cst_26 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_27 : Ref sig .tc := ⟨.hbm, 239, rfl⟩
abbrev main_v184 : Ref sig .tc := ⟨.hbm, 240, rfl⟩
abbrev main_cst_28 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_cst_29 : Ref sig .tc := ⟨.hbm, 248, rfl⟩
abbrev main_call2_v0 : Ref sig .tc := ⟨.hbm, 249, rfl⟩
abbrev main_call2_v1 : Ref sig .tc := ⟨.hbm, 250, rfl⟩
abbrev main_v191 : Ref sig .tc := ⟨.hbm, 251, rfl⟩
abbrev main_cst_30 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_c : Ref sig .tc := ⟨.hbm, 256, rfl⟩
abbrev main_call3_v0 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩

abbrev nD : Nat := 1
abbrev τ : Topo := Topo.v7x

variable {F : FTy → Type} [FloatOps F]
-- ==== Proof.Experts.Point.lean ====
/- The expert call: what one grid point computes from its blocks. -/
module

public import Idealize.ShloMosaic.Lib.Pipeline.ValueKit
public import Idealize.ShloMosaic.Lib.Pointwise
public import proofs.«01_k».proof.Proof.Gen.KernelIdeal.Value
import all proofs.«01_k».proof.Proof.Gen.KernelIdeal.Value

@[expose] public section

set_option maxRecDepth 16384

noncomputable section

namespace Cert.Experts

open Idealize.ShloMosaic Idealize.ShloMosaic.TcCoe Idealize.SL.Sem
open Cert.KernelIdeal Cert.KernelIdeal.Gen

theorem one_word : Ideal.ofBits .f32 0x3F800000#32 = (1 : EReal) := by
  simp [Ideal.ofBits, Ideal.ieee, -EReal.coe_mul]; norm_num

/-- A gated hidden unit from its two linear forms. -/
def unit (g u : EReal) : EReal := g * Ideal.div 1 (1 + Ideal.exp (-g)) * u

/-- The mean of a row. -/
def mean (y : Fin 1024 → EReal) : EReal := Ideal.div (∑ d : Fin 1024, y d) (Ideal.ofBits .f32 0x44800000#32)

/-- A row's layer norm at a column, with the column's weight and offset. -/
def norm (y : Fin 1024 → EReal) (g b : EReal) (d : Fin 1024) : EReal :=
  (y d - mean y) * Ideal.rsqrt (mean (fun k => (y k - mean y) * (y k - mean y)) + Ideal.ofBits .f32 0x3727C5AC#32) * g + b

/-- The zero fill. -/
theorem fill_at (j : S1024x1024.Idx) : k0_pay4 (F := Ideal) j = 0 := by
  pointwise [k0_pay4]

/-- A sum over lanes masked to one lane is that lane's entry. -/
theorem pick (r : Fin 128) (v : Fin 128 → EReal) :
    (∑ x : Fin 128, Scalar.select (IntOp.cmpi CmpIPredicate.eq (BitVec.ofNat 32 x.val) (BitVec.ofNat 32 r.val)) (v x) 0) = v r := by
  rw [Finset.sum_eq_single r]
  · simp [Scalar.select, IntOp.cmpi]
  · intro b _ hb
    have hne : (BitVec.ofNat 32 b.val == BitVec.ofNat 32 r.val) = false := by
      rw [beq_eq_false_iff_ne]
      intro h
      have h' := congrArg BitVec.toNat h
      simp only [BitVec.toNat_ofNat] at h'
      have := b.isLt; have := r.isLt
      exact hb (Fin.ext (by omega))
    simp [Scalar.select, IntOp.cmpi, hne]
  · intro h; exact absurd (Finset.mem_univ r) h

/-- The weighted hidden units of a block of rows. -/
theorem hidden_at (i : grid0.Coords) (x : FVec Ideal S1024x1024 .bf16) (wg wu : FVec Ideal S1x1024x512 .bf16)
    (cb : FVec Ideal S1024x128 .f32) (r : Fin 1024) (f : Fin 512) :
    k0_pay5 (F := Ideal) i x wg wu cb (ix2 r f)
      = unit (∑ d : Fin 1024, x (ix2 r d) * wg (ix3 0 d f)) (∑ d : Fin 1024, x (ix2 r d) * wu (ix3 0 d f))
        * cb (ix2 r ⟨(i 1).val, lt_trans (i 1).isLt (by decide)⟩) := by
  pointwise [k0_pay5]
  rw [zero_sub, pick (r := ⟨(i 1).val, lt_trans (i 1).isLt (by decide)⟩) (fun x => cb (ix2 r x))]
  rfl

/-- What a point adds to the running sum. -/
theorem step_at (acc : FVec Ideal S1024x1024 .f32) (h : FVec Ideal S1024x512 .bf16) (wd : FVec Ideal S1x512x1024 .bf16) (r d : Fin 1024) :
    k0_pay1 (F := Ideal) acc h wd (ix2 r d) = acc (ix2 r d) + ∑ f : Fin 512, h (ix2 r f) * wd (ix3 0 f d) := by
  pointwise [k0_pay1]

/-- The last point's layer norm. -/
theorem last_at (x acc : FVec Ideal S1024x1024 .f32) (g b : FVec Ideal S1x1024 .f32) (r d : Fin 1024) :
    k0_pay2 (F := Ideal) x acc g b (ix2 r d)
      = norm (fun k => Ideal.ofBits .f32 0x3FB504F3#32 * x (ix2 r k) + acc (ix2 r k)) (g (ix2 0 d)) (b (ix2 0 d)) d := by
  unfold norm mean
  pointwise [k0_pay2]

/-- And in the other format the same value. -/
theorem last_at' (x acc : FVec Ideal S1024x1024 .f32) (g b : FVec Ideal S1x1024 .f32) (r d : Fin 1024) :
    k0_pay3 (F := Ideal) x acc g b (ix2 r d)
      = norm (fun k => Ideal.ofBits .f32 0x3FB504F3#32 * x (ix2 r k) + acc (ix2 r k)) (g (ix2 0 d)) (b (ix2 0 d)) d := by
  rw [← last_at]
  unfold k0_pay3
  pointwise

end Cert.Experts

end
-- ==== Proof.Merge.Rows.lean ====
/- The merge call: what it computes of a row, as functions of a row's entries. -/
module

public import proofs.«01_k».proof.Proof.Experts.Point

@[expose] public section

noncomputable section

namespace Cert.Merge

open Idealize.ShloMosaic

/-- The logistic function. -/
def sigm (z : EReal) : EReal := Ideal.div 1 (1 + Ideal.exp (-z))

/-- The tanh form of the gelu. -/
def gelu (y : EReal) : EReal :=
  Ideal.ofBits .f32 0x3F000000#32 * y * (1 + Ideal.tanh (Ideal.ofBits .f32 0x3F4C422A#32 * (y + Ideal.ofBits .f32 0x3D372713#32 * (y * y * y))))

/-- The state space branch: the gelu of its row, gated by a linear form of it. -/
def glu (y : Fin 512 → EReal) (w : Fin 512 → Fin 512 → EReal) (b : Fin 512 → EReal) (f : Fin 512) : EReal :=
  gelu (y f) * sigm ((∑ k : Fin 512, gelu (y k) * w k f) + b f)

/-- The place of lane `l` of head `h` in a row of four heads. -/
def lane (h : Fin 4) (l : Fin 128) : Fin 512 := ⟨128 * h + l, by omega⟩

/-- A lane of a head of the linear attention branch, normalised and gated. -/
def head (o r : Fin 512 → EReal) (g : Fin 128 → EReal) (h : Fin 4) (l : Fin 128) : EReal :=
  o (lane h l) * Ideal.rsqrt (Ideal.div (∑ k : Fin 128, o (lane h k) * o (lane h k)) (Ideal.ofBits .f32 0x43000000#32) + Ideal.ofBits .f32 0x3727C5AC#32)
    * g l * (r (lane h l) * sigm (r (lane h l)))

/-- The linear attention branch's row. -/
def heads (o r : Fin 512 → EReal) (g : Fin 128 → EReal) (f : Fin 512) : EReal :=
  head o r g ⟨f.val / 128, by omega⟩ ⟨f.val % 128, by omega⟩

/-- A branch's share of the merged row, gated. -/
def share (gl : Fin 1024 → EReal) (b : Fin 1024 → EReal) (o : Fin 512 → EReal) (w : Fin 512 → Fin 1024 → EReal) (d : Fin 1024) : EReal :=
  sigm (gl d + b d) * ∑ k : Fin 512, o k * w k d

/-- The residual sum. -/
def resid (x : Fin 1024 → EReal) (mg : Fin 1024 → EReal) (w : Fin 1024 → Fin 1024 → EReal) (d : Fin 1024) : EReal :=
  Ideal.ofBits .f32 0x3FB504F3#32 * x d + ∑ k : Fin 1024, mg k * w k d

end Cert.Merge

end
-- ==== Proof.Merge.Choice.lean ====
/- The choice of experts on lanes turned within a group, and the choice by counting the better ones: the same. -/
module

public import proofs.«01_k».proof.Proof.Merge.Rows

@[expose] public section

noncomputable section

namespace Cert.Merge

open Idealize.ShloMosaic

/-- The lane `m` places before lane `l`, in turn within a group of `g` lanes. -/
def turned (g m : ℕ) (s : Fin 128 → EReal) (l : Fin 128) : EReal :=
  if m ≤ l.val % g then s ⟨(l.val + 128 - m) % 128, Nat.mod_lt _ (by decide)⟩ else s ⟨(l.val + 128 - (128 - (g - m))) % 128, Nat.mod_lt _ (by decide)⟩

/-- One if that lane goes before lane `l`: it holds more, or as much and stands before it. -/
def beat (g m : ℕ) (s : Fin 128 → EReal) (l : Fin 128) : EReal :=
  if m ≤ l.val % g then (if s l ≤ turned g m s l then 1 else 0) else (if s l < turned g m s l then 1 else 0)

/-- How many of the `g = 4 u` lanes of the group, `u` apart, go before lane `l`. -/
def rank (u : ℕ) (s : Fin 128 → EReal) (l : Fin 128) : EReal :=
  beat (4 * u) u s l + beat (4 * u) (2 * u) s l + beat (4 * u) (3 * u) s l

/-- The two best of a group of four, the others nought. -/
def kept (s : Fin 128 → EReal) (l : Fin 128) : EReal :=
  if rank 1 s l < Ideal.ofBits .f32 0x40000000#32 then s l else 0

/-- The sum of the two best of the lane's group. -/
def score (s : Fin 128 → EReal) (l : Fin 128) : EReal :=
  kept s l + turned 4 1 (kept s) l + turned 4 2 (kept s) l + turned 4 3 (kept s) l

/-- The lane's weight: its own if it is one of the two best of the best group, else nought. -/
def weight (p s : Fin 128 → EReal) (l : Fin 128) : EReal :=
  if rank 1 s l < Ideal.ofBits .f32 0x40000000#32 then (if rank 4 (score s) l < 1 then (if l.val < 16 then p l else 0) else 0) else 0

/-- Lane `i` of group `n`. -/
def pos (n i : Fin 4) : Fin 128 := ⟨4 * n.val + i.val, by omega⟩

/-- One if `j` goes before `i`. -/
def mark (b : Fin 4 → EReal) (i j : Fin 4) : EReal := if b i < b j ∨ (b j = b i ∧ j < i) then 1 else 0

/-- How many go before `i`. -/
def place (b : Fin 4 → EReal) (i : Fin 4) : EReal := ∑ j : Fin 4, mark b i j

/-- The sum of the two best. -/
def best (b : Fin 4 → EReal) : EReal := ∑ i : Fin 4, if place b i < Ideal.ofBits .f32 0x40000000#32 then b i else 0

theorem mark_self (b : Fin 4 → EReal) (i : Fin 4) : mark b i i = 0 := by
  unfold mark
  simp

theorem mark_before (b : Fin 4 → EReal) {i j : Fin 4} (h : j < i) : mark b i j = if b i ≤ b j then 1 else 0 := by
  unfold mark
  congr 1
  rw [le_iff_lt_or_eq, eq_comm (a := b j)]
  simp [h]

theorem mark_after (b : Fin 4 → EReal) {i j : Fin 4} (h : ¬ j < i) : mark b i j = if b i < b j then 1 else 0 := by
  unfold mark
  congr 1
  simp [h]

/-- A place found by turning within the four lanes of a group. -/
theorem turned_four (s : Fin 128 → EReal) (n i : Fin 4) (m : ℕ) (hm : m ∈ ({1, 2, 3} : Finset ℕ)) :
    turned 4 m s (pos n i) = s (pos n ⟨(i.val + 4 - m) % 4, Nat.mod_lt _ (by decide)⟩) := by
  have hm' : 1 ≤ m ∧ m ≤ 3 := by fin_cases hm <;> decide
  unfold turned pos
  dsimp only
  split
  · congr 2; omega
  · congr 2; omega

/-- A place found by turning within the sixteen lanes of four groups. -/
theorem turned_sixteen (s : Fin 128 → EReal) (n i : Fin 4) (m : ℕ) (hm : m ∈ ({1, 2, 3} : Finset ℕ)) :
    turned 16 (m * 4) s (pos n i) = s (pos ⟨(n.val + 4 - m) % 4, Nat.mod_lt _ (by decide)⟩ i) := by
  have hm' : 1 ≤ m ∧ m ≤ 3 := by fin_cases hm <;> decide
  unfold turned pos
  dsimp only
  split
  · congr 2; omega
  · congr 2; omega

theorem beat_four (s : Fin 128 → EReal) (n i : Fin 4) (m : ℕ) (hm : m ∈ ({1, 2, 3} : Finset ℕ)) :
    beat 4 m s (pos n i) = mark (fun j => s (pos n j)) i ⟨(i.val + 4 - m) % 4, Nat.mod_lt _ (by decide)⟩ := by
  have hm' : 1 ≤ m ∧ m ≤ 3 := by fin_cases hm <;> decide
  unfold beat
  rw [turned_four s n i m hm]
  split
  · next h => rw [mark_before _ (by simp only [pos] at h; rw [Fin.lt_def]; dsimp only; omega)]
  · next h => rw [mark_after _ (by simp only [pos] at h; rw [Fin.lt_def]; dsimp only; omega)]

theorem beat_sixteen (s : Fin 128 → EReal) (n i : Fin 4) (m : ℕ) (hm : m ∈ ({1, 2, 3} : Finset ℕ)) :
    beat 16 (m * 4) s (pos n i) = mark (fun j => s (pos j i)) n ⟨(n.val + 4 - m) % 4, Nat.mod_lt _ (by decide)⟩ := by
  have hm' : 1 ≤ m ∧ m ≤ 3 := by fin_cases hm <;> decide
  unfold beat
  rw [turned_sixteen s n i m hm]
  split
  · next h => rw [mark_before _ (by simp only [pos] at h; rw [Fin.lt_def]; dsimp only; omega)]
  · next h => rw [mark_after _ (by simp only [pos] at h; rw [Fin.lt_def]; dsimp only; omega)]

/-- The four terms of a sum, one first and the others in turn. -/
theorem sum_turn (f : Fin 4 → EReal) (i : Fin 4) :
    f i + f ⟨(i.val + 4 - 1) % 4, Nat.mod_lt _ (by decide)⟩ + f ⟨(i.val + 4 - 2) % 4, Nat.mod_lt _ (by decide)⟩ + f ⟨(i.val + 4 - 3) % 4, Nat.mod_lt _ (by decide)⟩ = ∑ j : Fin 4, f j := by
  rw [Fin.sum_univ_four]
  fin_cases i <;> simp only [] <;> first | (show f 0 + f 3 + f 2 + f 1 = _; abel) | (show f 1 + f 0 + f 3 + f 2 = _; abel) | (show f 2 + f 1 + f 0 + f 3 = _; abel) | (show f 3 + f 2 + f 1 + f 0 = _; abel)

theorem rank_four (s : Fin 128 → EReal) (n i : Fin 4) : rank 1 s (pos n i) = place (fun j => s (pos n j)) i := by
  unfold rank place
  rw [show 4 * 1 = 4 from rfl, show 2 * 1 = 2 from rfl, show 3 * 1 = 3 from rfl, beat_four s n i 1 (by decide), beat_four s n i 2 (by decide),
    beat_four s n i 3 (by decide), ← sum_turn (mark (fun j => s (pos n j)) i) i, mark_self, zero_add]

theorem rank_sixteen (s : Fin 128 → EReal) (n i : Fin 4) : rank 4 s (pos n i) = place (fun j => s (pos j i)) n := by
  unfold rank place
  have h1 := beat_sixteen s n i 1 (by decide)
  have h2 := beat_sixteen s n i 2 (by decide)
  have h3 := beat_sixteen s n i 3 (by decide)
  rw [show 4 * 4 = 16 from rfl, show 2 * 4 = 8 from rfl, show 3 * 4 = 12 from rfl]
  rw [show 1 * 4 = 4 from rfl] at h1
  rw [show 2 * 4 = 8 from rfl] at h2
  rw [show 3 * 4 = 12 from rfl] at h3
  rw [h1, h2, h3, ← sum_turn (mark (fun j => s (pos j i)) n) n, mark_self, zero_add]

theorem kept_pos (s : Fin 128 → EReal) (n i : Fin 4) :
    kept s (pos n i) = if place (fun j => s (pos n j)) i < Ideal.ofBits .f32 0x40000000#32 then s (pos n i) else 0 := by
  unfold kept
  rw [rank_four]

theorem score_pos (s : Fin 128 → EReal) (n i : Fin 4) : score s (pos n i) = best (fun j => s (pos n j)) := by
  unfold score best
  rw [turned_four _ n i 1 (by decide), turned_four _ n i 2 (by decide), turned_four _ n i 3 (by decide), sum_turn (fun j => kept s (pos n j)) i]
  exact Finset.sum_congr rfl fun j _ => kept_pos s n j

/-- A lane's weight by counting. -/
def chosen (p b : Fin 4 → Fin 4 → EReal) (n i : Fin 4) : EReal :=
  if place (b n) i < Ideal.ofBits .f32 0x40000000#32 ∧ place (fun n => best (b n)) n < 1 then p n i else 0

theorem weight_pos (p s : Fin 128 → EReal) (n i : Fin 4) :
    weight p s (pos n i) = chosen (fun n i => p (pos n i)) (fun n i => s (pos n i)) n i := by
  unfold weight chosen
  rw [rank_four, rank_sixteen, if_pos (show (pos n i).val < 16 by unfold pos; dsimp only; omega)]
  simp only [score_pos]
  split <;> split <;> simp_all

theorem weight_rest (p s : Fin 128 → EReal) (l : Fin 128) (h : ¬ l.val < 16) : weight p s l = 0 := by
  unfold weight
  simp [h]

/-- Place `j` of sixteen: its group and its lane. -/
def grp (j : Fin 16) : Fin 4 := ⟨j.val / 4, by omega⟩
def sub (j : Fin 16) : Fin 4 := ⟨j.val % 4, by omega⟩

theorem weight_sum (p s : Fin 128 → EReal) :
    ∑ l : Fin 128, weight p s l = ∑ j : Fin 16, chosen (fun n i => p (pos n i)) (fun n i => s (pos n i)) (grp j) (sub j) := by
  have e : ∑ l : Fin (16 + 112), weight p s l = _ := Fin.sum_univ_add (fun l : Fin (16 + 112) => weight p s l)
  refine e.trans ?_
  rw [Finset.sum_eq_zero (s := Finset.univ (α := Fin 112)) (fun l _ => weight_rest p s _ (by simp)), add_zero]
  refine Finset.sum_congr rfl fun j _ => ?_
  rw [← weight_pos]
  congr 1
  unfold pos grp sub
  apply Fin.ext
  simp only [Fin.val_castAdd]
  omega

end Cert.Merge

end
-- ==== Proof.Merge.Route.lean ====
/- The merge call: the routing weights at an entry. -/
module

public import Idealize.ShloMosaic.Lib.Pipeline.ValueKit
public import Idealize.ShloMosaic.Lib.Pointwise
public import proofs.«01_k».proof.Proof.Merge.Choice
public import proofs.«01_k».proof.Proof.Gen.Kernel5Ideal.Skeleton
import all proofs.«01_k».proof.Proof.Gen.Kernel5Ideal.Skeleton

@[expose] public section

set_option maxRecDepth 16384

noncomputable section

namespace Cert.Merge

open Idealize.ShloMosaic Idealize.ShloMosaic.TcCoe Idealize.SL.Sem
open Cert.Kernel5Ideal Cert.Kernel5Ideal.Gen

/-- Each lane's number. -/
abbrev lanes : IVec S256x128 32 := iota .tc S256x128 32 [1] iota_S256x128_d1_w32

theorem lanes_at (r : Fin 256) (l : Fin 128) : lanes (ix2 r l) = BitVec.ofNat 32 l.val := by
  unfold lanes
  pointwise

/-- The lane's place in its group of four is `m` or more. -/
theorem ge_four (m : Fin 4) : ∀ l : Fin 128, IntOp.cmpi .sge (IntOp.andi (BitVec.ofNat 32 l.val) 3#32) (BitVec.ofNat 32 m.val) = BitVec.ofBool (decide (m.val ≤ l.val % 4)) := by
  revert m
  decide +kernel

theorem ge_sixteen (m : Fin 4) : ∀ l : Fin 128, IntOp.cmpi .sge (IntOp.andi (BitVec.ofNat 32 l.val) 15#32) (BitVec.ofNat 32 (4 * m.val)) = BitVec.ofBool (decide (4 * m.val ≤ l.val % 16)) := by
  revert m
  decide +kernel

theorem lt_sixteen : ∀ l : Fin 128, IntOp.cmpi .slt (BitVec.ofNat 32 l.val) 16#32 = BitVec.ofBool (decide (l.val < 16)) := by
  decide +kernel

theorem select_bool (P : Prop) [Decidable P] (a b : EReal) : Scalar.select (BitVec.ofBool (decide P)) a b = if P then a else b := by
  by_cases h : P <;> simp [h, Scalar.select]

theorem pick4 (m : Fin 4) (l : Fin 128) (a b : EReal) :
    Scalar.select (IntOp.cmpi .sge (IntOp.andi (BitVec.ofNat 32 l.val) 3#32) (BitVec.ofNat 32 m.val)) a b = if m.val ≤ l.val % 4 then a else b := by
  rw [ge_four, select_bool]

theorem pick16 (m : Fin 4) (l : Fin 128) (a b : EReal) :
    Scalar.select (IntOp.cmpi .sge (IntOp.andi (BitVec.ofNat 32 l.val) 15#32) (BitVec.ofNat 32 (4 * m.val))) a b = if 4 * m.val ≤ l.val % 16 then a else b := by
  rw [ge_sixteen, select_bool]

theorem pick41 (l : Fin 128) (a b : EReal) : Scalar.select (IntOp.cmpi .sge (IntOp.andi (BitVec.ofNat 32 l.val) 3#32) 1#32) a b = if 1 ≤ l.val % 4 then a else b := pick4 1 l a b
theorem pick42 (l : Fin 128) (a b : EReal) : Scalar.select (IntOp.cmpi .sge (IntOp.andi (BitVec.ofNat 32 l.val) 3#32) 2#32) a b = if 2 ≤ l.val % 4 then a else b := pick4 2 l a b
theorem pick43 (l : Fin 128) (a b : EReal) : Scalar.select (IntOp.cmpi .sge (IntOp.andi (BitVec.ofNat 32 l.val) 3#32) 3#32) a b = if 3 ≤ l.val % 4 then a else b := pick4 3 l a b
theorem pick164 (l : Fin 128) (a b : EReal) : Scalar.select (IntOp.cmpi .sge (IntOp.andi (BitVec.ofNat 32 l.val) 15#32) 4#32) a b = if 4 ≤ l.val % 16 then a else b := pick16 1 l a b
theorem pick168 (l : Fin 128) (a b : EReal) : Scalar.select (IntOp.cmpi .sge (IntOp.andi (BitVec.ofNat 32 l.val) 15#32) 8#32) a b = if 8 ≤ l.val % 16 then a else b := pick16 2 l a b
theorem pick1612 (l : Fin 128) (a b : EReal) : Scalar.select (IntOp.cmpi .sge (IntOp.andi (BitVec.ofNat 32 l.val) 15#32) 12#32) a b = if 12 ≤ l.val % 16 then a else b := pick16 3 l a b

/-- A row of a block of lanes. -/
abbrev row (s : FVec Ideal S256x128 .f32) (r : Fin 256) : Fin 128 → EReal := fun l => s (ix2 r l)

theorem third_at (s : FVec Ideal S256x128 .f32) (r : Fin 256) (l : Fin 128) : k0_pay21 (F := Ideal) lanes s (ix2 r l) = turned 4 3 (row s r) l := by
  unfold turned
  pointwise [k0_pay21]
  try rw [lanes_at]
  rw [pick43]

theorem count_at (s n : FVec Ideal S256x128 .f32) (r : Fin 256) (hn : ∀ l, n (ix2 r l) = turned 4 1 (row s r) l) (l : Fin 128) :
    k0_pay20 (F := Ideal) lanes s (k0_pay17 (F := Ideal)) n k0_pay19 1#32 (ix2 r l) = beat 4 1 (row s r) l + beat 4 2 (row s r) l := by
  have e19 : k0_pay19 (ix2 r l) = IntOp.andi (BitVec.ofNat 32 l.val) 3#32 := by pointwise [k0_pay19]
  have e17 : k0_pay17 (F := Ideal) (ix2 r l) = 0 := by pointwise [k0_pay17]
  pointwise [k0_pay20]
  try rw [lanes_at]
  rw [hn, e19, e17, zero_add]
  simp only [pick41, pick42]
  rfl

theorem chosen_at (s n : FVec Ideal S256x128 .f32) (r : Fin 256) (hn : ∀ l, n (ix2 r l) = turned 4 1 (row s r) l) (l : Fin 128) :
    k0_pay23 (F := Ideal) lanes s (k0_pay20 (F := Ideal) lanes s (k0_pay17 (F := Ideal)) n k0_pay19 1#32) (k0_pay21 (F := Ideal) lanes s) k0_pay22 (ix2 r l)
      = BitVec.ofBool (decide (rank 1 (row s r) l < Ideal.ofBits .f32 0x40000000#32)) := by
  have e22 : k0_pay22 (ix2 r l) = 3#32 := by pointwise [k0_pay22]
  pointwise [k0_pay23]
  try rw [lanes_at]
  rw [e22, count_at s n r hn, third_at, pick43]
  rfl

theorem score_at (s n : FVec Ideal S256x128 .f32) (r : Fin 256) (hn : ∀ l, n (ix2 r l) = turned 4 1 (row s r) l) (l : Fin 128) :
    k0_pay24 (F := Ideal) lanes s (k0_pay20 (F := Ideal) lanes s (k0_pay17 (F := Ideal)) n k0_pay19 1#32) (k0_pay21 (F := Ideal) lanes s) k0_pay22 (ix2 r l)
      = score (row s r) l := by
  unfold k0_pay24
  pointwise
  simp only [lanes_at, chosen_at s n r hn, select_bool, pick41, pick42, pick43]
  rfl

theorem group_at (q : FVec Ideal S256x128 .f32) (r : Fin 256) (l : Fin 128) : k0_pay25 (F := Ideal) lanes q (ix2 r l) = beat 16 4 (row q r) l := by
  pointwise [k0_pay25]
  simp only [lanes_at, pick164, zero_add]
  rfl

theorem eighth_at (q : FVec Ideal S256x128 .f32) (r : Fin 256) (l : Fin 128) : k0_pay26 (F := Ideal) lanes q (ix2 r l) = turned 16 8 (row q r) l := by
  pointwise [k0_pay26]
  simp only [lanes_at, pick168]
  rfl

theorem weight_at (p s q : FVec Ideal S256x128 .f32) (ch : IVec S256x128 1) (r : Fin 256) (l : Fin 128)
    (hc : ch (ix2 r l) = BitVec.ofBool (decide (rank 1 (row s r) l < Ideal.ofBits .f32 0x40000000#32))) (hq : row q r = score (row s r)) :
    k0_pay31 (F := Ideal) p lanes ch q (k0_pay25 (F := Ideal) lanes q) (k0_pay27 lanes) (k0_pay28 (F := Ideal) lanes q) (k0_pay29 (F := Ideal) lanes q)
        (Scalar.ofBits .f32 0x00000000#32) (k0_pay30 (F := Ideal)) (ix2 r l)
      = weight (row p r) (row s r) l := by
  have e27 : k0_pay27 lanes (ix2 r l) = IntOp.cmpi .sge (IntOp.andi (BitVec.ofNat 32 l.val) 15#32) 8#32 := by pointwise [k0_pay27]
  have e28 : k0_pay28 (F := Ideal) lanes q (ix2 r l) = if row q r l ≤ turned 16 8 (row q r) l then 1 else 0 := by
    rw [← eighth_at]
    unfold k0_pay28
    pointwise
  have e29 : k0_pay29 (F := Ideal) lanes q (ix2 r l) = BitVec.ofBool (decide (row q r l < turned 16 8 (row q r) l)) := by
    rw [← eighth_at]
    unfold k0_pay29
    pointwise
  have e30 : k0_pay30 (F := Ideal) (ix2 r l) = 1 := by pointwise [k0_pay30]
  pointwise [k0_pay31]
  simp only [lanes_at, hc, e27, e28, e29, e30, group_at, pick168, pick1612, lt_sixteen, select_bool]
  unfold weight
  rw [← hq]
  rfl

end Cert.Merge

end
-- ==== Proof.Merge.Pads.lean ====
/- The router's weights and offsets set into arrays of 128 lanes. -/
module

public import Idealize.ShloMosaic.Lib.Routing.OpsSet
public import proofs.«01_k».proof.Proof.Merge.Route
public import proofs.«01_k».proof.Proof.Gen.Kernel5Ideal.Value

@[expose] public section

set_option maxRecDepth 16384

noncomputable section

namespace Cert.Merge

open Idealize.ShloMosaic Idealize.ShloMosaic.TcCoe Idealize.SL.Sem
open Cert.Kernel5Ideal Cert.Kernel5Ideal.Gen

/-- Nothing is added to a place where every index word is nought. -/
theorem start_zero {s si u : Shape} (d : ScatterDims s si u) (idx : IVec si 32) (h0 : ∀ i, idx i = 0#32) (j : u.Idx) (a : Fin s.rank) : d.start j idx a = 0 := by
  unfold ScatterDims.start
  split
  · rw [h0]; rfl
  · rfl

theorem set_columns (x : FVec Ideal S1024x128 .f32) (idx : IVec S1 32) (h0 : ∀ i, idx i = 0#32) (u : FVec Ideal S1024x16 .f32) (k : Fin 1024) (l : Fin 128) :
    Host.scatter scatter_S1024x128_S1_S1024x16_01_n_1_0 (fun _ b => b) x idx u (ix2 k l)
      = if h : l.val < 16 then u (ix2 k ⟨l, h⟩) else x (ix2 k l) := by
  have lands : ∀ (k' : Fin 1024) (l' : Fin 16), scatter_S1024x128_S1_S1024x16_01_n_1_0.resultIdx? (ix2 k' l') idx = some (ix2 k l) ↔ k'.val = k.val ∧ l'.val = l.val := by
    intro k' l'
    have w0 : scatter_S1024x128_S1_S1024x16_01_n_1_0.window (ix2 k' l') 0 = k'.val := rfl
    have w1 : scatter_S1024x128_S1_S1024x16_01_n_1_0.window (ix2 k' l') 1 = l'.val := rfl
    refine (Routing.resultIdx?_ix2 (R := 1024) (C := 128) scatter_S1024x128_S1_S1024x16_01_n_1_0 (ix2 k' l') idx k l).trans ?_
    rw [start_zero _ _ h0, start_zero _ _ h0, w0, w1]
    omega
  split
  · next h =>
    refine Routing.scatter_set_hit _ x idx u _ _ (fun j hj => ?_) (ix2 k ⟨l, h⟩) ((lands k ⟨l, h⟩).2 ⟨rfl, rfl⟩)
    rw [eq_ix2 j] at hj ⊢
    obtain ⟨e0, e1⟩ := (lands _ _).1 hj
    exact congrArg₂ (fun a b => u (ix2 a b)) (Fin.ext e0) (Fin.ext e1)
  · next h =>
    refine Routing.scatter_set_miss _ x idx u _ fun j hj => ?_
    rw [eq_ix2 j] at hj
    obtain ⟨e0, e1⟩ := (lands _ _).1 hj
    have := (j 1).isLt
    exact h (e1 ▸ this)

theorem set_lanes (x : FVec Ideal S1x128 .f32) (idx : IVec S2 32) (h0 : ∀ i, idx i = 0#32) (u : FVec Ideal S16 .f32) (l : Fin 128) :
    Host.scatter scatter_S1x128_S2_S16_0_0_01_0 (fun _ b => b) x idx u (ix2 0 l)
      = if h : l.val < 16 then u (ix1 ⟨l, h⟩) else x (ix2 0 l) := by
  have lands : ∀ (l' : Fin 16), scatter_S1x128_S2_S16_0_0_01_0.resultIdx? (ix1 l') idx = some (ix2 0 l) ↔ l'.val = l.val := by
    intro l'
    have w0 : scatter_S1x128_S2_S16_0_0_01_0.window (ix1 l') 0 = 0 := rfl
    have w1 : scatter_S1x128_S2_S16_0_0_01_0.window (ix1 l') 1 = l'.val := rfl
    refine (Routing.resultIdx?_ix2 (R := 1) (C := 128) scatter_S1x128_S2_S16_0_0_01_0 (ix1 l') idx 0 l).trans ?_
    rw [start_zero _ _ h0, start_zero _ _ h0, w0, w1]
    simp only [Fin.val_zero]
    omega
  split
  · next h =>
    refine Routing.scatter_set_hit _ x idx u _ _ (fun j hj => ?_) (ix1 ⟨l, h⟩) ((lands ⟨l, h⟩).2 rfl)
    rw [eq_ix1 j] at hj ⊢
    exact congrArg (fun b => u (ix1 b)) (Fin.ext ((lands _).1 hj))
  · next h =>
    refine Routing.scatter_set_miss _ x idx u _ fun j hj => ?_
    rw [eq_ix1 j] at hj
    have e1 := (lands _).1 hj
    have := (j 0).isLt
    exact h (e1 ▸ this)

end Cert.Merge

end
-- ==== Proof.Merge.Point.lean ====
/- The merge call: what one grid point's values are at an entry, up to the layer norm. -/
module

public import Idealize.ShloMosaic.Lib.Pipeline.ValueKit
public import Idealize.ShloMosaic.Lib.Pointwise
public import proofs.«01_k».proof.Proof.Merge.Rows
public import proofs.«01_k».proof.Proof.Gen.Kernel5Ideal.Skeleton
import all proofs.«01_k».proof.Proof.Gen.Kernel5Ideal.Skeleton

@[expose] public section

set_option maxRecDepth 16384

noncomputable section

namespace Cert.Merge

open Idealize.ShloMosaic Idealize.ShloMosaic.TcCoe Idealize.SL.Sem
open Cert.Kernel5Ideal Cert.Kernel5Ideal.Gen

theorem glu_at (y : FVec Ideal S256x512 .f32) (w : FVec Ideal S512x512 .bf16) (b : FVec Ideal S1x512 .f32) (r : Fin 256) (f : Fin 512) :
    k0_pay2 (F := Ideal) y w b (ix2 r f) = glu (fun k => y (ix2 r k)) (fun k f => w (ix2 k f)) (fun f => b (ix2 0 f)) f := by
  unfold glu gelu sigm
  pointwise [k0_pay2]
  rw [zero_sub]

theorem swish_at (v : FVec Ideal S256x512 .f32) (r : Fin 256) (f : Fin 512) :
    k0_pay3 (F := Ideal) v (ix2 r f) = v (ix2 r f) * sigm (v (ix2 r f)) := by
  unfold sigm
  pointwise [k0_pay3]
  rw [zero_sub]

theorem head0_at (s : FVec Ideal S256x512 .f32) (a b : FVec Ideal S256x128 .f32) (g : FVec Ideal S1x128 .f32) (r : Fin 256) (l : Fin 128) :
    k0_pay4 (F := Ideal) s a b g (ix2 r l)
      = (a (ix2 r l) + b (ix2 r l)) * Ideal.rsqrt (Ideal.div (∑ k : Fin 128, (a (ix2 r k) + b (ix2 r k)) * (a (ix2 r k) + b (ix2 r k))) (Ideal.ofBits .f32 0x43000000#32)
          + Ideal.ofBits .f32 0x3727C5AC#32) * g (ix2 0 l) * s (ix2 r (lane 0 l)) := by
  unfold lane
  pointwise [k0_pay4]

theorem head1_at (s : FVec Ideal S256x512 .f32) (a b : FVec Ideal S256x128 .f32) (g : FVec Ideal S1x128 .f32) (r : Fin 256) (l : Fin 128) :
    k0_pay5 (F := Ideal) s a b g (ix2 r l)
      = (a (ix2 r l) + b (ix2 r l)) * Ideal.rsqrt (Ideal.div (∑ k : Fin 128, (a (ix2 r k) + b (ix2 r k)) * (a (ix2 r k) + b (ix2 r k))) (Ideal.ofBits .f32 0x43000000#32)
          + Ideal.ofBits .f32 0x3727C5AC#32) * g (ix2 0 l) * s (ix2 r (lane 1 l)) := by
  unfold lane
  pointwise [k0_pay5]

/-- A normalised and gated lane, its head's sum and gate given. -/
def headOf (a b : Fin 128 → EReal) (g s : EReal) (l : Fin 128) : EReal :=
  (a l + b l) * Ideal.rsqrt (Ideal.div (∑ k : Fin 128, (a k + b k) * (a k + b k)) (Ideal.ofBits .f32 0x43000000#32) + Ideal.ofBits .f32 0x3727C5AC#32) * g * s

theorem heads_at (s : FVec Ideal S256x512 .f32) (h0 h1 a2 b2 : FVec Ideal S256x128 .f32) (g2 : FVec Ideal S1x128 .f32) (a3 b3 : FVec Ideal S256x128 .f32)
    (g3 : FVec Ideal S1x128 .f32) (r : Fin 256) (f : Fin 512) :
    k0_pay6 (F := Ideal) s h0 h1 a2 b2 g2 a3 b3 g3 (ix2 r f)
      = if h : f.val < 128 then h0 (ix2 r ⟨f, h⟩) else if h' : f.val - 128 < 128 then h1 (ix2 r ⟨f - 128, h'⟩)
        else if h'' : f.val - 128 - 128 < 128 then headOf (fun k => a2 (ix2 r k)) (fun k => b2 (ix2 r k)) (g2 (ix2 0 ⟨f - 128 - 128, h''⟩)) (s (ix2 r (lane 2 ⟨f - 128 - 128, h''⟩))) ⟨f - 128 - 128, h''⟩
        else headOf (fun k => a3 (ix2 r k)) (fun k => b3 (ix2 r k)) (g3 (ix2 0 ⟨f - 128 - 128 - 128, by omega⟩)) (s (ix2 r (lane 3 ⟨f - 128 - 128 - 128, by omega⟩))) ⟨f - 128 - 128 - 128, by omega⟩ := by
  unfold headOf lane
  pointwise [k0_pay6]

theorem two_at (ob oa : FVec Ideal S256x512 .f32) (g0 : FVec Ideal S256x1024 .f32) (b0 : FVec Ideal S1x1x1024 .f32) (w0 : FVec Ideal S1x512x1024 .bf16)
    (g1 : FVec Ideal S256x1024 .f32) (b1 : FVec Ideal S1x1x1024 .f32) (w1 : FVec Ideal S1x512x1024 .bf16) (r : Fin 256) (d : Fin 1024) :
    k0_pay7 (F := Ideal) ob oa g0 b0 w0 g1 b1 w1 (ix2 r d)
      = share (fun d => g0 (ix2 r d)) (fun d => b0 (ix3 0 0 d)) (fun k => oa (ix2 r k)) (fun k d => w0 (ix3 0 k d)) d
        + share (fun d => g1 (ix2 r d)) (fun d => b1 (ix3 0 0 d)) (fun k => ob (ix2 r k)) (fun k d => w1 (ix3 0 k d)) d := by
  unfold share sigm
  pointwise [k0_pay7]
  rw [zero_sub, zero_sub]

theorem centred_at (oc : FVec Ideal S256x512 .f32) (m2 g2 : FVec Ideal S256x1024 .f32) (b2 : FVec Ideal S1x1x1024 .f32) (w2 : FVec Ideal S1x512x1024 .bf16)
    (wo : FVec Ideal S1024x1024 .bf16) (x : FVec Ideal S256x1024 .f32) (r : Fin 256) (d : Fin 1024) :
    k0_pay10 (F := Ideal) oc m2 g2 b2 w2 wo x (ix2 r d)
      = resid (fun d => x (ix2 r d)) (fun k => m2 (ix2 r k) + share (fun d => g2 (ix2 r d)) (fun d => b2 (ix3 0 0 d)) (fun k => oc (ix2 r k)) (fun k d => w2 (ix3 0 k d)) k)
          (fun k d => wo (ix2 k d)) d
        - Cert.Experts.mean (resid (fun d => x (ix2 r d)) (fun k => m2 (ix2 r k) + share (fun d => g2 (ix2 r d)) (fun d => b2 (ix3 0 0 d)) (fun k => oc (ix2 r k)) (fun k d => w2 (ix3 0 k d)) k)
          (fun k d => wo (ix2 k d))) := by
  unfold Cert.Experts.mean resid share sigm
  pointwise [k0_pay10]
  simp only [zero_sub]

theorem squares_at (oc : FVec Ideal S256x512 .f32) (m2 g2 : FVec Ideal S256x1024 .f32) (b2 : FVec Ideal S1x1x1024 .f32) (w2 : FVec Ideal S1x512x1024 .bf16)
    (wo : FVec Ideal S1024x1024 .bf16) (x : FVec Ideal S256x1024 .f32) (r : Fin 256) :
    k0_pay11 (F := Ideal) oc m2 g2 b2 w2 wo x (ix2 r 0)
      = ∑ d : Fin 1024, k0_pay10 (F := Ideal) oc m2 g2 b2 w2 wo x (ix2 r d) * k0_pay10 (F := Ideal) oc m2 g2 b2 w2 wo x (ix2 r d) := by
  unfold k0_pay11
  pointwise

theorem normed_at (g b : FVec Ideal S1x1024 .f32) (yc : FVec Ideal S256x1024 .f32) (ss n : FVec Ideal S256x1 .f32) (r : Fin 256) (d : Fin 1024) :
    k0_pay13 (F := Ideal) g b yc ss n (ix2 r d)
      = yc (ix2 r d) * Ideal.rsqrt (Ideal.div (ss (ix2 r 0)) (n (ix2 r 0)) + Ideal.ofBits .f32 0x3727C5AC#32) * g (ix2 0 d) + b (ix2 0 d) := by
  pointwise [k0_pay13]

theorem norm_at (g b : FVec Ideal S1x1024 .f32) (oc : FVec Ideal S256x512 .f32) (m2 g2 : FVec Ideal S256x1024 .f32) (b2 : FVec Ideal S1x1x1024 .f32)
    (w2 : FVec Ideal S1x512x1024 .bf16) (wo : FVec Ideal S1024x1024 .bf16) (x : FVec Ideal S256x1024 .f32) (r : Fin 256) (d : Fin 1024) :
    k0_pay13 (F := Ideal) (k0_pay8 (F := Ideal) g) (k0_pay9 (F := Ideal) b) (k0_pay10 (F := Ideal) oc m2 g2 b2 w2 wo x) (k0_pay11 (F := Ideal) oc m2 g2 b2 w2 wo x) (k0_pay12 (F := Ideal)) (ix2 r d)
      = Cert.Experts.norm (resid (fun d => x (ix2 r d)) (fun k => m2 (ix2 r k) + share (fun d => g2 (ix2 r d)) (fun d => b2 (ix3 0 0 d)) (fun k => oc (ix2 r k)) (fun k d => w2 (ix3 0 k d)) k)
          (fun k d => wo (ix2 k d))) (g (ix2 0 d)) (b (ix2 0 d)) d := by
  have e8 : k0_pay8 (F := Ideal) g (ix2 0 d) = g (ix2 0 d) := by pointwise [k0_pay8]
  have e9 : k0_pay9 (F := Ideal) b (ix2 0 d) = b (ix2 0 d) := by pointwise [k0_pay9]
  have e12 : k0_pay12 (F := Ideal) (ix2 r 0) = Ideal.ofBits .f32 0x44800000#32 := by pointwise [k0_pay12]
  rw [normed_at, squares_at, e8, e9, e12]
  simp only [centred_at]
  rfl

end Cert.Merge

end
-- ==== Proof.Merge.Spec.lean ====
/- The merge call: what it computes of a row, from the arguments. -/
module

public import proofs.«01_k».proof.Proof.Merge.Rows
public import proofs.«01_k».proof.Proof.Merge.Choice

@[expose] public section

noncomputable section

namespace Cert.Merge

open Idealize.ShloMosaic

/-- The three gated shares of a merged row, added. -/
def merged (gl b : Fin 3 → Fin 1024 → EReal) (o : Fin 3 → Fin 512 → EReal) (w : Fin 3 → Fin 512 → Fin 1024 → EReal) (d : Fin 1024) : EReal :=
  share (gl 0) (b 0) (o 0) (w 0) d + share (gl 1) (b 1) (o 1) (w 1) d + share (gl 2) (b 2) (o 2) (w 2) d

/-- The three branches' rows: the attention's, the state space's, the linear attention's. -/
def branches (oa y : Fin 512 → EReal) (wg : Fin 512 → Fin 512 → EReal) (bg : Fin 512 → EReal) (o r : Fin 512 → EReal) (g : Fin 128 → EReal) : Fin 3 → Fin 512 → EReal
  | 0 => oa
  | 1 => glu y wg bg
  | 2 => heads o r g

/-- What is read of a row of the batch. -/
structure Row where
  x : Fin 1024 → EReal
  oa : Fin 512 → EReal
  y : Fin 512 → EReal
  gf : Fin 512 → EReal
  gb : Fin 512 → EReal
  r : Fin 512 → EReal
  gate : Fin 3 → Fin 1024 → EReal

/-- The layer's weights. -/
structure Weights where
  wg : Fin 512 → Fin 512 → EReal
  bg : Fin 512 → EReal
  ng : Fin 128 → EReal
  up : Fin 3 → Fin 512 → Fin 1024 → EReal
  mb : Fin 3 → Fin 1024 → EReal
  out : Fin 1024 → Fin 1024 → EReal
  g : Fin 1024 → EReal
  b : Fin 1024 → EReal
  rw : Fin 1024 → Fin 16 → EReal
  rb : Fin 16 → EReal

variable (R : Row) (W : Weights)

/-- The merged row. -/
def mergedRow : Fin 1024 → EReal :=
  merged R.gate W.mb (branches R.oa R.y W.wg W.bg (fun f => R.gf f + R.gb f) R.r W.ng) W.up

/-- The normalised row. -/
def outRow (d : Fin 1024) : EReal := Cert.Experts.norm (resid R.x (mergedRow R W) W.out) (W.g d) (W.b d) d

/-- The expert of a group's member. -/
def mem (n i : Fin 4) : Fin 16 := ⟨4 * n.val + i.val, by omega⟩

/-- An expert's score. -/
def prob (j : Fin 16) : EReal := sigm (∑ d : Fin 1024, outRow R W d * W.rw d j)

/-- An expert's score where the choice is made. -/
def bid (j : Fin 16) : EReal := prob R W j + W.rb j

/-- An expert's weight before it is divided by the sum. -/
def kept16 (j : Fin 16) : EReal := chosen (fun n i => prob R W (mem n i)) (fun n i => bid R W (mem n i)) (grp j) (sub j)

/-- A lane of the routing weights. -/
def combRow (l : Fin 128) : EReal := Ideal.div (if h : l.val < 16 then kept16 R W ⟨l, h⟩ else 0) (∑ j : Fin 16, kept16 R W j)

end Cert.Merge

end
-- ==== Proof.Merge.Block.lean ====
/- The merge call: what a grid point writes, from its blocks. -/
module

public import proofs.«01_k».proof.Proof.Merge.Point
public import proofs.«01_k».proof.Proof.Merge.Route
public import proofs.«01_k».proof.Proof.Merge.Spec
public import proofs.«01_k».proof.Proof.Gen.Kernel5Ideal.Value
import all proofs.«01_k».proof.Proof.Gen.Kernel5Ideal.Value
import all proofs.«01_k».proof.Proof.Gen.Kernel5Ideal.Frame

@[expose] public section

set_option maxRecDepth 16384

noncomputable section

namespace Cert.Merge

open Idealize.ShloMosaic Idealize.ShloMosaic.TcCoe Idealize.SL.Sem
open Cert.Kernel5Ideal Cert.Kernel5Ideal.Gen

/-- Columns `o` and on of a block, a head's width of them. -/
def cols (x : FVec Ideal S256x512 .f32) (o : ℕ) (h : ∀ a, (![0, o] : Fin 2 → ℕ) a + (![256, 128] : Fin 2 → ℕ) a ≤ S256x512.size a) : FVec Ideal S256x128 .f32 :=
  View.ld (Val := Elt Ideal) (e' := .f32) x (Rect.unit (s := S256x512) ![0, o] ![256, 128] h)

/-- The gate offsets of branch `n`. -/
def slabB (x : FVec Ideal S3x1x1024 .f32) (n : ℕ) (h : ∀ a, (![n, 0, 0] : Fin 3 → ℕ) a + (![1, 1, 1024] : Fin 3 → ℕ) a ≤ S3x1x1024.size a) : FVec Ideal S1x1x1024 .f32 :=
  View.ld (Val := Elt Ideal) (e' := .f32) x (Rect.unit (s := S3x1x1024) ![n, 0, 0] ![1, 1, 1024] h)

/-- The widening weights of branch `n`. -/
def slabW (x : FVec Ideal S3x512x1024 .bf16) (n : ℕ) (h : ∀ a, (![n, 0, 0] : Fin 3 → ℕ) a + (![1, 512, 1024] : Fin 3 → ℕ) a ≤ S3x512x1024.size a) : FVec Ideal S1x512x1024 .bf16 :=
  View.ld (Val := Elt Ideal) (e' := .bf16) x (Rect.unit (s := S3x512x1024) ![n, 0, 0] ![1, 512, 1024] h)

theorem cols_at (x : FVec Ideal S256x512 .f32) (n : Fin 4) (o : ℕ) (ho : o = 128 * n.val) (h) (r : Fin 256) (l : Fin 128) :
    cols x o h (ix2 r l) = x (ix2 r (lane n l)) := by
  subst ho
  refine View.ld_unit_apply_of (Val := Elt Ideal) (e := .f32) x _ _ h (ix2 r l) (ix2 r (lane n l)) fun a => ?_
  fin_cases a <;> simp [ix2, lane]

theorem slabB_at (x : FVec Ideal S3x1x1024 .f32) (n : Fin 3) (o : ℕ) (ho : o = n.val) (h) (d : Fin 1024) : slabB x o h (ix3 0 0 d) = x (ix3 n 0 d) := by
  subst ho
  refine View.ld_unit_apply_of (Val := Elt Ideal) (e := .f32) x _ _ h (ix3 0 0 d) (ix3 n 0 d) fun a => ?_
  fin_cases a <;> simp [ix3]

theorem slabW_at (x : FVec Ideal S3x512x1024 .bf16) (n : Fin 3) (o : ℕ) (ho : o = n.val) (h) (k : Fin 512) (d : Fin 1024) : slabW x o h (ix3 0 k d) = x (ix3 n k d) := by
  subst ho
  refine View.ld_unit_apply_of (Val := Elt Ideal) (e := .bf16) x _ _ h (ix3 0 k d) (ix3 n k d) fun a => ?_
  fin_cases a <;> simp [ix3]

section values

variable (x0 : FVec Ideal S256x1024 .f32) (x1 x2 x3 x4 x5 : FVec Ideal S256x512 .f32) (x6 x7 x8 : FVec Ideal S256x1024 .f32) (x9 : FVec Ideal S512x512 .bf16)
  (x10 : FVec Ideal S1x512 .f32) (x11 : FVec Ideal S1x128 .f32) (x12 : FVec Ideal S3x512x1024 .bf16) (x13 : FVec Ideal S3x1x1024 .f32) (x14 : FVec Ideal S1024x1024 .bf16)
  (x15 x16 : FVec Ideal S1x1024 .f32) (x17 : FVec Ideal S1024x128 .f32) (x18 : FVec Ideal S1x128 .f32)

/-- The block of the linear attention branch. -/
def blockC : FVec Ideal S256x512 .f32 :=
  k0_pay6 (F := Ideal) (k0_pay3 (F := Ideal) x5)
    (k0_pay4 (F := Ideal) (k0_pay3 (F := Ideal) x5) (cols x3 0 inb_S256x512_S256x128_0_0) (cols x4 0 inb_S256x512_S256x128_0_0) x11)
    (k0_pay5 (F := Ideal) (k0_pay3 (F := Ideal) x5) (cols x3 128 inb_S256x512_S256x128_0_128) (cols x4 128 inb_S256x512_S256x128_0_128) x11)
    (cols x3 256 inb_S256x512_S256x128_0_256) (cols x4 256 inb_S256x512_S256x128_0_256) x11
    (cols x3 384 inb_S256x512_S256x128_0_384) (cols x4 384 inb_S256x512_S256x128_0_384) x11

/-- The block of the first two branches merged. -/
def blockAB : FVec Ideal S256x1024 .f32 :=
  k0_pay7 (F := Ideal) (k0_pay2 (F := Ideal) x2 x9 x10) x1 x6
    (slabB x13 0 inb_S3x1x1024_S1x1x1024_0_0_0) (slabW x12 0 inb_S3x512x1024_S1x512x1024_0_0_0) x7
    (slabB x13 1 inb_S3x1x1024_S1x1x1024_1_0_0) (slabW x12 1 inb_S3x512x1024_S1x512x1024_1_0_0)

/-- The block of the residual sums, centred. -/
def centred : FVec Ideal S256x1024 .f32 :=
  k0_pay10 (F := Ideal) (blockC x3 x4 x5 x11) (blockAB x1 x2 x6 x7 x9 x10 x12 x13) x8 (slabB x13 2 inb_S3x1x1024_S1x1x1024_2_0_0)
    (slabW x12 2 inb_S3x512x1024_S1x512x1024_2_0_0) x14 x0

/-- The sums of its rows' squares. -/
def squares : FVec Ideal S256x1 .f32 :=
  k0_pay11 (F := Ideal) (blockC x3 x4 x5 x11) (blockAB x1 x2 x6 x7 x9 x10 x12 x13) x8 (slabB x13 2 inb_S3x1x1024_S1x1x1024_2_0_0)
    (slabW x12 2 inb_S3x512x1024_S1x512x1024_2_0_0) x14 x0

/-- The block of the normalised rows. -/
def normed : FVec Ideal S256x1024 .f32 :=
  k0_pay13 (F := Ideal) (k0_pay8 (F := Ideal) x15) (k0_pay9 (F := Ideal) x16) (centred x0 x1 x2 x3 x4 x5 x6 x7 x8 x9 x10 x11 x12 x13 x14)
    (squares x0 x1 x2 x3 x4 x5 x6 x7 x8 x9 x10 x11 x12 x13 x14) (k0_pay12 (F := Ideal))

/-- The block of the experts' scores. -/
def scores : FVec Ideal S256x128 .f32 :=
  k0_pay15 (F := Ideal) (k0_pay8 (F := Ideal) x15) (k0_pay9 (F := Ideal) x16) (centred x0 x1 x2 x3 x4 x5 x6 x7 x8 x9 x10 x11 x12 x13 x14)
    (squares x0 x1 x2 x3 x4 x5 x6 x7 x8 x9 x10 x11 x12 x13 x14) (k0_pay12 (F := Ideal)) x17

/-- The scores with the routing's offsets. -/
def biased : FVec Ideal S256x128 .f32 :=
  k0_pay16 (F := Ideal) (k0_pay8 (F := Ideal) x15) (k0_pay9 (F := Ideal) x16) (centred x0 x1 x2 x3 x4 x5 x6 x7 x8 x9 x10 x11 x12 x13 x14)
    (squares x0 x1 x2 x3 x4 x5 x6 x7 x8 x9 x10 x11 x12 x13 x14) (k0_pay12 (F := Ideal)) x17 x18

/-- Those a place before, within the groups of four. -/
def biasedTurned : FVec Ideal S256x128 .f32 :=
  k0_pay18 (F := Ideal) (k0_pay8 (F := Ideal) x15) (k0_pay9 (F := Ideal) x16) (centred x0 x1 x2 x3 x4 x5 x6 x7 x8 x9 x10 x11 x12 x13 x14)
    (squares x0 x1 x2 x3 x4 x5 x6 x7 x8 x9 x10 x11 x12 x13 x14) (k0_pay12 (F := Ideal)) x17 x18

/-- The chosen lanes. -/
def chosenB (s n : FVec Ideal S256x128 .f32) : IVec S256x128 1 :=
  k0_pay23 (F := Ideal) lanes s (k0_pay20 (F := Ideal) lanes s (k0_pay17 (F := Ideal)) n k0_pay19 1#32) (k0_pay21 (F := Ideal) lanes s) k0_pay22

/-- The groups' scores. -/
def groupB (s n : FVec Ideal S256x128 .f32) : FVec Ideal S256x128 .f32 :=
  k0_pay24 (F := Ideal) lanes s (k0_pay20 (F := Ideal) lanes s (k0_pay17 (F := Ideal)) n k0_pay19 1#32) (k0_pay21 (F := Ideal) lanes s) k0_pay22

/-- The lanes' weights. -/
def weightB (p s n : FVec Ideal S256x128 .f32) : FVec Ideal S256x128 .f32 :=
  k0_pay31 (F := Ideal) p lanes (chosenB s n) (groupB s n) (k0_pay25 (F := Ideal) lanes (groupB s n)) (k0_pay27 lanes) (k0_pay28 (F := Ideal) lanes (groupB s n))
    (k0_pay29 (F := Ideal) lanes (groupB s n)) (Scalar.ofBits .f32 0x00000000#32) (k0_pay30 (F := Ideal))

theorem blockC_at (r : Fin 256) (f : Fin 512) :
    blockC x3 x4 x5 x11 (ix2 r f) = heads (fun f => x3 (ix2 r f) + x4 (ix2 r f)) (fun f => x5 (ix2 r f)) (fun l => x11 (ix2 0 l)) f := by
  unfold blockC
  rw [heads_at]
  unfold heads head
  split
  · next h =>
    rw [head0_at]
    simp only [cols_at _ 0 0 rfl, swish_at]
    have e : (⟨f.val / 128, by omega⟩ : Fin 4) = 0 := Fin.ext (by simp; omega)
    have e' : (⟨f.val % 128, by omega⟩ : Fin 128) = ⟨f.val, h⟩ := Fin.ext (by simp; omega)
    rw [e, e']
  · split
    · next h' h =>
      rw [head1_at]
      simp only [cols_at _ 1 128 rfl, swish_at]
      have e : (⟨f.val / 128, by omega⟩ : Fin 4) = 1 := Fin.ext (by simp; omega)
      have e' : (⟨f.val % 128, by omega⟩ : Fin 128) = ⟨f.val - 128, h⟩ := Fin.ext (by simp; omega)
      rw [e, e']
    · split
      · next h'' h' h =>
        unfold headOf
        simp only [cols_at _ 2 256 rfl, swish_at]
        have e : (⟨f.val / 128, by omega⟩ : Fin 4) = 2 := Fin.ext (by simp; omega)
        have e' : (⟨f.val % 128, by omega⟩ : Fin 128) = ⟨f.val - 128 - 128, h⟩ := Fin.ext (by simp; omega)
        rw [e, e']
      · next h'' h' h =>
        unfold headOf
        simp only [cols_at _ 3 384 rfl, swish_at]
        have e : (⟨f.val / 128, by omega⟩ : Fin 4) = 3 := Fin.ext (by simp; omega)
        have e' : (⟨f.val % 128, by omega⟩ : Fin 128) = ⟨f.val - 128 - 128 - 128, by omega⟩ := Fin.ext (by simp; omega)
        rw [e, e']

/-- The three branches' gate logits at a row. -/
def gates (a b c : FVec Ideal S256x1024 .f32) (r : Fin 256) : Fin 3 → Fin 1024 → EReal
  | 0 => fun d => a (ix2 r d)
  | 1 => fun d => b (ix2 r d)
  | 2 => fun d => c (ix2 r d)

/-- A row of the block, normalised. -/
def rowOut (r : Fin 256) (d : Fin 1024) : EReal :=
  Cert.Experts.norm (resid (fun d => x0 (ix2 r d))
      (merged (gates x6 x7 x8 r) (fun n d => x13 (ix3 n 0 d))
        (branches (fun f => x1 (ix2 r f)) (fun f => x2 (ix2 r f)) (fun k f => x9 (ix2 k f)) (fun f => x10 (ix2 0 f)) (fun f => x3 (ix2 r f) + x4 (ix2 r f))
          (fun f => x5 (ix2 r f)) (fun l => x11 (ix2 0 l)))
        (fun n k d => x12 (ix3 n k d)))
      (fun k d => x14 (ix2 k d)))
    (x15 (ix2 0 d)) (x16 (ix2 0 d)) d

theorem normed_row (r : Fin 256) (d : Fin 1024) :
    normed x0 x1 x2 x3 x4 x5 x6 x7 x8 x9 x10 x11 x12 x13 x14 x15 x16 (ix2 r d) = rowOut x0 x1 x2 x3 x4 x5 x6 x7 x8 x9 x10 x11 x12 x13 x14 x15 x16 r d := by
  unfold normed centred squares
  rw [norm_at]
  unfold blockAB rowOut merged
  simp only [two_at, blockC_at, glu_at, slabB_at _ 0 0 rfl, slabB_at _ 1 1 rfl, slabB_at _ 2 2 rfl, slabW_at _ 0 0 rfl, slabW_at _ 1 1 rfl, slabW_at _ 2 2 rfl]
  rfl

theorem scores_row (r : Fin 256) (l : Fin 128) :
    scores x0 x1 x2 x3 x4 x5 x6 x7 x8 x9 x10 x11 x12 x13 x14 x15 x16 x17 (ix2 r l)
      = sigm (∑ d : Fin 1024, rowOut x0 x1 x2 x3 x4 x5 x6 x7 x8 x9 x10 x11 x12 x13 x14 x15 x16 r d * x17 (ix2 d l)) := by
  simp only [← normed_row]
  unfold scores normed sigm k0_pay15
  pointwise
  rw [zero_sub]

theorem biased_row (r : Fin 256) (l : Fin 128) :
    biased x0 x1 x2 x3 x4 x5 x6 x7 x8 x9 x10 x11 x12 x13 x14 x15 x16 x17 x18 (ix2 r l)
      = scores x0 x1 x2 x3 x4 x5 x6 x7 x8 x9 x10 x11 x12 x13 x14 x15 x16 x17 (ix2 r l) + x18 (ix2 0 l) := by
  unfold scores biased k0_pay16
  pointwise

theorem turned_row (r : Fin 256) (l : Fin 128) :
    biasedTurned x0 x1 x2 x3 x4 x5 x6 x7 x8 x9 x10 x11 x12 x13 x14 x15 x16 x17 x18 (ix2 r l)
      = turned 4 1 (row (biased x0 x1 x2 x3 x4 x5 x6 x7 x8 x9 x10 x11 x12 x13 x14 x15 x16 x17 x18) r) l := by
  unfold biased biasedTurned k0_pay18
  pointwise
  simp only [pick41]
  rfl

theorem weight_row (p s n : FVec Ideal S256x128 .f32) (r : Fin 256) (hn : ∀ l, n (ix2 r l) = turned 4 1 (row s r) l) (l : Fin 128) :
    weightB p s n (ix2 r l) = weight (row p r) (row s r) l :=
  weight_at p s _ _ r l (chosen_at s n r hn l) (funext fun l => score_at s n r hn l)

theorem combine_row (w : FVec Ideal S256x128 .f32) (r : Fin 256) (l : Fin 128) :
    k0_pay1 (F := Ideal) w (ix2 r l) = Ideal.div (w (ix2 r l)) (∑ l : Fin 128, w (ix2 r l)) := by
  pointwise [k0_pay1]

end values

variable (m : (ℓ : Loc nD τ sig) → Buf (Elt Ideal) ℓ)

theorem out_x1 (c : Dev nD) (t : Fin cfg0.N) :
    (outsAt0 (F := Ideal) m c t).1 = normed (iblk m c 0 t) (iblk m c 1 t) (iblk m c 2 t) (iblk m c 3 t) (iblk m c 4 t) (iblk m c 5 t) (X0_6 m c t) (X0_7 m c t)
      (X0_8 m c t) (iblk m c 9 t) (iblk m c 10 t) (iblk m c 11 t) (iblk m c 12 t) (iblk m c 13 t) (iblk m c 14 t) (iblk m c 15 t) (iblk m c 16 t) := by
  unfold outsAt0
  dsimp only
  unfold out0_A_19
  frame_out
  rfl

theorem out_xb (c : Dev nD) (t : Fin cfg0.N) (r : Fin 256) (d : Fin 1024) :
    (outsAt0 (F := Ideal) m c t).2.1 (ix2 r d) = (outsAt0 (F := Ideal) m c t).1 (ix2 r d) := by
  unfold outsAt0
  dsimp only
  unfold out0_A_19 out0_A_20
  frame_out
  unfold k0_pay14
  rfl

theorem out_comb (c : Dev nD) (t : Fin cfg0.N) :
    (outsAt0 (F := Ideal) m c t).2.2 = k0_pay1 (F := Ideal) (weightB
      (scores (iblk m c 0 t) (iblk m c 1 t) (iblk m c 2 t) (iblk m c 3 t) (iblk m c 4 t) (iblk m c 5 t) (X0_6 m c t) (X0_7 m c t)
        (X0_8 m c t) (iblk m c 9 t) (iblk m c 10 t) (iblk m c 11 t) (iblk m c 12 t) (iblk m c 13 t) (iblk m c 14 t) (iblk m c 15 t) (iblk m c 16 t) (iblk m c 17 t))
      (biased (iblk m c 0 t) (iblk m c 1 t) (iblk m c 2 t) (iblk m c 3 t) (iblk m c 4 t) (iblk m c 5 t) (X0_6 m c t) (X0_7 m c t)
        (X0_8 m c t) (iblk m c 9 t) (iblk m c 10 t) (iblk m c 11 t) (iblk m c 12 t) (iblk m c 13 t) (iblk m c 14 t) (iblk m c 15 t) (iblk m c 16 t) (iblk m c 17 t) (iblk m c 18 t))
      (biasedTurned (iblk m c 0 t) (iblk m c 1 t) (iblk m c 2 t) (iblk m c 3 t) (iblk m c 4 t) (iblk m c 5 t) (X0_6 m c t) (X0_7 m c t)
        (X0_8 m c t) (iblk m c 9 t) (iblk m c 10 t) (iblk m c 11 t) (iblk m c 12 t) (iblk m c 13 t) (iblk m c 14 t) (iblk m c 15 t) (iblk m c 16 t) (iblk m c 17 t) (iblk m c 18 t))) := by
  unfold outsAt0
  dsimp only
  unfold out0_A_21
  frame_out
  rfl

end Cert.Merge

end
-- ==== Proof.Merge.Windows.lean ====
/- The merge call: the blocks a grid point reads, from the arguments. -/
module

public import proofs.«01_k».proof.Proof.Merge.Pads
public import proofs.«01_k».proof.Proof.Merge.Block
import all proofs.«01_k».proof.Proof.Gen.Kernel5Ideal.Value
import all proofs.«01_k».proof.Proof.Gen.Kernel5Ideal.Frame

@[expose] public section

set_option maxRecDepth 16384

noncomputable section

namespace Cert.Merge

open Idealize.ShloMosaic Idealize.ShloMosaic.TcCoe Idealize.SL.Sem
open Cert.Kernel5Ideal Cert.Kernel5Ideal.Gen

variable (m : (ℓ : Loc nD τ sig) → Buf (Elt Ideal) ℓ)

/-- Where the blocks of the batch's rows lie. -/
theorem rows_index : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 6 ∧ win0_6.index t 0 = t.val ∧ win0_6.index t 1 = 0 ∧ win0_7.index t 0 = t.val ∧ win0_7.index t 1 = 1 ∧ win0_8.index t 0 = t.val ∧ win0_8.index t 1 = 2 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 6 ∧ win0_6.index t 0 = t.val ∧ win0_6.index t 1 = 0 ∧ win0_7.index t 0 = t.val ∧ win0_7.index t 1 = 1 ∧ win0_8.index t 0 = t.val ∧ win0_8.index t 1 = 2)

/-- The blocks of the weights are whole arrays. -/
theorem fixed_index : ∀ t : Fin cfg0.N, win0_9.index t 0 = 0 ∧ win0_9.index t 1 = 0 ∧ win0_10.index t 0 = 0 ∧ win0_10.index t 1 = 0 ∧ win0_11.index t 0 = 0 ∧ win0_11.index t 1 = 0 ∧ win0_14.index t 0 = 0 ∧ win0_14.index t 1 = 0 ∧ win0_15.index t 0 = 0 ∧ win0_15.index t 1 = 0 ∧ win0_16.index t 0 = 0 ∧ win0_16.index t 1 = 0 ∧ win0_17.index t 0 = 0 ∧ win0_17.index t 1 = 0 ∧ win0_18.index t 0 = 0 ∧ win0_18.index t 1 = 0 ∧ win0_12.index t 0 = 0 ∧ win0_12.index t 1 = 0 ∧ win0_12.index t 2 = 0 ∧ win0_13.index t 0 = 0 ∧ win0_13.index t 1 = 0 ∧ win0_13.index t 2 = 0 :=
  (by decide +kernel : ∀ t : Fin grid0.N, win0_9.index t 0 = 0 ∧ win0_9.index t 1 = 0 ∧ win0_10.index t 0 = 0 ∧ win0_10.index t 1 = 0 ∧ win0_11.index t 0 = 0 ∧ win0_11.index t 1 = 0 ∧ win0_14.index t 0 = 0 ∧ win0_14.index t 1 = 0 ∧ win0_15.index t 0 = 0 ∧ win0_15.index t 1 = 0 ∧ win0_16.index t 0 = 0 ∧ win0_16.index t 1 = 0 ∧ win0_17.index t 0 = 0 ∧ win0_17.index t 1 = 0 ∧ win0_18.index t 0 = 0 ∧ win0_18.index t 1 = 0 ∧ win0_12.index t 0 = 0 ∧ win0_12.index t 1 = 0 ∧ win0_12.index t 2 = 0 ∧ win0_13.index t 0 = 0 ∧ win0_13.index t 1 = 0 ∧ win0_13.index t 2 = 0)

/-- Where the results' blocks lie. -/
theorem out_index : ∀ t : Fin cfg0.N, win0_19.index t 0 = t.val ∧ win0_19.index t 1 = 0 ∧ win0_20.index t 0 = t.val ∧ win0_20.index t 1 = 0 ∧ win0_21.index t 0 = t.val ∧ win0_21.index t 1 = 0 :=
  (by decide +kernel : ∀ t : Fin grid0.N, win0_19.index t 0 = t.val ∧ win0_19.index t 1 = 0 ∧ win0_20.index t 0 = t.val ∧ win0_20.index t 1 = 0 ∧ win0_21.index t 0 = t.val ∧ win0_21.index t 1 = 0)

theorem lt128 (t : Fin cfg0.N) : t.val < 128 := lt_of_lt_of_eq t.isLt (show cfg0.N = 128 from N_0)

/-- The row of the batch that row `r` of point `t`'s blocks is. -/
def rowAt (t : Fin cfg0.N) (r : Fin 256) : Fin 32768 := ⟨t.val * 256 + r, by have := lt128 t; omega⟩

/-- Column `d` of part `n` of the gate columns. -/
def gateCol (n : Fin 3) (d : Fin 1024) : Fin 3200 := ⟨1024 * n.val + d, by omega⟩

/-- A column of the last part of the projection. -/
def lastCol (f : Fin 512) : Fin 3584 := ⟨3072 + f, by omega⟩

theorem x_at (c : Dev nD) (t : Fin cfg0.N) (r : Fin 256) (k : Fin 1024) :
    iblk m c 0 t (ix2 r k) = m ((c : Thread nD τ).loc main_arg0) (ix2 (rowAt t r) k) := by
  unfold rowAt
  blk_ext [iblk, V, rows_index t]

theorem oa_at (c : Dev nD) (t : Fin cfg0.N) (r : Fin 256) (k : Fin 512) :
    iblk m c 1 t (ix2 r k) = m ((c : Thread nD τ).loc main_arg1) (ix2 (rowAt t r) k) := by
  unfold rowAt
  blk_ext [iblk, V, rows_index t]

theorem y_at (c : Dev nD) (t : Fin cfg0.N) (r : Fin 256) (k : Fin 512) :
    iblk m c 2 t (ix2 r k) = m ((c : Thread nD τ).loc main_arg2) (ix2 (rowAt t r) k) := by
  unfold rowAt
  blk_ext [iblk, V, rows_index t]

theorem gf_at (c : Dev nD) (t : Fin cfg0.N) (r : Fin 256) (k : Fin 512) :
    iblk m c 3 t (ix2 r k) = m ((c : Thread nD τ).loc main_arg3) (ix2 (rowAt t r) k) := by
  unfold rowAt
  blk_ext [iblk, V, rows_index t]

theorem gb_at (c : Dev nD) (t : Fin cfg0.N) (r : Fin 256) (k : Fin 512) :
    iblk m c 4 t (ix2 r k) = m ((c : Thread nD τ).loc main_arg4) (ix2 (rowAt t r) k) := by
  unfold rowAt
  blk_ext [iblk, V, rows_index t]

theorem r_at (c : Dev nD) (t : Fin cfg0.N) (r : Fin 256) (k : Fin 512) :
    iblk m c 5 t (ix2 r k) = m ((c : Thread nD τ).loc main_arg5) (ix2 (rowAt t r) (lastCol k)) := by
  unfold rowAt lastCol
  blk_ext [iblk, V, rows_index t]

theorem gate0_at (c : Dev nD) (t : Fin cfg0.N) (r : Fin 256) (k : Fin 1024) :
    X0_6 m c t (ix2 r k) = m ((c : Thread nD τ).loc main_arg6) (ix2 (rowAt t r) (gateCol 0 k)) := by
  unfold X0_6 Pipeline.Window.fill
  rw [dif_pos (moved0_6 t _)]
  unfold rowAt gateCol
  blk_ext [iblk, V, rows_index t]

theorem gate1_at (c : Dev nD) (t : Fin cfg0.N) (r : Fin 256) (k : Fin 1024) :
    X0_7 m c t (ix2 r k) = m ((c : Thread nD τ).loc main_arg6) (ix2 (rowAt t r) (gateCol 1 k)) := by
  unfold X0_7 Pipeline.Window.fill
  rw [dif_pos (moved0_7 t _)]
  unfold rowAt gateCol
  blk_ext [iblk, V, rows_index t]

theorem gate2_at (c : Dev nD) (t : Fin cfg0.N) (r : Fin 256) (k : Fin 1024) :
    X0_8 m c t (ix2 r k) = m ((c : Thread nD τ).loc main_arg6) (ix2 (rowAt t r) (gateCol 2 k)) := by
  unfold X0_8 Pipeline.Window.fill
  rw [dif_pos (moved0_8 t _)]
  unfold rowAt gateCol
  blk_ext [iblk, V, rows_index t]

theorem wg_at (c : Dev nD) (t : Fin cfg0.N) (k f : Fin 512) :
    iblk m c 9 t (ix2 k f) = m ((c : Thread nD τ).loc main_arg7) (ix2 k f) := by
  have e : iblk m c 9 t (ix2 k f) = V m c main_v8 (ix2 k f) := by
    blk_ext [iblk, fixed_index t]
  rw [e]; entry_read; rfl

theorem bg_at (c : Dev nD) (t : Fin cfg0.N) (f : Fin 512) :
    iblk m c 10 t (ix2 0 f) = m ((c : Thread nD τ).loc main_arg8) (ix1 f) := by
  have e : iblk m c 10 t (ix2 0 f) = V m c main_v9 (ix2 0 f) := by
    blk_ext [iblk, fixed_index t]
  rw [e]; entry_read; pointwise

theorem ng_at (c : Dev nD) (t : Fin cfg0.N) (f : Fin 128) :
    iblk m c 11 t (ix2 0 f) = m ((c : Thread nD τ).loc main_arg9) (ix1 f) := by
  have e : iblk m c 11 t (ix2 0 f) = V m c main_v10 (ix2 0 f) := by
    blk_ext [iblk, fixed_index t]
  rw [e]; entry_read; pointwise

theorem up_at (c : Dev nD) (t : Fin cfg0.N) (n : Fin 3) (k : Fin 512) (d : Fin 1024) :
    iblk m c 12 t (ix3 n k d) = m ((c : Thread nD τ).loc main_arg10) (ix3 n k d) := by
  have e : iblk m c 12 t (ix3 n k d) = V m c main_v11 (ix3 n k d) := by
    blk_ext [iblk, fixed_index t]
  rw [e]; entry_read; rfl

theorem mb_at (c : Dev nD) (t : Fin cfg0.N) (n : Fin 3) (d : Fin 1024) :
    iblk m c 13 t (ix3 n 0 d) = m ((c : Thread nD τ).loc main_arg11) (ix2 n d) := by
  have e : iblk m c 13 t (ix3 n 0 d) = V m c main_v12 (ix3 n 0 d) := by
    blk_ext [iblk, fixed_index t]
  rw [e]; entry_read; pointwise

theorem out_at (c : Dev nD) (t : Fin cfg0.N) (k d : Fin 1024) :
    iblk m c 14 t (ix2 k d) = m ((c : Thread nD τ).loc main_arg12) (ix2 k d) := by
  have e : iblk m c 14 t (ix2 k d) = V m c main_v13 (ix2 k d) := by
    blk_ext [iblk, fixed_index t]
  rw [e]; entry_read; rfl

theorem g_at (c : Dev nD) (t : Fin cfg0.N) (d : Fin 1024) :
    iblk m c 15 t (ix2 0 d) = m ((c : Thread nD τ).loc main_arg13) (ix1 d) := by
  have e : iblk m c 15 t (ix2 0 d) = V m c main_v14 (ix2 0 d) := by
    blk_ext [iblk, fixed_index t]
  rw [e]; entry_read; pointwise

theorem b_at (c : Dev nD) (t : Fin cfg0.N) (d : Fin 1024) :
    iblk m c 16 t (ix2 0 d) = m ((c : Thread nD τ).loc main_arg14) (ix1 d) := by
  have e : iblk m c 16 t (ix2 0 d) = V m c main_v15 (ix2 0 d) := by
    blk_ext [iblk, fixed_index t]
  rw [e]; entry_read; pointwise

set_option maxRecDepth 200000 in
/-- The router's weights in the first sixteen lanes. -/
theorem rw_at (c : Dev nD) (t : Fin cfg0.N) (d : Fin 1024) (l : Fin 128) (h : l.val < 16) :
    iblk m c 17 t (ix2 d l) = m ((c : Thread nD τ).loc main_arg15) (ix2 d ⟨l, h⟩) := by
  have e : iblk m c 17 t (ix2 d l) = V m c main_v2 (ix2 d l) := by
    blk_ext [iblk, fixed_index t]
  have e' : V m c main_v2 = Host.scatter scatter_S1024x128_S1_S1024x16_01_n_1_0 (fun _ b => b) (broadcastInDim S1024x128 ![] bcast_S_S1024x128 (constant (F := Ideal) S_ .f32 0x00000000#32) : FVec Ideal S1024x128 .f32)
      (broadcastInDim S1 ![] bcast_S_S1 (constantI S_ 32 0#32)) (m ((c : Thread nD τ).loc main_arg15) : FVec Ideal S1024x16 .f32) := by
    unfold V; after_results <;> rfl
  rw [e, e']
  refine (set_columns _ _ (fun i => ?_) _ d l).trans ?_
  · idx_vars i
    pointwise
  · rw [dif_pos h]

/-- The router's offsets in the first sixteen lanes. -/
theorem rb_at (c : Dev nD) (t : Fin cfg0.N) (l : Fin 128) (h : l.val < 16) :
    iblk m c 18 t (ix2 0 l) = m ((c : Thread nD τ).loc main_arg16) (ix1 ⟨l, h⟩) := by
  have e : iblk m c 18 t (ix2 0 l) = V m c main_v7 (ix2 0 l) := by
    blk_ext [iblk, fixed_index t]
  have e' : V m c main_v7 = Host.scatter scatter_S1x128_S2_S16_0_0_01_0 (fun _ b => b) (broadcastInDim S1x128 ![] bcast_S_S1x128 (constant (F := Ideal) S_ .f32 0x00000000#32) : FVec Ideal S1x128 .f32)
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c : Thread nD τ).loc main_arg16) : FVec Ideal S16 .f32) := by
    unfold V; after_results <;> rfl
  rw [e, e']
  refine (set_lanes _ _ (fun i => ?_) _ l).trans ?_
  · idx_vars i
    pointwise
    split <;> rfl
  · rw [dif_pos h]

end Cert.Merge

end
-- ==== Proof.Merge.Array.lean ====
/- The merge call: the arrays the call leaves, entry by entry. -/
module

public import proofs.«01_k».proof.Proof.Merge.Windows
import all proofs.«01_k».proof.Proof.Gen.Kernel5Ideal.Value
import all proofs.«01_k».proof.Proof.Gen.Kernel5Ideal.Frame

@[expose] public section

set_option maxRecDepth 16384

noncomputable section

namespace Cert.Merge

open Idealize.ShloMosaic Idealize.ShloMosaic.TcCoe Idealize.SL.Sem
open Cert.Kernel5Ideal Cert.Kernel5Ideal.Gen

/-- Row `t` of the arguments. -/
def rowOf (a0 : FVec Ideal S32768x1024 .f32) (a1 a2 a3 a4 : FVec Ideal S32768x512 .f32) (a5 : FVec Ideal S32768x3584 .f32) (a6 : FVec Ideal S32768x3200 .f32)
    (t : Fin 32768) : Row where
  x d := a0 (ix2 t d)
  oa f := a1 (ix2 t f)
  y f := a2 (ix2 t f)
  gf f := a3 (ix2 t f)
  gb f := a4 (ix2 t f)
  r f := a5 (ix2 t (lastCol f))
  gate n d := a6 (ix2 t (gateCol n d))

/-- The weights of the arguments. -/
def weightsOf (a7 : FVec Ideal S512x512 .f32) (a8 : FVec Ideal S512 .f32) (a9 : FVec Ideal S128 .f32) (a10 : FVec Ideal S3x512x1024 .f32)
    (a11 : FVec Ideal S3x1024 .f32) (a12 : FVec Ideal S1024x1024 .f32) (a13 a14 : FVec Ideal S1024 .f32) (a15 : FVec Ideal S1024x16 .f32)
    (a16 : FVec Ideal S16 .f32) : Weights where
  wg k f := a7 (ix2 k f)
  bg f := a8 (ix1 f)
  ng l := a9 (ix1 l)
  up n k d := a10 (ix3 n k d)
  mb n d := a11 (ix2 n d)
  out k d := a12 (ix2 k d)
  g d := a13 (ix1 d)
  b d := a14 (ix1 d)
  rw d j := a15 (ix2 d j)
  rb j := a16 (ix1 j)

variable (m : (ℓ : Loc nD τ sig) → Buf (Elt Ideal) ℓ)

/-- Row `t` of the call's arguments. -/
abbrev rowM (c : Dev nD) (t : Fin 32768) : Row := rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t

/-- The call's weights. -/
abbrev weightsM (c : Dev nD) : Weights := weightsOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

theorem gates_at (c : Dev nD) (t : Fin cfg0.N) (r : Fin 256) :
    gates (X0_6 m c t) (X0_7 m c t) (X0_8 m c t) r = (rowM m c (rowAt t r)).gate := by
  funext n d
  match n with
  | 0 => exact gate0_at m c t r d
  | 1 => exact gate1_at m c t r d
  | 2 => exact gate2_at m c t r d

/-- A point's normalised row. -/
theorem row_point (c : Dev nD) (t : Fin cfg0.N) (r : Fin 256) (d : Fin 1024) :
    rowOut (iblk m c 0 t) (iblk m c 1 t) (iblk m c 2 t) (iblk m c 3 t) (iblk m c 4 t) (iblk m c 5 t) (X0_6 m c t) (X0_7 m c t) (X0_8 m c t) (iblk m c 9 t)
      (iblk m c 10 t) (iblk m c 11 t) (iblk m c 12 t) (iblk m c 13 t) (iblk m c 14 t) (iblk m c 15 t) (iblk m c 16 t) r d
      = outRow (rowM m c (rowAt t r)) (weightsM m c) d := by
  unfold rowOut
  rw [gates_at]
  simp only [x_at, oa_at, y_at, gf_at, gb_at, r_at, wg_at, bg_at, ng_at, up_at, mb_at, out_at, g_at, b_at]
  rfl

theorem x1_point (c : Dev nD) (t : Fin cfg0.N) (r : Fin 256) (d : Fin 1024) :
    (outsAt0 (F := Ideal) m c t).1 (ix2 r d) = outRow (rowM m c (rowAt t r)) (weightsM m c) d := by
  rw [out_x1]
  exact (normed_row _ _ _ _ _ _ _ _ _ _ _ _ _ _ _ _ _ r d).trans (row_point m c t r d)

/-- A point's scores. -/
theorem score_point (c : Dev nD) (t : Fin cfg0.N) (r : Fin 256) (l : Fin 128) (h : l.val < 16) :
    scores (iblk m c 0 t) (iblk m c 1 t) (iblk m c 2 t) (iblk m c 3 t) (iblk m c 4 t) (iblk m c 5 t) (X0_6 m c t) (X0_7 m c t) (X0_8 m c t) (iblk m c 9 t)
      (iblk m c 10 t) (iblk m c 11 t) (iblk m c 12 t) (iblk m c 13 t) (iblk m c 14 t) (iblk m c 15 t) (iblk m c 16 t) (iblk m c 17 t) (ix2 r l)
      = prob (rowM m c (rowAt t r)) (weightsM m c) ⟨l, h⟩ := by
  refine (scores_row _ _ _ _ _ _ _ _ _ _ _ _ _ _ _ _ _ _ r l).trans ?_
  unfold prob
  simp only [row_point, rw_at m c t _ l h]
  rfl

theorem biased_point (c : Dev nD) (t : Fin cfg0.N) (r : Fin 256) (l : Fin 128) (h : l.val < 16) :
    biased (iblk m c 0 t) (iblk m c 1 t) (iblk m c 2 t) (iblk m c 3 t) (iblk m c 4 t) (iblk m c 5 t) (X0_6 m c t) (X0_7 m c t) (X0_8 m c t) (iblk m c 9 t)
      (iblk m c 10 t) (iblk m c 11 t) (iblk m c 12 t) (iblk m c 13 t) (iblk m c 14 t) (iblk m c 15 t) (iblk m c 16 t) (iblk m c 17 t) (iblk m c 18 t) (ix2 r l)
      = bid (rowM m c (rowAt t r)) (weightsM m c) ⟨l, h⟩ := by
  refine (biased_row _ _ _ _ _ _ _ _ _ _ _ _ _ _ _ _ _ _ _ r l).trans ?_
  rw [score_point m c t r l h, rb_at m c t l h]
  rfl

/-- Lanes whose first sixteen are known have known weights. -/
theorem weights_from (R : Row) (W : Weights) (p s : Fin 128 → EReal) (hp : ∀ (l : Fin 128) (h : l.val < 16), p l = prob R W ⟨l, h⟩)
    (hs : ∀ (l : Fin 128) (h : l.val < 16), s l = bid R W ⟨l, h⟩) (l : Fin 128) :
    Ideal.div (weight p s l) (∑ l : Fin 128, weight p s l) = combRow R W l := by
  have hp' : (fun n i => p (pos n i)) = fun n i => prob R W (mem n i) :=
    funext fun n => funext fun i => hp _ (by unfold pos; dsimp only; omega)
  have hs' : (fun n i => s (pos n i)) = fun n i => bid R W (mem n i) :=
    funext fun n => funext fun i => hs _ (by unfold pos; dsimp only; omega)
  unfold combRow
  rw [weight_sum, hp', hs']
  refine congrArg (fun z => Ideal.div z _) ?_
  split
  · next h =>
    have e : l = pos (grp ⟨l, h⟩) (sub ⟨l, h⟩) := Fin.ext (by unfold pos grp sub; dsimp only; omega)
    conv_lhs => rw [e]
    rw [weight_pos, hp', hs']
    rfl
  · next h => exact weight_rest p s l h

theorem comb_point (c : Dev nD) (t : Fin cfg0.N) (r : Fin 256) (l : Fin 128) :
    (outsAt0 (F := Ideal) m c t).2.2 (ix2 r l) = combRow (rowM m c (rowAt t r)) (weightsM m c) l := by
  rw [out_comb]
  refine (combine_row _ r l).trans ?_
  simp only [weight_row _ _ _ r (turned_row _ _ _ _ _ _ _ _ _ _ _ _ _ _ _ _ _ _ _ r)]
  exact weights_from _ _ _ _ (score_point m c t r) (biased_point m c t r) l

theorem first_array (c : Dev nD) : (dats m 0 c).arrAt 19 cfg0.N = fun j => outRow (rowM m c (j 0)) (weightsM m c) (j 1) := by
  refine (dats m 0 c).arrAt_eq_of_covers 19 _ (by decide +kernel) fun t hf y => ?_
  blk_simp
  rw [after0_19]
  idx_vars y
  obtain ⟨e0, e1, -⟩ := out_index t
  refine (x1_point m c t y0 y1).trans (congrArg₂ (fun a b => outRow (rowM m c a) (weightsM m c) b) (Fin.ext ?_) (Fin.ext ?_))
  · unfold rowAt; blk_simp; rw [e0]
  · blk_simp; rw [e1]; omega

theorem second_array (c : Dev nD) : (dats m 0 c).arrAt 20 cfg0.N = fun j => outRow (rowM m c (j 0)) (weightsM m c) (j 1) := by
  refine (dats m 0 c).arrAt_eq_of_covers 20 _ (by decide +kernel) fun t hf y => ?_
  blk_simp
  rw [after0_20]
  idx_vars y
  obtain ⟨-, -, e0, e1, -⟩ := out_index t
  refine ((out_xb m c t y0 y1).trans (x1_point m c t y0 y1)).trans
    (congrArg₂ (fun a b => outRow (rowM m c a) (weightsM m c) b) (Fin.ext ?_) (Fin.ext ?_))
  · unfold rowAt; blk_simp; rw [e0]
  · blk_simp; rw [e1]; omega

theorem third_array (c : Dev nD) : (dats m 0 c).arrAt 21 cfg0.N = fun j => combRow (rowM m c (j 0)) (weightsM m c) (j 1) := by
  refine (dats m 0 c).arrAt_eq_of_covers 21 _ (by decide +kernel) fun t hf y => ?_
  blk_simp
  rw [after0_21]
  idx_vars y
  obtain ⟨-, -, -, -, e0, e1⟩ := out_index t
  refine (comb_point m c t y0 y1).trans (congrArg₂ (fun a b => combRow (rowM m c a) (weightsM m c) b) (Fin.ext ?_) (Fin.ext ?_))
  · unfold rowAt; blk_simp; rw [e0]
  · blk_simp; rw [e1]; omega

end Cert.Merge

end
-- ==== Proof.Merge.RefTerms.lean ====
/- The merge call's reference: its steps, in order. -/
module

public import proofs.«01_k».proof.Proof.Merge.Spec
public import Idealize.ShloMosaic.Lib.Pipeline.ValueKit
public import proofs.«01_k».proof.Proof.Gen.Reference5Ideal.Run

@[expose] public section

set_option maxRecDepth 16384

noncomputable section

namespace Cert.Merge

open Idealize.ShloMosaic Idealize.ShloMosaic.TcCoe Idealize.SL.Sem
open Idealize.ShloMosaic.StableHlo Cert.Reference5Ideal Cert.Reference5Ideal.Gen

/-- The gelu of the state space rows. -/
def stepGelu (Y : FVec Ideal S32768x512 .f32) : FVec Ideal S32768x512 .f32 :=
  mulf (F := Ideal) Y (mulf (F := Ideal) (broadcastInDim S32768x512 ![] bcast_S_S32768x512 (constant (F := Ideal) S_ .f32 0x3F000000#32)) (addf (F := Ideal) (broadcastInDim S32768x512 ![] bcast_S_S32768x512 (constant (F := Ideal) S_ .f32 0x3F800000#32)) (Host.tanh (F := Ideal) (mulf (F := Ideal) (broadcastInDim S32768x512 ![] bcast_S_S32768x512 (constant (F := Ideal) S_ .f32 0x3F4C422A#32)) (addf (F := Ideal) Y (mulf (F := Ideal) (broadcastInDim S32768x512 ![] bcast_S_S32768x512 (constant (F := Ideal) S_ .f32 0x3D372713#32)) (mulf (F := Ideal) (mulf (F := Ideal) Y Y) Y)))))))

/-- The state space rows gated by a linear form of themselves. -/
def stepGlu (Y : FVec Ideal S32768x512 .f32) (W : FVec Ideal S512x512 .f32) (B : FVec Ideal S512 .f32) : FVec Ideal S32768x512 .f32 :=
  mulf (F := Ideal) Y (Host.divf (F := Ideal) (broadcastInDim S32768x512 ![] bcast_S_S32768x512 (constant (F := Ideal) S_ .f32 0x3F800000#32)) (addf (F := Ideal) (broadcastInDim S32768x512 ![] bcast_S_S32768x512 (constant (F := Ideal) S_ .f32 0x3F800000#32)) (Host.exp (F := Ideal) (Host.negf (F := Ideal) (addf (F := Ideal) (Host.dotGeneral (F := Ideal) dot_S32768x512_S512x512_S32768x512_1_0_0_1_n_n none Y W) (broadcastInDim S32768x512 ![0, 1] bcast_S1x512_S32768x512_0_1 (broadcastInDim S1x512 ![1] bcast_S512_S1x512_1 B)))))))

/-- The two directions of the linear attention added, by head. -/
def stepBoth (A B : FVec Ideal S32768x512 .f32) : FVec Ideal S32768x4x128 .f32 :=
  shapeCast _ (addf (F := Ideal) A B) shapeCasts_S32768x512_S32768x4x128

/-- The output gate's columns. -/
def stepLast (X : FVec Ideal S32768x3584 .f32) : FVec Ideal S32768x512 .f32 :=
  extractStridedSlice S32768x512 ![0, 3072] X slices_S32768x3584_S32768x512_0_3072

/-- The heads normalised and gated. -/
def stepHeads (O : FVec Ideal S32768x4x128 .f32) (R : FVec Ideal S32768x512 .f32) (G : FVec Ideal S128 .f32) : FVec Ideal S32768x512 .f32 :=
  shapeCast _ (mulf (F := Ideal) (mulf (F := Ideal) (mulf (F := Ideal) O (broadcastInDim S32768x4x128 ![0, 1, 2] bcast_S32768x4x1_S32768x4x128_0_1_2 (Host.rsqrt (F := Ideal) (addf (F := Ideal) (Host.divf (F := Ideal) (broadcastInDim S32768x4x1 ![0, 1] bcast_S32768x4_S32768x4x1_0_1 (Host.reduceAdd (F := Ideal) (mulf (F := Ideal) O O) (constant (F := Ideal) S_ .f32 0x00000000#32) reducesTo_S32768x4x128_S32768x4_d2 h_S_)) (broadcastInDim S32768x4x1 ![] bcast_S_S32768x4x1 (constant (F := Ideal) S_ .f32 0x43000000#32))) (broadcastInDim S32768x4x1 ![] bcast_S_S32768x4x1 (constant (F := Ideal) S_ .f32 0x3727C5AC#32)))))) (broadcastInDim S32768x4x128 ![0, 1, 2] bcast_S1x1x128_S32768x4x128_0_1_2 (broadcastInDim S1x1x128 ![2] bcast_S128_S1x1x128_2 G))) (shapeCast _ (mulf (F := Ideal) R (Host.divf (F := Ideal) (broadcastInDim S32768x512 ![] bcast_S_S32768x512 (constant (F := Ideal) S_ .f32 0x3F800000#32)) (addf (F := Ideal) (broadcastInDim S32768x512 ![] bcast_S_S32768x512 (constant (F := Ideal) S_ .f32 0x3F800000#32)) (Host.exp (F := Ideal) (Host.negf (F := Ideal) R))))) shapeCasts_S32768x512_S32768x4x128)) shapeCasts_S32768x4x128_S32768x512

/-- The merge gates' columns, by branch. -/
def stepGates (X : FVec Ideal S32768x3200 .f32) : FVec Ideal S32768x3x1024 .f32 :=
  shapeCast _ (extractStridedSlice S32768x3072 ![0, 0] X slices_S32768x3200_S32768x3072_0_0) shapeCasts_S32768x3072_S32768x3x1024

/-- The gated share of the first branch. -/
def stepShare0 (L : FVec Ideal S32768x3x1024 .f32) (M : FVec Ideal S3x1024 .f32) (O : FVec Ideal S32768x512 .f32) (U : FVec Ideal S3x512x1024 .f32) : FVec Ideal S32768x1024 .f32 :=
  mulf (F := Ideal) (Host.divf (F := Ideal) (broadcastInDim S32768x1024 ![] bcast_S_S32768x1024 (constant (F := Ideal) S_ .f32 0x3F800000#32)) (addf (F := Ideal) (broadcastInDim S32768x1024 ![] bcast_S_S32768x1024 (constant (F := Ideal) S_ .f32 0x3F800000#32)) (Host.exp (F := Ideal) (Host.negf (F := Ideal) (addf (F := Ideal) (shapeCast _ (extractStridedSlice S32768x1x1024 ![0, 0, 0] L slices_S32768x3x1024_S32768x1x1024_0_0_0) shapeCasts_S32768x1x1024_S32768x1024) (broadcastInDim S32768x1024 ![0, 1] bcast_S1x1024_S32768x1024_0_1 (broadcastInDim S1x1024 ![1] bcast_S1024_S1x1024_1 (shapeCast _ (extractStridedSlice S1x1024 ![0, 0] M slices_S3x1024_S1x1024_0_0) shapeCasts_S1x1024_S1024)))))))) (Host.dotGeneral (F := Ideal) dot_S32768x512_S512x1024_S32768x1024_1_0_0_1_n_n none O (shapeCast _ (extractStridedSlice S1x512x1024 ![0, 0, 0] U slices_S3x512x1024_S1x512x1024_0_0_0) shapeCasts_S1x512x1024_S512x1024))

/-- The gated share of the second branch. -/
def stepShare1 (L : FVec Ideal S32768x3x1024 .f32) (M : FVec Ideal S3x1024 .f32) (O : FVec Ideal S32768x512 .f32) (U : FVec Ideal S3x512x1024 .f32) : FVec Ideal S32768x1024 .f32 :=
  mulf (F := Ideal) (Host.divf (F := Ideal) (broadcastInDim S32768x1024 ![] bcast_S_S32768x1024 (constant (F := Ideal) S_ .f32 0x3F800000#32)) (addf (F := Ideal) (broadcastInDim S32768x1024 ![] bcast_S_S32768x1024 (constant (F := Ideal) S_ .f32 0x3F800000#32)) (Host.exp (F := Ideal) (Host.negf (F := Ideal) (addf (F := Ideal) (shapeCast _ (extractStridedSlice S32768x1x1024 ![0, 1, 0] L slices_S32768x3x1024_S32768x1x1024_0_1_0) shapeCasts_S32768x1x1024_S32768x1024) (broadcastInDim S32768x1024 ![0, 1] bcast_S1x1024_S32768x1024_0_1 (broadcastInDim S1x1024 ![1] bcast_S1024_S1x1024_1 (shapeCast _ (extractStridedSlice S1x1024 ![1, 0] M slices_S3x1024_S1x1024_1_0) shapeCasts_S1x1024_S1024)))))))) (Host.dotGeneral (F := Ideal) dot_S32768x512_S512x1024_S32768x1024_1_0_0_1_n_n none O (shapeCast _ (extractStridedSlice S1x512x1024 ![1, 0, 0] U slices_S3x512x1024_S1x512x1024_1_0_0) shapeCasts_S1x512x1024_S512x1024))

/-- The gated share of the third branch. -/
def stepShare2 (L : FVec Ideal S32768x3x1024 .f32) (M : FVec Ideal S3x1024 .f32) (O : FVec Ideal S32768x512 .f32) (U : FVec Ideal S3x512x1024 .f32) : FVec Ideal S32768x1024 .f32 :=
  mulf (F := Ideal) (Host.divf (F := Ideal) (broadcastInDim S32768x1024 ![] bcast_S_S32768x1024 (constant (F := Ideal) S_ .f32 0x3F800000#32)) (addf (F := Ideal) (broadcastInDim S32768x1024 ![] bcast_S_S32768x1024 (constant (F := Ideal) S_ .f32 0x3F800000#32)) (Host.exp (F := Ideal) (Host.negf (F := Ideal) (addf (F := Ideal) (shapeCast _ (extractStridedSlice S32768x1x1024 ![0, 2, 0] L slices_S32768x3x1024_S32768x1x1024_0_2_0) shapeCasts_S32768x1x1024_S32768x1024) (broadcastInDim S32768x1024 ![0, 1] bcast_S1x1024_S32768x1024_0_1 (broadcastInDim S1x1024 ![1] bcast_S1024_S1x1024_1 (shapeCast _ (extractStridedSlice S1x1024 ![2, 0] M slices_S3x1024_S1x1024_2_0) shapeCasts_S1x1024_S1024)))))))) (Host.dotGeneral (F := Ideal) dot_S32768x512_S512x1024_S32768x1024_1_0_0_1_n_n none O (shapeCast _ (extractStridedSlice S1x512x1024 ![2, 0, 0] U slices_S3x512x1024_S1x512x1024_2_0_0) shapeCasts_S1x512x1024_S512x1024))

/-- The three shares added. -/
def stepMerged (A B C : FVec Ideal S32768x1024 .f32) : FVec Ideal S32768x1024 .f32 :=
  addf (F := Ideal) (addf (F := Ideal) (addf (F := Ideal) (broadcastInDim S32768x1024 ![] bcast_S_S32768x1024 (constant (F := Ideal) S_ .f32 0x00000000#32)) A) B) C

/-- The residual sum. -/
def stepResid (X M : FVec Ideal S32768x1024 .f32) (W : FVec Ideal S1024x1024 .f32) : FVec Ideal S32768x1024 .f32 :=
  addf (F := Ideal) (mulf (F := Ideal) (broadcastInDim S32768x1024 ![] bcast_S_S32768x1024 (constant (F := Ideal) S_ .f32 0x3FB504F3#32)) X) (Host.dotGeneral (F := Ideal) dot_S32768x1024_S1024x1024_S32768x1024_1_0_0_1_n_n none M W)

/-- The residual sum less its mean. -/
def stepCentred (Y : FVec Ideal S32768x1024 .f32) : FVec Ideal S32768x1024 .f32 :=
  subf (F := Ideal) Y (broadcastInDim S32768x1024 ![0, 1] bcast_S32768x1_S32768x1024_0_1 (Host.divf (F := Ideal) (broadcastInDim S32768x1 ![0] bcast_S32768_S32768x1_0 (Host.reduceAdd (F := Ideal) Y (constant (F := Ideal) S_ .f32 0x00000000#32) reducesTo_S32768x1024_S32768_d1 h_S_)) (broadcastInDim S32768x1 ![] bcast_S_S32768x1 (constant (F := Ideal) S_ .f32 0x44800000#32))))

/-- The normalised rows. -/
def stepNorm (Y : FVec Ideal S32768x1024 .f32) (G B : FVec Ideal S1024 .f32) : FVec Ideal S32768x1024 .f32 :=
  addf (F := Ideal) (mulf (F := Ideal) (mulf (F := Ideal) Y (broadcastInDim S32768x1024 ![0, 1] bcast_S32768x1_S32768x1024_0_1 (Host.rsqrt (F := Ideal) (addf (F := Ideal) (Host.divf (F := Ideal) (broadcastInDim S32768x1 ![0] bcast_S32768_S32768x1_0 (Host.reduceAdd (F := Ideal) (mulf (F := Ideal) Y Y) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x3727C5AC#32)))))) (broadcastInDim S32768x1024 ![0, 1] bcast_S1x1024_S32768x1024_0_1 (broadcastInDim S1x1024 ![1] bcast_S1024_S1x1024_1 G))) (broadcastInDim S32768x1024 ![0, 1] bcast_S1x1024_S32768x1024_0_1 (broadcastInDim S1x1024 ![1] bcast_S1024_S1x1024_1 B))

/-- The router's scores. -/
def stepProb (X : FVec Ideal S32768x1024 .f32) (W : FVec Ideal S1024x16 .f32) : FVec Ideal S32768x16 .f32 :=
  Host.divf (F := Ideal) (broadcastInDim S32768x16 ![] bcast_S_S32768x16 (constant (F := Ideal) S_ .f32 0x3F800000#32)) (addf (F := Ideal) (broadcastInDim S32768x16 ![] bcast_S_S32768x16 (constant (F := Ideal) S_ .f32 0x3F800000#32)) (Host.exp (F := Ideal) (Host.negf (F := Ideal) (Host.dotGeneral (F := Ideal) dot_S32768x1024_S1024x16_S32768x16_1_0_0_1_n_n none X W))))

/-- The scores with their offsets, by group. -/
def stepBid (P : FVec Ideal S32768x16 .f32) (B : FVec Ideal S16 .f32) : FVec Ideal S32768x4x4 .f32 :=
  shapeCast _ (addf (F := Ideal) P (broadcastInDim S32768x16 ![0, 1] bcast_S1x16_S32768x16_0_1 (broadcastInDim S1x16 ![1] bcast_S16_S1x16_1 B))) shapeCasts_S32768x16_S32768x4x4

/-- The two best of each group. -/
def stepChosen (B : FVec Ideal S32768x4x4 .f32) : IVec S32768x4x4 1 :=
  cmpf (F := Ideal) .olt (Host.reduceAdd (F := Ideal) (uitofp (F := Ideal) .f32 (ori (cmpf (F := Ideal) .ogt (broadcastInDim S32768x4x4x4 ![0, 1, 2, 3] bcast_S32768x4x1x4_S32768x4x4x4_0_1_2_3 (broadcastInDim S32768x4x1x4 ![0, 1, 3] bcast_S32768x4x4_S32768x4x1x4_0_1_3 B)) (broadcastInDim S32768x4x4x4 ![0, 1, 2, 3] bcast_S32768x4x4x1_S32768x4x4x4_0_1_2_3 (broadcastInDim S32768x4x4x1 ![0, 1, 2] bcast_S32768x4x4_S32768x4x4x1_0_1_2 B))) (andi (cmpf (F := Ideal) .oeq (broadcastInDim S32768x4x4x4 ![0, 1, 2, 3] bcast_S32768x4x1x4_S32768x4x4x4_0_1_2_3 (broadcastInDim S32768x4x1x4 ![0, 1, 3] bcast_S32768x4x4_S32768x4x1x4_0_1_3 B)) (broadcastInDim S32768x4x4x4 ![0, 1, 2, 3] bcast_S32768x4x4x1_S32768x4x4x4_0_1_2_3 (broadcastInDim S32768x4x4x1 ![0, 1, 2] bcast_S32768x4x4_S32768x4x4x1_0_1_2 B))) (broadcastInDim S32768x4x4x4 ![0, 1, 2, 3] bcast_S1x1x4x4_S32768x4x4x4_0_1_2_3 (broadcastInDim S1x1x4x4 ![2, 3] bcast_S4x4_S1x1x4x4_2_3 (cmpi .slt (broadcastInDim S4x4 ![0, 1] bcast_S1x4_S4x4_0_1 (broadcastInDim S1x4 ![1] bcast_S4_S1x4_1 (iotaInDim S4 32 0))) (broadcastInDim S4x4 ![0, 1] bcast_S4x1_S4x4_0_1 (broadcastInDim S4x1 ![0] bcast_S4_S4x1_0 (iotaInDim S4 32 0))))))))) (constant (F := Ideal) S_ .f32 0x00000000#32) reducesTo_S32768x4x4x4_S32768x4x4_d3 h_S_ : FVec Ideal S32768x4x4 .f32) (broadcastInDim S32768x4x4 ![] bcast_S_S32768x4x4 (constant (F := Ideal) S_ .f32 0x40000000#32))

/-- The groups' scores. -/
def stepGroup (C : IVec S32768x4x4 1) (B : FVec Ideal S32768x4x4 .f32) : FVec Ideal S32768x4 .f32 :=
  Host.reduceAdd (F := Ideal) (select C B (broadcastInDim S32768x4x4 ![] bcast_S_S32768x4x4 (id (constant (F := Ideal) S_ .f32 0x00000000#32)))) (constant (F := Ideal) S_ .f32 0x00000000#32) reducesTo_S32768x4x4_S32768x4_d2 h_S_

/-- The best group. -/
def stepTop (S : FVec Ideal S32768x4 .f32) : IVec S32768x4 1 :=
  cmpf (F := Ideal) .olt (Host.reduceAdd (F := Ideal) (uitofp (F := Ideal) .f32 (ori (cmpf (F := Ideal) .ogt (broadcastInDim S32768x4x4 ![0, 1, 2] bcast_S32768x1x4_S32768x4x4_0_1_2 (broadcastInDim S32768x1x4 ![0, 2] bcast_S32768x4_S32768x1x4_0_2 S)) (broadcastInDim S32768x4x4 ![0, 1, 2] bcast_S32768x4x1_S32768x4x4_0_1_2 (broadcastInDim S32768x4x1 ![0, 1] bcast_S32768x4_S32768x4x1_0_1 S))) (andi (cmpf (F := Ideal) .oeq (broadcastInDim S32768x4x4 ![0, 1, 2] bcast_S32768x1x4_S32768x4x4_0_1_2 (broadcastInDim S32768x1x4 ![0, 2] bcast_S32768x4_S32768x1x4_0_2 S)) (broadcastInDim S32768x4x4 ![0, 1, 2] bcast_S32768x4x1_S32768x4x4_0_1_2 (broadcastInDim S32768x4x1 ![0, 1] bcast_S32768x4_S32768x4x1_0_1 S))) (broadcastInDim S32768x4x4 ![0, 1, 2] bcast_S1x4x4_S32768x4x4_0_1_2 (broadcastInDim S1x4x4 ![1, 2] bcast_S4x4_S1x4x4_1_2 (cmpi .slt (broadcastInDim S4x4 ![0, 1] bcast_S1x4_S4x4_0_1 (broadcastInDim S1x4 ![1] bcast_S4_S1x4_1 (iotaInDim S4 32 0))) (broadcastInDim S4x4 ![0, 1] bcast_S4x1_S4x4_0_1 (broadcastInDim S4x1 ![0] bcast_S4_S4x1_0 (iotaInDim S4 32 0))))))))) (constant (F := Ideal) S_ .f32 0x00000000#32) reducesTo_S32768x4x4_S32768x4_d2 h_S_ : FVec Ideal S32768x4 .f32) (broadcastInDim S32768x4 ![] bcast_S_S32768x4 (constant (F := Ideal) S_ .f32 0x3F800000#32))

/-- The scores of the two best of the best group. -/
def stepKept (C : IVec S32768x4x4 1) (T : IVec S32768x4 1) (P : FVec Ideal S32768x16 .f32) : FVec Ideal S32768x16 .f32 :=
  select (shapeCast _ (andi C (broadcastInDim S32768x4x4 ![0, 1, 2] bcast_S32768x4x1_S32768x4x4_0_1_2 (broadcastInDim S32768x4x1 ![0, 1] bcast_S32768x4_S32768x4x1_0_1 T))) shapeCasts_S32768x4x4_S32768x16) P (broadcastInDim S32768x16 ![] bcast_S_S32768x16 (id (constant (F := Ideal) S_ .f32 0x00000000#32)))

/-- The kept scores in 128 lanes, divided by their sum. -/
def stepComb (K : FVec Ideal S32768x16 .f32) : FVec Ideal S32768x128 .f32 :=
  Host.divf (F := Ideal) (pad S32768x128 ![0, 0] ![0, 112] ![0, 0] K (sitofp (F := Ideal) .f32 (constantI S_ 32 0#32)) pads_S32768x16_S32768x128_000_01120 h_S_) (broadcastInDim S32768x128 ![0, 1] bcast_S32768x1_S32768x128_0_1 (broadcastInDim S32768x1 ![0] bcast_S32768_S32768x1_0 (Host.reduceAdd (F := Ideal) K (constant (F := Ideal) S_ .f32 0x00000000#32) reducesTo_S32768x16_S32768_d1 h_S_)))

/-- The merged rows. -/
def refMerged (a1 a2 a3 a4 : FVec Ideal S32768x512 .f32) (a5 : FVec Ideal S32768x3584 .f32) (a6 : FVec Ideal S32768x3200 .f32) (a7 : FVec Ideal S512x512 .f32) (a8 : FVec Ideal S512 .f32) (a9 : FVec Ideal S128 .f32)
    (a10 : FVec Ideal S3x512x1024 .f32) (a11 : FVec Ideal S3x1024 .f32) : FVec Ideal S32768x1024 .f32 :=
  stepMerged (stepShare0 (stepGates a6) a11 a1 a10) (stepShare1 (stepGates a6) a11 (stepGlu (stepGelu a2) a7 a8) a10)
    (stepShare2 (stepGates a6) a11 (stepHeads (stepBoth a3 a4) (stepLast a5) a9) a10)

/-- The normalised rows, of the arguments. -/
def refRows (a0 : FVec Ideal S32768x1024 .f32) (a1 a2 a3 a4 : FVec Ideal S32768x512 .f32) (a5 : FVec Ideal S32768x3584 .f32) (a6 : FVec Ideal S32768x3200 .f32) (a7 : FVec Ideal S512x512 .f32) (a8 : FVec Ideal S512 .f32) (a9 : FVec Ideal S128 .f32)
    (a10 : FVec Ideal S3x512x1024 .f32) (a11 : FVec Ideal S3x1024 .f32) (a12 : FVec Ideal S1024x1024 .f32) (a13 a14 : FVec Ideal S1024 .f32) : FVec Ideal S32768x1024 .f32 :=
  stepNorm (stepCentred (stepResid a0 (refMerged a1 a2 a3 a4 a5 a6 a7 a8 a9 a10 a11) a12)) a13 a14

/-- The kept scores, from the scores. -/
def refKept (P : FVec Ideal S32768x16 .f32) (a16 : FVec Ideal S16 .f32) : FVec Ideal S32768x16 .f32 :=
  stepKept (stepChosen (stepBid P a16)) (stepTop (stepGroup (stepChosen (stepBid P a16)) (stepBid P a16))) P

theorem ref_rows (m : (ℓ : Loc nD τ sig) → Buf (Elt Ideal) ℓ) (c : Dev nD) :
    Value.res_main_v126 (F := Ideal) (launchContents m c)
      = refRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Value.res_main_v126 Value.res_main_v110 Value.res_main_v104 Value.res_main_v100 Value.res_main_v45 Value.res_main_v31 Value.res_main_v25 Value.res_main_v12
  unfold refRows refMerged stepNorm stepCentred stepResid stepMerged stepShare0 stepShare1 stepShare2 stepGates stepHeads stepLast stepBoth stepGlu stepGelu
  rfl

theorem ref_kept (m : (ℓ : Loc nD τ sig) → Buf (Elt Ideal) ℓ) (c : Dev nD) :
    Value.res_main_v191 (F := Ideal) (launchContents m c)
      = refKept (stepProb (Value.res_main_v126 (F := Ideal) (launchContents m c)) (m ((c.tc : Thread nD τ).loc main_arg15))) (m ((c.tc : Thread nD τ).loc main_arg16)) := by
  unfold Value.res_main_v191 Value.res_main_v163 Value.res_main_v161 Value.res_main_v138 Value.res_main_v137 Value.res_main_v133
  unfold refKept stepKept stepTop stepGroup stepChosen stepBid stepProb
  rfl

theorem ref_comb (m : (ℓ : Loc nD τ sig) → Buf (Elt Ideal) ℓ) (c : Dev nD) :
    Host.divf (F := Ideal) (pad S32768x128 ![0, 0] ![0, 112] ![0, 0] (Value.res_main_v191 (F := Ideal) (launchContents m c)) (sitofp (F := Ideal) .f32 (constantI S_ 32 0#32)) pads_S32768x16_S32768x128_000_01120 h_S_) (broadcastInDim S32768x128 ![0, 1] bcast_S32768x1_S32768x128_0_1 (broadcastInDim S32768x1 ![0] bcast_S32768_S32768x1_0 (Host.reduceAdd (F := Ideal) (Value.res_main_v191 (F := Ideal) (launchContents m c)) (constant (F := Ideal) S_ .f32 0x00000000#32) reducesTo_S32768x16_S32768_d1 h_S_)))
      = stepComb (refKept (stepProb (refRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15))) (m ((c.tc : Thread nD τ).loc main_arg16))) := by
  rw [← ref_rows, ← ref_kept]
  rfl

end Cert.Merge

end
-- ==== Proof.Merge.RefRead.lean ====
/- The merge call's reference: the entries of its steps up to the router's scores. -/
module

public import proofs.«01_k».proof.Proof.Merge.RefTerms

@[expose] public section

set_option maxRecDepth 16384

noncomputable section

namespace Cert.Merge

open Idealize.ShloMosaic Idealize.ShloMosaic.TcCoe Idealize.SL.Sem
open Cert.Reference5Ideal Cert.Reference5Ideal.Gen

theorem stepGelu_at (Y : FVec Ideal S32768x512 .f32) (t : Fin 32768) (f : Fin 512) : stepGelu Y (ix2 t f) = gelu (Y (ix2 t f)) := by
  pointwise [stepGelu]
  unfold gelu
  rw [mul_left_comm, mul_assoc, mul_assoc]

theorem stepGlu_at (Y : FVec Ideal S32768x512 .f32) (W : FVec Ideal S512x512 .f32) (B : FVec Ideal S512 .f32) (t : Fin 32768) (f : Fin 512) :
    stepGlu Y W B (ix2 t f) = Y (ix2 t f) * sigm ((∑ k : Fin 512, Y (ix2 t k) * W (ix2 k f)) + B (ix1 f)) := by
  pointwise [stepGlu]
  rfl

theorem stepBoth_at (A B : FVec Ideal S32768x512 .f32) (t : Fin 32768) (h : Fin 4) (l : Fin 128) :
    stepBoth A B (ix3 t h l) = A (ix2 t (lane h l)) + B (ix2 t (lane h l)) := by
  have e : lane h l = ⟨h.val * 128 + l, by omega⟩ := Fin.ext (by unfold lane; dsimp only; omega)
  rw [e]
  pointwise [stepBoth]

theorem stepLast_at (X : FVec Ideal S32768x3584 .f32) (t : Fin 32768) (f : Fin 512) : stepLast X (ix2 t f) = X (ix2 t ⟨3072 + f, by omega⟩) := by
  pointwise [stepLast]
  blk_ext []

theorem stepHeads_at (O : FVec Ideal S32768x4x128 .f32) (R : FVec Ideal S32768x512 .f32) (G : FVec Ideal S128 .f32) (t : Fin 32768) (f : Fin 512)
    (o : Fin 512 → EReal) (ho : ∀ h l, O (ix3 t h l) = o (lane h l)) :
    stepHeads O R G (ix2 t f) = heads o (fun k => R (ix2 t k)) (fun l => G (ix1 l)) f := by
  pointwise [stepHeads]
  have e : lane ⟨f.val / 128, by omega⟩ ⟨f.val % 128, Nat.mod_lt _ (by decide)⟩ = f := Fin.ext (by unfold lane; dsimp only; omega)
  unfold heads head
  simp only [ho, e]
  rfl

theorem stepGates_at (X : FVec Ideal S32768x3200 .f32) (t : Fin 32768) (n : Fin 3) (d : Fin 1024) :
    stepGates X (ix3 t n d) = X (ix2 t ⟨1024 * n.val + d, by omega⟩) := by
  pointwise [stepGates]
  blk_ext []

theorem stepShare0_at (L : FVec Ideal S32768x3x1024 .f32) (M : FVec Ideal S3x1024 .f32) (O : FVec Ideal S32768x512 .f32) (U : FVec Ideal S3x512x1024 .f32)
    (t : Fin 32768) (d : Fin 1024) : stepShare0 L M O U (ix2 t d)
      = share (fun d => L (ix3 t 0 d)) (fun d => M (ix2 0 d)) (fun k => O (ix2 t k)) (fun k d => U (ix3 0 k d)) d := by
  pointwise [stepShare0]
  rfl

theorem stepShare1_at (L : FVec Ideal S32768x3x1024 .f32) (M : FVec Ideal S3x1024 .f32) (O : FVec Ideal S32768x512 .f32) (U : FVec Ideal S3x512x1024 .f32)
    (t : Fin 32768) (d : Fin 1024) : stepShare1 L M O U (ix2 t d)
      = share (fun d => L (ix3 t 1 d)) (fun d => M (ix2 1 d)) (fun k => O (ix2 t k)) (fun k d => U (ix3 1 k d)) d := by
  pointwise [stepShare1]
  rfl

theorem stepShare2_at (L : FVec Ideal S32768x3x1024 .f32) (M : FVec Ideal S3x1024 .f32) (O : FVec Ideal S32768x512 .f32) (U : FVec Ideal S3x512x1024 .f32)
    (t : Fin 32768) (d : Fin 1024) : stepShare2 L M O U (ix2 t d)
      = share (fun d => L (ix3 t 2 d)) (fun d => M (ix2 2 d)) (fun k => O (ix2 t k)) (fun k d => U (ix3 2 k d)) d := by
  pointwise [stepShare2]
  rfl

theorem stepMerged_at (A B C : FVec Ideal S32768x1024 .f32) (t : Fin 32768) (d : Fin 1024) :
    stepMerged A B C (ix2 t d) = A (ix2 t d) + B (ix2 t d) + C (ix2 t d) := by
  pointwise [stepMerged]

theorem stepResid_at (X M : FVec Ideal S32768x1024 .f32) (W : FVec Ideal S1024x1024 .f32) (t : Fin 32768) (d : Fin 1024) :
    stepResid X M W (ix2 t d) = resid (fun d => X (ix2 t d)) (fun d => M (ix2 t d)) (fun k d => W (ix2 k d)) d := by
  pointwise [stepResid]
  rfl

theorem stepCentred_at (Y : FVec Ideal S32768x1024 .f32) (t : Fin 32768) (d : Fin 1024) :
    stepCentred Y (ix2 t d) = Y (ix2 t d) - Cert.Experts.mean fun k => Y (ix2 t k) := by
  pointwise [stepCentred]
  rfl

theorem stepNorm_at (Y : FVec Ideal S32768x1024 .f32) (G B : FVec Ideal S1024 .f32) (t : Fin 32768) (d : Fin 1024) :
    stepNorm (stepCentred Y) G B (ix2 t d) = Cert.Experts.norm (fun k => Y (ix2 t k)) (G (ix1 d)) (B (ix1 d)) d := by
  unfold Cert.Experts.norm
  simp only [← stepCentred_at]
  pointwise [stepNorm]
  rfl

theorem stepProb_at (X : FVec Ideal S32768x1024 .f32) (W : FVec Ideal S1024x16 .f32) (t : Fin 32768) (j : Fin 16) :
    stepProb X W (ix2 t j) = sigm (∑ d : Fin 1024, X (ix2 t d) * W (ix2 d j)) := by
  pointwise [stepProb]
  rfl

theorem stepBid_at (P : FVec Ideal S32768x16 .f32) (B : FVec Ideal S16 .f32) (t : Fin 32768) (n i : Fin 4) :
    stepBid P B (ix3 t n i) = P (ix2 t (mem n i)) + B (ix1 (mem n i)) := by
  have e : mem n i = ⟨n.val * 4 + i, by omega⟩ := Fin.ext (by unfold mem; dsimp only; omega)
  rw [e]
  pointwise [stepBid]

end Cert.Merge

end
-- ==== Proof.Merge.RefRoute.lean ====
/- The merge call's reference: the entries of its routing. -/
module

public import proofs.«01_k».proof.Proof.Merge.RefTerms

@[expose] public section

set_option maxRecDepth 16384

noncomputable section

namespace Cert.Merge

open Idealize.ShloMosaic Idealize.ShloMosaic.TcCoe Idealize.SL.Sem
open Cert.Reference5Ideal Cert.Reference5Ideal.Gen

theorem before_word (x i : Fin 4) : IntOp.cmpi CmpIPredicate.slt (BitVec.ofNat 32 x.val) (BitVec.ofNat 32 i.val) = BitVec.ofBool (decide (x < i)) := by
  revert x i
  decide

theorem or_word (a b : Bool) : IntOp.ori (BitVec.ofBool a) (BitVec.ofBool b) = BitVec.ofBool (a || b) := by
  cases a <;> cases b <;> rfl

theorem and_word (a b : Bool) : IntOp.andi (BitVec.ofBool a) (BitVec.ofBool b) = BitVec.ofBool (a && b) := by
  cases a <;> cases b <;> rfl

theorem count_word (a : Bool) : FloatOps.uitofp (F := Ideal) FTy.f32 (BitVec.ofBool a) = if a = true then (1 : EReal) else 0 := by
  cases a
  · show (((0 : ℕ) : ℝ) : EReal) = _
    simp
  · show (((1 : ℕ) : ℝ) : EReal) = _
    simp

theorem select_word (a : Bool) (x y : EReal) : Scalar.select (BitVec.ofBool a) x y = if a = true then x else y := by
  cases a <;> rfl

/-- The reference's mark of a better one. -/
theorem mark_word (b : Fin 4 → EReal) (i x : Fin 4) :
    FloatOps.uitofp (F := Ideal) FTy.f32 (IntOp.ori (BitVec.ofBool (decide (b i < b x))) (IntOp.andi (BitVec.ofBool (decide (b x = b i)))
      (IntOp.cmpi CmpIPredicate.slt (BitVec.ofNat 32 x.val) (BitVec.ofNat 32 i.val)))) = mark b i x := by
  rw [before_word, and_word, or_word, count_word]
  unfold mark
  simp only [Bool.or_eq_true, Bool.and_eq_true, decide_eq_true_eq]

theorem zero_fill : (id (constant (F := Ideal) S_ FTy.f32 0#32) ix0 : EReal) = 0 := by
  dsimp only [id]
  pointwise

theorem stepChosen_at (B : FVec Ideal S32768x4x4 .f32) (t : Fin 32768) (n i : Fin 4) :
    stepChosen B (ix3 t n i) = BitVec.ofBool (decide (place (fun j => B (ix3 t n j)) i < Ideal.ofBits .f32 0x40000000#32)) := by
  pointwise [stepChosen]
  unfold place
  refine congrArg (fun z : EReal => BitVec.ofBool (decide (z < Ideal.ofBits .f32 0x40000000#32))) (Finset.sum_congr rfl fun x _ => ?_)
  exact mark_word (fun j => B (ix3 t n j)) i x

theorem stepTop_at (S : FVec Ideal S32768x4 .f32) (t : Fin 32768) (n : Fin 4) :
    stepTop S (ix2 t n) = BitVec.ofBool (decide (place (fun j => S (ix2 t j)) n < 1)) := by
  pointwise [stepTop]
  unfold place
  refine congrArg (fun z : EReal => BitVec.ofBool (decide (z < 1))) (Finset.sum_congr rfl fun x _ => ?_)
  exact mark_word (fun j => S (ix2 t j)) n x

theorem stepGroup_at (B : FVec Ideal S32768x4x4 .f32) (t : Fin 32768) (n : Fin 4) :
    stepGroup (stepChosen B) B (ix2 t n) = best fun j => B (ix3 t n j) := by
  pointwise [stepGroup]
  unfold best
  refine Finset.sum_congr rfl fun x _ => ?_
  rw [stepChosen_at, select_word, zero_fill]
  simp only [decide_eq_true_eq]

theorem stepKept_at (B : FVec Ideal S32768x4x4 .f32) (P : FVec Ideal S32768x16 .f32) (t : Fin 32768) (j : Fin 16) :
    stepKept (stepChosen B) (stepTop (stepGroup (stepChosen B) B)) P (ix2 t j)
      = chosen (fun n i => P (ix2 t (mem n i))) (fun n i => B (ix3 t n i)) (grp j) (sub j) := by
  pointwise [stepKept]
  rw [stepChosen_at, stepTop_at, and_word, select_word, zero_fill]
  simp only [stepGroup_at, Bool.and_eq_true, decide_eq_true_eq]
  have e : mem (grp j) (sub j) = j := Fin.ext (by unfold mem grp sub; dsimp only; omega)
  unfold chosen
  dsimp only
  rw [e]
  rfl

theorem stepComb_at (K : FVec Ideal S32768x16 .f32) (t : Fin 32768) (l : Fin 128) :
    stepComb K (ix2 t l) = Ideal.div (if h : l.val < 16 then K (ix2 t ⟨l, h⟩) else 0) (∑ j : Fin 16, K (ix2 t j)) := by
  pointwise [stepComb]
  have e : (FloatOps.sitofp (F := Ideal) FTy.f32 (0#32 : BitVec 32) : EReal) = 0 := by
    show (((0 : ℤ) : ℝ) : EReal) = _
    simp
  rw [e]

end Cert.Merge

end
-- ==== Proof.Merge.Ref.lean ====
/- The merge call's reference: its results are the same functions of the arguments. -/
module

public import proofs.«01_k».proof.Proof.Merge.Array
public import proofs.«01_k».proof.Proof.Merge.RefRead
public import proofs.«01_k».proof.Proof.Merge.RefRoute

@[expose] public section

set_option maxRecDepth 16384

noncomputable section

namespace Cert.Merge

open Idealize.ShloMosaic Idealize.ShloMosaic.TcCoe Idealize.SL.Sem
open Cert.Reference5Ideal Cert.Reference5Ideal.Gen

variable (a0 : FVec Ideal S32768x1024 .f32) (a1 a2 a3 a4 : FVec Ideal S32768x512 .f32) (a5 : FVec Ideal S32768x3584 .f32) (a6 : FVec Ideal S32768x3200 .f32)
  (a7 : FVec Ideal S512x512 .f32) (a8 : FVec Ideal S512 .f32) (a9 : FVec Ideal S128 .f32) (a10 : FVec Ideal S3x512x1024 .f32) (a11 : FVec Ideal S3x1024 .f32) (a12 : FVec Ideal S1024x1024 .f32)
  (a13 a14 : FVec Ideal S1024 .f32) (a15 : FVec Ideal S1024x16 .f32) (a16 : FVec Ideal S16 .f32)

theorem refMerged_at (t : Fin 32768) (d : Fin 1024) :
    refMerged a1 a2 a3 a4 a5 a6 a7 a8 a9 a10 a11 (ix2 t d) = mergedRow (rowOf a0 a1 a2 a3 a4 a5 a6 t) (weightsOf a7 a8 a9 a10 a11 a12 a13 a14 a15 a16) d := by
  have h0 : ∀ k, stepGelu a2 (ix2 t k) = gelu (a2 (ix2 t k)) := stepGelu_at a2 t
  have h1 : (fun k => stepGlu (stepGelu a2) a7 a8 (ix2 t k)) = glu (fun k => a2 (ix2 t k)) (fun k f => a7 (ix2 k f)) fun f => a8 (ix1 f) := by
    funext k
    rw [stepGlu_at]
    simp only [h0]
    rfl
  have h2 : (fun k => stepHeads (stepBoth a3 a4) (stepLast a5) a9 (ix2 t k))
      = heads (fun f => a3 (ix2 t f) + a4 (ix2 t f)) (fun f => a5 (ix2 t (lastCol f))) fun l => a9 (ix1 l) := by
    funext k
    rw [stepHeads_at (stepBoth a3 a4) (stepLast a5) a9 t k (fun f => a3 (ix2 t f) + a4 (ix2 t f)) fun h l => stepBoth_at a3 a4 t h l]
    simp only [stepLast_at]
    rfl
  unfold refMerged
  rw [stepMerged_at, stepShare0_at, stepShare1_at, stepShare2_at, h1, h2]
  simp only [stepGates_at]
  rfl

theorem refRows_at (t : Fin 32768) (d : Fin 1024) :
    refRows a0 a1 a2 a3 a4 a5 a6 a7 a8 a9 a10 a11 a12 a13 a14 (ix2 t d) = outRow (rowOf a0 a1 a2 a3 a4 a5 a6 t) (weightsOf a7 a8 a9 a10 a11 a12 a13 a14 a15 a16) d := by
  have h : (fun k => stepResid a0 (refMerged a1 a2 a3 a4 a5 a6 a7 a8 a9 a10 a11) a12 (ix2 t k))
      = resid (rowOf a0 a1 a2 a3 a4 a5 a6 t).x (mergedRow (rowOf a0 a1 a2 a3 a4 a5 a6 t) (weightsOf a7 a8 a9 a10 a11 a12 a13 a14 a15 a16)) (weightsOf a7 a8 a9 a10 a11 a12 a13 a14 a15 a16).out := by
    funext k
    rw [stepResid_at]
    simp only [refMerged_at a0 a1 a2 a3 a4 a5 a6 a7 a8 a9 a10 a11 a12 a13 a14 a15 a16]
    rfl
  unfold refRows
  rw [stepNorm_at, h]
  rfl

theorem refComb_at (t : Fin 32768) (l : Fin 128) :
    stepComb (refKept (stepProb (refRows a0 a1 a2 a3 a4 a5 a6 a7 a8 a9 a10 a11 a12 a13 a14) a15) a16) (ix2 t l) = combRow (rowOf a0 a1 a2 a3 a4 a5 a6 t) (weightsOf a7 a8 a9 a10 a11 a12 a13 a14 a15 a16) l := by
  have hp : ∀ j, stepProb (refRows a0 a1 a2 a3 a4 a5 a6 a7 a8 a9 a10 a11 a12 a13 a14) a15 (ix2 t j) = prob (rowOf a0 a1 a2 a3 a4 a5 a6 t) (weightsOf a7 a8 a9 a10 a11 a12 a13 a14 a15 a16) j := by
    intro j
    rw [stepProb_at]
    simp only [refRows_at a0 a1 a2 a3 a4 a5 a6 a7 a8 a9 a10 a11 a12 a13 a14 a15 a16]
    rfl
  have hk : ∀ j, refKept (stepProb (refRows a0 a1 a2 a3 a4 a5 a6 a7 a8 a9 a10 a11 a12 a13 a14) a15) a16 (ix2 t j) = kept16 (rowOf a0 a1 a2 a3 a4 a5 a6 t) (weightsOf a7 a8 a9 a10 a11 a12 a13 a14 a15 a16) j := by
    intro j
    unfold refKept
    rw [stepKept_at]
    simp only [stepBid_at, hp]
    rfl
  rw [stepComb_at]
  simp only [hk]
  rfl

/-- The same rows from arguments that agree. -/
theorem refRows_eq (b0 : FVec Ideal S32768x1024 .f32) (b1 b2 b3 b4 : FVec Ideal S32768x512 .f32) (b5 : FVec Ideal S32768x3584 .f32) (b6 : FVec Ideal S32768x3200 .f32)
  (b7 : FVec Ideal S512x512 .f32) (b8 : FVec Ideal S512 .f32) (b9 : FVec Ideal S128 .f32) (b10 : FVec Ideal S3x512x1024 .f32) (b11 : FVec Ideal S3x1024 .f32) (b12 : FVec Ideal S1024x1024 .f32)
  (b13 b14 : FVec Ideal S1024 .f32) (b15 : FVec Ideal S1024x16 .f32) (b16 : FVec Ideal S16 .f32) (h : b0 = a0 ∧ b1 = a1 ∧ b2 = a2 ∧ b3 = a3 ∧ b4 = a4 ∧ b5 = a5 ∧ b6 = a6 ∧ b7 = a7 ∧ b8 = a8 ∧ b9 = a9 ∧ b10 = a10 ∧ b11 = a11 ∧ b12 = a12 ∧ b13 = a13 ∧ b14 = a14 ∧ b15 = a15 ∧ b16 = a16) :
    refRows b0 b1 b2 b3 b4 b5 b6 b7 b8 b9 b10 b11 b12 b13 b14 = fun j => outRow (rowOf a0 a1 a2 a3 a4 a5 a6 (j 0)) (weightsOf a7 a8 a9 a10 a11 a12 a13 a14 a15 a16) (j 1) := by
  obtain ⟨rfl, rfl, rfl, rfl, rfl, rfl, rfl, rfl, rfl, rfl, rfl, rfl, rfl, rfl, rfl, rfl, rfl⟩ := h
  funext j
  idx_vars j
  exact refRows_at _ _ _ _ _ _ _ _ _ _ _ _ _ _ _ _ _ _ _

/-- The same routing weights from arguments that agree. -/
theorem refComb_eq (b0 : FVec Ideal S32768x1024 .f32) (b1 b2 b3 b4 : FVec Ideal S32768x512 .f32) (b5 : FVec Ideal S32768x3584 .f32) (b6 : FVec Ideal S32768x3200 .f32)
  (b7 : FVec Ideal S512x512 .f32) (b8 : FVec Ideal S512 .f32) (b9 : FVec Ideal S128 .f32) (b10 : FVec Ideal S3x512x1024 .f32) (b11 : FVec Ideal S3x1024 .f32) (b12 : FVec Ideal S1024x1024 .f32)
  (b13 b14 : FVec Ideal S1024 .f32) (b15 : FVec Ideal S1024x16 .f32) (b16 : FVec Ideal S16 .f32) (h : b0 = a0 ∧ b1 = a1 ∧ b2 = a2 ∧ b3 = a3 ∧ b4 = a4 ∧ b5 = a5 ∧ b6 = a6 ∧ b7 = a7 ∧ b8 = a8 ∧ b9 = a9 ∧ b10 = a10 ∧ b11 = a11 ∧ b12 = a12 ∧ b13 = a13 ∧ b14 = a14 ∧ b15 = a15 ∧ b16 = a16) :
    stepComb (refKept (stepProb (refRows b0 b1 b2 b3 b4 b5 b6 b7 b8 b9 b10 b11 b12 b13 b14) b15) b16) = fun j => combRow (rowOf a0 a1 a2 a3 a4 a5 a6 (j 0)) (weightsOf a7 a8 a9 a10 a11 a12 a13 a14 a15 a16) (j 1) := by
  obtain ⟨rfl, rfl, rfl, rfl, rfl, rfl, rfl, rfl, rfl, rfl, rfl, rfl, rfl, rfl, rfl, rfl, rfl⟩ := h
  funext j
  idx_vars j
  exact refComb_at _ _ _ _ _ _ _ _ _ _ _ _ _ _ _ _ _ _ _

end Cert.Merge

end
-- ==== Proof.Experts.Sums.lean ====
/- The expert call: the running sum over the experts, and the arrays the call leaves. -/
module

public import Idealize.ShloMosaic.Lib.Pipeline.ReadBack
public import proofs.«01_k».proof.Proof.Experts.Point
import all proofs.«01_k».proof.Proof.Gen.KernelIdeal.Value

@[expose] public section

set_option maxRecDepth 16384

noncomputable section

namespace Cert.Experts

open Idealize.ShloMosaic Idealize.ShloMosaic.TcCoe Idealize.SL.Sem
open Cert.KernelIdeal Cert.KernelIdeal.Gen

variable (m : (ℓ : Loc nD τ sig) → Buf (Elt Ideal) ℓ)

theorem lt512 (t : Fin cfg0.N) : t.val < 512 := lt_of_lt_of_eq t.isLt (show cfg0.N = 512 from N_0)

theorem index_at : ∀ t : Fin cfg0.N, (win0_0.index t 0 = t.val / 16 ∧ win0_0.index t 1 = 0) ∧ (win0_1.index t 0 = t.val / 16 ∧ win0_1.index t 1 = 0)
    ∧ (win0_2.index t 0 = t.val / 16 ∧ win0_2.index t 1 = 0) ∧ (win0_3.index t 0 = t.val % 16 ∧ win0_3.index t 1 = 0 ∧ win0_3.index t 2 = 0)
    ∧ (win0_4.index t 0 = t.val % 16 ∧ win0_4.index t 1 = 0 ∧ win0_4.index t 2 = 0) ∧ (win0_5.index t 0 = t.val % 16 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = t.val / 16 ∧ win0_8.index t 1 = 0) ∧ (win0_9.index t 0 = t.val / 16 ∧ win0_9.index t 1 = 0) ∧ (grid0.coords t 1).val = t.val % 16 :=
  (by decide +kernel : ∀ t : Fin grid0.N, (win0_0.index t 0 = t.val / 16 ∧ win0_0.index t 1 = 0) ∧ (win0_1.index t 0 = t.val / 16 ∧ win0_1.index t 1 = 0)
    ∧ (win0_2.index t 0 = t.val / 16 ∧ win0_2.index t 1 = 0) ∧ (win0_3.index t 0 = t.val % 16 ∧ win0_3.index t 1 = 0 ∧ win0_3.index t 2 = 0)
    ∧ (win0_4.index t 0 = t.val % 16 ∧ win0_4.index t 1 = 0 ∧ win0_4.index t 2 = 0) ∧ (win0_5.index t 0 = t.val % 16 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = t.val / 16 ∧ win0_8.index t 1 = 0) ∧ (win0_9.index t 0 = t.val / 16 ∧ win0_9.index t 1 = 0) ∧ (grid0.coords t 1).val = t.val % 16)

/-- What a point adds at an entry of its block. -/
def part (c : Dev nD) (t : Fin cfg0.N) (j : S1024x1024.Idx) : EReal :=
  ∑ f : Fin 512, k0_pay5 (F := Ideal) (grid0.coords t) (iblk m c 0 t) (iblk m c 3 t) (iblk m c 4 t) (iblk m c 2 t) (ix2 (j 0) f)
    * (show FVec Ideal S1x512x1024 .bf16 from iblk m c 5 t) (ix3 0 f (j 1))

theorem step_at' (acc : FVec Ideal S1024x1024 .f32) (h : FVec Ideal S1024x512 .bf16) (wd : FVec Ideal S1x512x1024 .bf16) (j : S1024x1024.Idx) :
    k0_pay1 (F := Ideal) acc h wd j = acc j + ∑ f : Fin 512, h (ix2 (j 0) f) * wd (ix3 0 f (j 1)) := by
  idx_vars j
  exact step_at acc h wd j0 j1

/-- The running sum a point leaves. -/
def sums (c : Dev nD) (n : ℕ) (hn : n < cfg0.N) : FVec Ideal S1024x1024 .f32 := (outsAt0 m c n hn).2.2

theorem sums_first (c : Dev nD) (t : Fin cfg0.N) (h : t.val % 16 = 0) (j : S1024x1024.Idx) :
    sums m c t.val t.isLt j = 0 + part m c t j := by
  unfold sums
  rw [outsAt0_A m c t h (by omega)]
  unfold sout0_A_0
  frame_out
  rw [step_at', fill_at]
  rfl

theorem sums_next (c : Dev nD) (t : Fin cfg0.N) (h : ¬t.val % 16 = 0) (j : S1024x1024.Idx) :
    sums m c t.val t.isLt j = sums m c (t.val - 1) (Nat.lt_of_le_of_lt (Nat.sub_le _ _) t.isLt) j + part m c t j := by
  unfold sums
  by_cases h1 : t.val % 16 = 15
  · rw [outsAt0_C m c t h h1]
    unfold sout0_C_0
    frame_out
    rw [read_unread_whole, step_at']
    rfl
  · rw [outsAt0_B m c t h h1]
    unfold sout0_B_0
    frame_out
    rw [read_unread_whole, step_at']
    rfl

/-- What the last point of a row block writes. -/
theorem left_at (c : Dev nD) (t : Fin cfg0.N) (h : t.val % 16 = 15) :
    (outsAt0 m c t.val t.isLt).1 = k0_pay2 (F := Ideal) (iblk m c 1 t) (sums m c t.val t.isLt) (iblk m c 6 t) (iblk m c 7 t) := by
  unfold sums
  rw [outsAt0_C m c t (by omega) h]
  unfold out0_C_8 sout0_C_0
  frame_out

theorem left_at' (c : Dev nD) (t : Fin cfg0.N) (h : t.val % 16 = 15) :
    (outsAt0 m c t.val t.isLt).2.1 = k0_pay3 (F := Ideal) (iblk m c 1 t) (sums m c t.val t.isLt) (iblk m c 6 t) (iblk m c 7 t) := by
  unfold sums
  rw [outsAt0_C m c t (by omega) h]
  unfold out0_C_9 sout0_C_0
  frame_out

theorem flushed_sum (c : Dev nD) (t : Fin cfg0.N) (h : t.val % 16 = 15) (j : S1024x1024.Idx) :
    sums m c t.val t.isLt j = ∑ s : Fin 16, part m c ⟨16 * (t.val / 16) + s.val, Pipeline.run_point_lt_of_flush t h s⟩ j := by
  rw [Pipeline.eq_sum_fin_of_reset_step_apply_of_flush (fun n h => sums m c n h) 16 (fun _ => (0 : EReal)) (part m c)
    (sums_first m c) (sums_next m c) t h j, zero_add]

end Cert.Experts

end
-- ==== Proof.Experts.Array.lean ====
/- The expert call: the arrays the call leaves, entry by entry. -/
module

public import proofs.«01_k».proof.Proof.Experts.Sums
import all proofs.«01_k».proof.Proof.Gen.KernelIdeal.Value

@[expose] public section

set_option maxRecDepth 16384

noncomputable section

namespace Cert.Experts

open Idealize.ShloMosaic Idealize.ShloMosaic.TcCoe Idealize.SL.Sem
open Cert.KernelIdeal Cert.KernelIdeal.Gen

/-- What an expert adds to a row of the batch, the routing weight inside its second product. -/
def contrib (x : FVec Ideal S32768x1024 .f32) (cb : FVec Ideal S32768x128 .f32) (wg wu : FVec Ideal S16x1024x512 .f32)
    (wd : FVec Ideal S16x512x1024 .f32) (t : Fin 32768) (e : Fin 16) (k : Fin 1024) : EReal :=
  ∑ f : Fin 512,
    unit (∑ d : Fin 1024, x (ix2 t d) * wg (ix3 e d f)) (∑ d : Fin 1024, x (ix2 t d) * wu (ix3 e d f)) * cb (ix2 t ⟨e, by omega⟩)
      * wd (ix3 e f k)

/-- The layer's result, the routing weight inside each expert's second product. -/
def layerOut (x : FVec Ideal S32768x1024 .f32) (cb : FVec Ideal S32768x128 .f32) (wg wu : FVec Ideal S16x1024x512 .f32)
    (wd : FVec Ideal S16x512x1024 .f32) (g b : FVec Ideal S1024 .f32) (t : Fin 32768) (d : Fin 1024) : EReal :=
  norm (fun k => Ideal.ofBits .f32 0x3FB504F3#32 * x (ix2 t k)
      + ∑ e : Fin 16, contrib x cb wg wu wd t e k)
    (g (ix1 d)) (b (ix1 d)) d

variable (m : (ℓ : Loc nD τ sig) → Buf (Elt Ideal) ℓ)

/-- The row of the batch that row `r` of point `t`'s blocks is. -/
def row (t : Fin cfg0.N) (r : Fin 1024) : Fin 32768 := ⟨t.val / 16 * 1024 + r, by have := lt512 t; omega⟩

/-- The expert of point `t`. -/
def expert (t : Fin cfg0.N) : Fin 16 := ⟨t.val % 16, by omega⟩

theorem tokens_at (c : Dev nD) (t : Fin cfg0.N) (r d : Fin 1024) :
    iblk m c 0 t (ix2 r d) = m ((c : Thread nD τ).loc main_arg0) (ix2 (row t r) d) := by
  have e : iblk m c 0 t (ix2 r d) = V m c main_v0 (ix2 (row t r) d) := by
    unfold row; blk_ext [iblk, (index_at t).1]
  rw [e]; entry_read; rfl

theorem stream_rows (c : Dev nD) (t : Fin cfg0.N) (r d : Fin 1024) :
    iblk m c 1 t (ix2 r d) = m ((c : Thread nD τ).loc main_arg0) (ix2 (row t r) d) := by
  unfold row; blk_ext [iblk, V, (index_at t).2.1]

theorem routing_rows (c : Dev nD) (t : Fin cfg0.N) (r : Fin 1024) (l : Fin 128) :
    iblk m c 2 t (ix2 r l) = m ((c : Thread nD τ).loc main_arg1) (ix2 (row t r) l) := by
  unfold row; blk_ext [iblk, V, (index_at t).2.2.1]

theorem gates_at (c : Dev nD) (t : Fin cfg0.N) (d : Fin 1024) (f : Fin 512) :
    iblk m c 3 t (ix3 0 d f) = m ((c : Thread nD τ).loc main_arg2) (ix3 (expert t) d f) := by
  have e : iblk m c 3 t (ix3 0 d f) = V m c main_v1 (ix3 (expert t) d f) := by
    unfold expert; blk_ext [iblk, (index_at t).2.2.2.1]
  rw [e]; entry_read; rfl

theorem ups_at (c : Dev nD) (t : Fin cfg0.N) (d : Fin 1024) (f : Fin 512) :
    iblk m c 4 t (ix3 0 d f) = m ((c : Thread nD τ).loc main_arg3) (ix3 (expert t) d f) := by
  have e : iblk m c 4 t (ix3 0 d f) = V m c main_v2 (ix3 (expert t) d f) := by
    unfold expert; blk_ext [iblk, (index_at t).2.2.2.2.1]
  rw [e]; entry_read; rfl

theorem downs_at (c : Dev nD) (t : Fin cfg0.N) (f : Fin 512) (d : Fin 1024) :
    iblk m c 5 t (ix3 0 f d) = m ((c : Thread nD τ).loc main_arg4) (ix3 (expert t) f d) := by
  have e : iblk m c 5 t (ix3 0 f d) = V m c main_v3 (ix3 (expert t) f d) := by
    unfold expert; blk_ext [iblk, (index_at t).2.2.2.2.2.1]
  rw [e]; entry_read; rfl

theorem weight_at (c : Dev nD) (t : Fin cfg0.N) (d : Fin 1024) :
    iblk m c 6 t (ix2 0 d) = m ((c : Thread nD τ).loc main_arg5) (ix1 d) := by
  have e : iblk m c 6 t (ix2 0 d) = V m c main_v4 (ix2 0 d) := by
    blk_ext [iblk, (index_at t).2.2.2.2.2.2.1]
  rw [e]; entry_read; pointwise

theorem offset_at (c : Dev nD) (t : Fin cfg0.N) (d : Fin 1024) :
    iblk m c 7 t (ix2 0 d) = m ((c : Thread nD τ).loc main_arg6) (ix1 d) := by
  have e : iblk m c 7 t (ix2 0 d) = V m c main_v5 (ix2 0 d) := by
    blk_ext [iblk, (index_at t).2.2.2.2.2.2.2.1]
  rw [e]; entry_read; pointwise

/-- What a point adds, from the arguments. -/
theorem part_at (c : Dev nD) (t : Fin cfg0.N) (r d : Fin 1024) (a : Fin 32768) (e : Fin 16) (ha : row t r = a) (he : expert t = e) :
    part m c t (ix2 r d) = contrib (m ((c : Thread nD τ).loc main_arg0)) (m ((c : Thread nD τ).loc main_arg1)) (m ((c : Thread nD τ).loc main_arg2))
      (m ((c : Thread nD τ).loc main_arg3)) (m ((c : Thread nD τ).loc main_arg4)) a e d := by
  subst ha he
  unfold part contrib
  refine Finset.sum_congr rfl fun f _ => ?_
  have hl : (⟨(grid0.coords t 1).val, lt_trans (grid0.coords t 1).isLt (by decide)⟩ : Fin 128) = ⟨(expert t).val, by omega⟩ :=
    Fin.ext (index_at t).2.2.2.2.2.2.2.2.2.2
  refine congrArg₂ (fun p q : EReal => p * q) ((hidden_at (grid0.coords t) (iblk m c 0 t) (iblk m c 3 t) (iblk m c 4 t) (iblk m c 2 t) r f).trans ?_) (downs_at m c t f d)
  rw [hl, routing_rows]
  simp only [tokens_at, gates_at, ups_at]

/-- An entry of the layer's result at a point that writes back. -/
theorem point (c : Dev nD) (t : Fin cfg0.N) (h : t.val % 16 = 15) (r d : Fin 1024) (a : Fin 32768) (b : Fin 1024) (ha : a.val = t.val / 16 * 1024 + r)
    (hb : b.val = d.val) :
    norm (fun k => Ideal.ofBits .f32 0x3FB504F3#32 * (iblk m c 1 t : FVec Ideal S1024x1024 .f32) (ix2 r k) + sums m c t.val t.isLt (ix2 r k))
        ((iblk m c 6 t : FVec Ideal S1x1024 .f32) (ix2 0 d)) ((iblk m c 7 t : FVec Ideal S1x1024 .f32) (ix2 0 d)) d
      = layerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) a b := by
  have ea : row t r = a := Fin.ext ha.symm
  have eb : d = b := Fin.ext hb.symm
  subst eb
  unfold layerOut
  rw [weight_at, offset_at]
  refine congrArg (fun y => norm y _ _ d) (funext fun k => ?_)
  rw [stream_rows, ea, flushed_sum m c t h]
  refine congrArg (fun z : EReal => Ideal.ofBits .f32 0x3FB504F3#32 * m ((c : Thread nD τ).loc main_arg0) (ix2 a k) + z) (Finset.sum_congr rfl fun e _ => ?_)
  refine part_at m c _ r k a e (Fin.ext ?_) (Fin.ext ?_)
  · rw [ha]; show (16 * (t.val / 16) + e.val) / 16 * 1024 + r.val = _; omega
  · show (16 * (t.val / 16) + e.val) % 16 = _; omega

theorem array_at (c : Dev nD) : (dats m 0 c).arrAt 8 cfg0.N
    = fun j => layerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (j 0) (j 1) := by
  refine (dats m 0 c).arrAt_eq_of_covers 8 _ (by decide +kernel) fun t hf y => ?_
  have h := (flush0_8 t).mp hf
  blk_simp
  rw [after0_8, left_at m c t h]
  idx_vars y
  obtain ⟨-, -, -, -, -, -, -, -, ⟨e0, e1⟩, -, -⟩ := index_at t
  refine (last_at _ _ _ _ y0 y1).trans (point m c t h y0 y1 _ _ ?_ ?_)
  · blk_simp; rw [e0]
  · blk_simp; rw [e1]; omega

theorem array_at' (c : Dev nD) : (dats m 0 c).arrAt 9 cfg0.N
    = fun j => layerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (j 0) (j 1) := by
  refine (dats m 0 c).arrAt_eq_of_covers 9 _ (by decide +kernel) fun t hf y => ?_
  have h := (flush0_9 t).mp hf
  blk_simp
  rw [after0_9, left_at' m c t h]
  idx_vars y
  obtain ⟨-, -, -, -, -, -, -, -, -, ⟨e0, e1⟩, -⟩ := index_at t
  refine (last_at' _ _ _ _ y0 y1).trans (point m c t h y0 y1 _ _ ?_ ?_)
  · blk_simp; rw [e0]
  · blk_simp; rw [e1]; omega

end Cert.Experts

end
-- ==== Proof.Experts.Ref.lean ====
/- The expert call: the reference, entry by entry. -/
module

public import proofs.«01_k».proof.Proof.Experts.Point
public import proofs.«01_k».proof.Proof.Gen.ReferenceIdeal.Run

@[expose] public section

set_option maxRecDepth 16384

noncomputable section

namespace Cert.Experts

open Idealize.ShloMosaic Idealize.ShloMosaic.TcCoe Idealize.SL.Sem
open Cert.ReferenceIdeal Cert.ReferenceIdeal.Gen

/-- Every expert's linear form of every token. -/
def forms (x : FVec Ideal S32768x1024 .f32) (w : FVec Ideal S16x1024x512 .f32) : FVec Ideal S16x32768x512 .f32 :=
  transpose S16x32768x512 [0, 2, 1] (Host.dotGeneral (F := Ideal) dot_S16x1024x512_S32768x1024_S16x512x32768_1_1_02_0_n_n none w x)
    transposes_S16x512x32768_S16x32768x512_0_2_1

/-- The gated hidden units. -/
def units (g u : FVec Ideal S16x32768x512 .f32) : FVec Ideal S16x32768x512 .f32 :=
  mulf (mulf g (Host.divf (broadcastInDim S16x32768x512 ![] bcast_S_S16x32768x512 (constant S_ .f32 0x3F800000#32))
    (addf (broadcastInDim S16x32768x512 ![] bcast_S_S16x32768x512 (constant S_ .f32 0x3F800000#32)) (Host.exp (Host.negf g))))) u

/-- The experts' outputs, weighted and summed. -/
def mix (cb : FVec Ideal S32768x128 .f32) (h : FVec Ideal S16x32768x512 .f32) (wd : FVec Ideal S16x512x1024 .f32) : FVec Ideal S32768x1024 .f32 :=
  Host.reduceAdd (F := Ideal) (mulf (broadcastInDim S16x32768x1024 ![0, 1, 2] bcast_S16x32768x1_S16x32768x1024_0_1_2
      (broadcastInDim S16x32768x1 ![0, 1] bcast_S16x32768_S16x32768x1_0_1
        (transpose S16x32768 [1, 0] (extractStridedSlice S32768x16 ![0, 0] cb slices_S32768x128_S32768x16_0_0) transposes_S32768x16_S16x32768_1_0)))
    (Host.dotGeneral (F := Ideal) dot_S16x32768x512_S16x512x1024_S16x32768x1024_2_1_1_2_0_0 none h wd))
    (constant S_ .f32 0x00000000#32) reducesTo_S16x32768x1024_S32768x1024_d0 h_S_

/-- The residual stream. -/
def stream (x y : FVec Ideal S32768x1024 .f32) : FVec Ideal S32768x1024 .f32 :=
  addf (mulf (broadcastInDim S32768x1024 ![] bcast_S_S32768x1024 (constant S_ .f32 0x3FB504F3#32)) x) y

/-- The rows' means. -/
def means (y : FVec Ideal S32768x1024 .f32) : FVec Ideal S32768x1 .f32 :=
  Host.divf (broadcastInDim S32768x1 ![0] bcast_S32768_S32768x1_0 (Host.reduceAdd (F := Ideal) y (constant S_ .f32 0x00000000#32) reducesTo_S32768x1024_S32768_d1 h_S_))
    (broadcastInDim S32768x1 ![] bcast_S_S32768x1 (constant S_ .f32 0x44800000#32))

/-- The rows less their means. -/
def centred (y : FVec Ideal S32768x1024 .f32) : FVec Ideal S32768x1024 .f32 :=
  subf y (broadcastInDim S32768x1024 ![0, 1] bcast_S32768x1_S32768x1024_0_1 (means y))

theorem forms_at (x : FVec Ideal S32768x1024 .f32) (w : FVec Ideal S16x1024x512 .f32) (e : Fin 16) (t : Fin 32768) (f : Fin 512) :
    forms x w (ix3 e t f) = ∑ d : Fin 1024, w (ix3 e d f) * x (ix2 t d) := by
  unfold forms
  pointwise

theorem units_at (g u : FVec Ideal S16x32768x512 .f32) (e : Fin 16) (t : Fin 32768) (f : Fin 512) :
    units g u (ix3 e t f) = unit (g (ix3 e t f)) (u (ix3 e t f)) := by
  unfold units unit
  pointwise

theorem mix_at (cb : FVec Ideal S32768x128 .f32) (h : FVec Ideal S16x32768x512 .f32) (wd : FVec Ideal S16x512x1024 .f32) (t : Fin 32768) (d : Fin 1024) :
    mix cb h wd (ix2 t d) = ∑ e : Fin 16, cb (ix2 t ⟨e, by omega⟩) * ∑ f : Fin 512, h (ix3 e t f) * wd (ix3 e f d) := by
  unfold mix
  pointwise

theorem stream_at (x y : FVec Ideal S32768x1024 .f32) (t : Fin 32768) (d : Fin 1024) :
    stream x y (ix2 t d) = Ideal.ofBits .f32 0x3FB504F3#32 * x (ix2 t d) + y (ix2 t d) := by
  unfold stream
  pointwise

theorem means_at (y : FVec Ideal S32768x1024 .f32) (t : Fin 32768) (z : Fin 1) :
    means y (ix2 t z) = mean (fun d => y (ix2 t d)) := by
  unfold means mean
  pointwise

theorem centred_at (y : FVec Ideal S32768x1024 .f32) (t : Fin 32768) (d : Fin 1024) :
    centred y (ix2 t d) = y (ix2 t d) - mean (fun d => y (ix2 t d)) := by
  unfold centred
  pointwise
  rw [means_at]

/-- The layer norm of every row. -/
def normed (y : FVec Ideal S32768x1024 .f32) (g b : FVec Ideal S1024 .f32) : FVec Ideal S32768x1024 .f32 :=
  addf (mulf (mulf (centred y) (broadcastInDim S32768x1024 ![0, 1] bcast_S32768x1_S32768x1024_0_1
      (Host.rsqrt (addf (means (mulf (centred y) (centred y))) (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem normed_at (y : FVec Ideal S32768x1024 .f32) (g b : FVec Ideal S1024 .f32) (t : Fin 32768) (d : Fin 1024) :
    normed y g b (ix2 t d) = norm (fun k => y (ix2 t k)) (g (ix1 d)) (b (ix1 d)) d := by
  have h : means (mulf (centred y) (centred y)) (ix2 t 0)
      = mean (fun k => (y (ix2 t k) - mean fun d => y (ix2 t d)) * (y (ix2 t k) - mean fun d => y (ix2 t d))) := by
    rw [means_at]
    exact congrArg mean (funext fun k => by pointwise; rw [centred_at])
  unfold normed norm
  pointwise
  rw [centred_at, h]

/-- The layer's result. -/
def result (x : FVec Ideal S32768x1024 .f32) (cb : FVec Ideal S32768x128 .f32) (wg wu : FVec Ideal S16x1024x512 .f32)
    (wd : FVec Ideal S16x512x1024 .f32) (g b : FVec Ideal S1024 .f32) : FVec Ideal S32768x1024 .f32 :=
  normed (stream x (mix cb (units (forms x wg) (forms x wu)) wd)) g b

theorem result_at (x : FVec Ideal S32768x1024 .f32) (cb : FVec Ideal S32768x128 .f32) (wg wu : FVec Ideal S16x1024x512 .f32)
    (wd : FVec Ideal S16x512x1024 .f32) (g b : FVec Ideal S1024 .f32) (t : Fin 32768) (d : Fin 1024) :
    result x cb wg wu wd g b (ix2 t d)
      = norm (fun k => Ideal.ofBits .f32 0x3FB504F3#32 * x (ix2 t k)
          + ∑ e : Fin 16, cb (ix2 t ⟨e, by omega⟩) * ∑ f : Fin 512,
            unit (∑ d : Fin 1024, x (ix2 t d) * wg (ix3 e d f)) (∑ d : Fin 1024, x (ix2 t d) * wu (ix3 e d f)) * wd (ix3 e f k))
        (g (ix1 d)) (b (ix1 d)) d := by
  unfold result
  rw [normed_at]
  refine congrArg (fun y => norm y (g (ix1 d)) (b (ix1 d)) d) (funext fun k => ?_)
  rw [stream_at, mix_at]
  refine congrArg (fun z : EReal => Ideal.ofBits .f32 0x3FB504F3#32 * x (ix2 t k) + z) (Finset.sum_congr rfl fun e _ => ?_)
  refine congrArg (fun z : EReal => cb (ix2 t ⟨e, by omega⟩) * z) (Finset.sum_congr rfl fun f _ => ?_)
  rw [units_at, forms_at, forms_at]
  simp only [mul_comm]

variable (m : (ℓ : Loc nD τ sig) → Buf (Elt Ideal) ℓ)

theorem first_eq (c : Dev nD) : Value.res_main_v37 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

theorem second_eq (c : Dev nD) : Value.res_main_v38 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

end Cert.Experts

end
-- ==== Proof.Experts.Weights.lean ====
/- What the precondition says of the routing weights, and that one of them may be drawn out of an expert's second product. -/
module

public import proofs.«01_k».proof.Proof.Experts.Array
public import proofs.«01_k».proof.Proof.Experts.Ref
public import proofs.«01_k».proof.Proof.Gen.Pre_routing_weights
public import Idealize.ShloMosaic.Lib.ReduceAll

@[expose] public section

set_option maxRecDepth 16384

noncomputable section

namespace Cert.Experts

open Idealize.ShloMosaic Idealize.ShloMosaic.TcCoe Idealize.SL.Sem

theorem nonneg_of_ge {x : EReal} (h : Ideal.cmp .oge x (Ideal.ofBits .f32 0x00000000#32) = 1#1) : 0 ≤ x := by
  have e : Ideal.ofBits .f32 0x00000000#32 = (0 : EReal) := by simp [Ideal.ofBits, Ideal.ieee]
  rw [e] at h
  by_contra hn
  simp [Ideal.cmp, hn] at h

theorem ne_top_of_lt {x : EReal} (h : Ideal.cmp .olt x (Ideal.ofBits .f32 0x7F800000#32) = 1#1) : x ≠ ⊤ := by
  have e : Ideal.ofBits .f32 0x7F800000#32 = (⊤ : EReal) := by simp [Ideal.ofBits, Ideal.ieee]
  rw [e] at h
  rintro rfl
  simp [Ideal.cmp] at h

instance : Subsingleton Cert.Pre_routing_weights.S_.Idx := ⟨fun a b => funext fun i => i.elim0⟩

open Cert.Pre_routing_weights Cert.Pre_routing_weights.Gen in
theorem weights_of_pre {x : FVec Ideal S32768x1024 .f32} {cb : FVec Ideal S32768x128 .f32} {wg wu : FVec Ideal S16x1024x512 .f32}
    {wd : FVec Ideal S16x512x1024 .f32} {g b : FVec Ideal S1024 .f32} (h : Cert.Pre_routing_weights.fn (F := Ideal) x cb wg wu wd g b = fun _ => 1#1) :
    ∀ i, 0 ≤ cb i ∧ cb i ≠ ⊤ := by
  have h0 := congrFun h ix0
  have hand : ∀ a b : BitVec 1, IntOp.andi a b = 1#1 → a = 1#1 ∧ b = 1#1 := by decide
  obtain ⟨h1, h2⟩ := hand _ _ h0
  exact fun i => ⟨nonneg_of_ge (Host.reduce_andi_all _ _ _ _ _ h1 i), ne_top_of_lt (Host.reduce_andi_all _ _ _ _ _ h2 i)⟩

/-- A finite weight that is not negative moves into a sum. -/
theorem mul_sum_of_weight {n : ℕ} (c : EReal) (h0 : 0 ≤ c) (h1 : c ≠ ⊤) (u w : Fin n → EReal) :
    c * ∑ f, u f * w f = ∑ f, u f * c * w f := by
  have key : ∀ s : Finset (Fin n), c * ∑ f ∈ s, u f * w f = ∑ f ∈ s, u f * c * w f := by
    intro s
    induction s using Finset.induction_on with
    | empty => simp
    | insert a s ha ih =>
      rw [Finset.sum_insert ha, Finset.sum_insert ha, EReal.left_distrib_of_nonneg_of_ne_top h0 h1, ih, ← mul_assoc, mul_comm c (u a)]
  exact key _

open Cert.KernelIdeal in
/-- The reference's result is the layer's, where the routing weights are finite and not negative. -/
theorem result_eq (x : FVec Ideal S32768x1024 .f32) (cb : FVec Ideal S32768x128 .f32) (wg wu : FVec Ideal S16x1024x512 .f32)
    (wd : FVec Ideal S16x512x1024 .f32) (g b : FVec Ideal S1024 .f32) (h : ∀ i, 0 ≤ cb i ∧ cb i ≠ ⊤) (t : Fin 32768) (d : Fin 1024) :
    layerOut x cb wg wu wd g b t d = result x cb wg wu wd g b (ix2 t d) := by
  rw [result_at]
  unfold layerOut contrib
  refine congrArg (fun y => norm y _ _ d) (funext fun k => ?_)
  refine congrArg (fun z : EReal => Ideal.ofBits .f32 0x3FB504F3#32 * x (ix2 t k) + z) (Finset.sum_congr rfl fun e _ => ?_)
  exact (mul_sum_of_weight _ (h _).1 (h _).2 _ _).symm

end Cert.Experts

end
-- ==== Proof.Proj.FirstCall.lean ====
/- The first input projection: the array the call leaves, entry by entry. -/
module

public import Idealize.ShloMosaic.Lib.Pipeline.ValueKit
public import Idealize.ShloMosaic.Lib.Pointwise
public import proofs.«01_k».proof.Proof.Gen.Kernel2Ideal.Value
import all proofs.«01_k».proof.Proof.Gen.Kernel2Ideal.Value

@[expose] public section

set_option maxRecDepth 16384

noncomputable section

namespace Cert.ProjA

open Idealize.ShloMosaic Idealize.ShloMosaic.TcCoe Idealize.SL.Sem
open Cert.Kernel2Ideal Cert.Kernel2Ideal.Gen

/-- A point's block: its rows times its columns. -/
theorem out_at (x0 : FVec Ideal S1024x1024 .bf16) (x1 : FVec Ideal S1024x1792 .bf16) (r : Fin 1024) (l : Fin 1792) :
    out0_2 (F := Ideal) x0 x1 (ix2 r l) = ∑ k : Fin 1024, x0 (ix2 r k) * x1 (ix2 k l) := by
  unfold out0_2
  frame_out
  unfold k0_pay1
  pointwise

variable (m : (ℓ : Loc nD τ sig) → Buf (Elt Ideal) ℓ)

theorem index_at : ∀ t : Fin cfg0.N, win0_0.index t 0 = t.val / 2 ∧ win0_0.index t 1 = 0 ∧ win0_1.index t 0 = 0 ∧ win0_1.index t 1 = t.val % 2
    ∧ win0_2.index t 0 = t.val / 2 ∧ win0_2.index t 1 = t.val % 2 :=
  (by decide +kernel : ∀ t : Fin grid0.N, win0_0.index t 0 = t.val / 2 ∧ win0_0.index t 1 = 0 ∧ win0_1.index t 0 = 0 ∧ win0_1.index t 1 = t.val % 2
    ∧ win0_2.index t 0 = t.val / 2 ∧ win0_2.index t 1 = t.val % 2)

theorem lt64 (t : Fin cfg0.N) : t.val < 64 := lt_of_lt_of_eq t.isLt (show cfg0.N = 64 from N_0)

theorem rows_at (c : Dev nD) (t : Fin cfg0.N) (r : Fin 1024) (k : Fin 1024) :
    iblk m c 0 t (ix2 r k) = m ((c : Thread nD τ).loc main_arg0) (ix2 ⟨t.val / 2 * 1024 + r, by have := lt64 t; omega⟩ k) := by
  blk_ext [iblk, V, index_at t]

theorem cols_at (c : Dev nD) (t : Fin cfg0.N) (k : Fin 1024) (l : Fin 1792) :
    iblk m c 1 t (ix2 k l) = V m c main_v1 (ix2 k ⟨t.val % 2 * 1792 + l, by omega⟩) := by
  blk_ext [iblk, index_at t]

theorem weight_at (c : Dev nD) (k : Fin 1024) (l : Fin 3584) :
    V m c main_v1 (ix2 k l) = m ((c : Thread nD τ).loc main_arg1) (ix2 k ⟨l, by omega⟩) := by
  entry_read
  pointwise

/-- The projection of the whole batch at its first 3584 columns. -/
def projOut (x : FVec Ideal S32768x1024 .bf16) (w : FVec Ideal S1024x6688 .f32) (r : Fin 32768) (l : Fin 3584) : EReal :=
  ∑ k : Fin 1024, x (ix2 r k) * w (ix2 k ⟨l, by omega⟩)

theorem point (c : Dev nD) (t : Fin cfg0.N) (r : Fin 1024) (l : Fin 1792) (a : Fin 32768) (b : Fin 3584)
    (ha : a.val = t.val / 2 * 1024 + r) (hb : b.val = t.val % 2 * 1792 + l) :
    out0_2 (F := Ideal) (iblk m c 0 t) (iblk m c 1 t) (ix2 r l)
      = projOut (m ((c : Thread nD τ).loc main_arg0)) (m ((c : Thread nD τ).loc main_arg1)) a b := by
  have ea : (⟨t.val / 2 * 1024 + r, by have := lt64 t; omega⟩ : Fin 32768) = a := Fin.ext ha.symm
  have eb : (⟨t.val % 2 * 1792 + l, by omega⟩ : Fin 3584) = b := Fin.ext hb.symm
  refine (out_at _ _ r l).trans (Finset.sum_congr rfl fun k _ => ?_)
  rw [rows_at, cols_at, weight_at, ea, eb]

/-- The array the call leaves. -/
theorem array_at (c : Dev nD) : (dats m 0 c).arrAt 2 cfg0.N
    = fun j => projOut (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  idx_vars y
  obtain ⟨-, -, -, -, e0, e1⟩ := index_at t
  refine point m c t y0 y1 _ _ ?_ ?_
  · blk_simp; rw [e0]
  · blk_simp; rw [e1]

end Cert.ProjA

end
-- ==== Proof.Proj.FirstRef.lean ====
/- The first input projection: the reference, entry by entry. -/
module

public import proofs.«01_k».proof.Proof.Proj.FirstCall
public import proofs.«01_k».proof.Proof.Gen.Reference2Ideal.Run

@[expose] public section

set_option maxRecDepth 16384

noncomputable section

namespace Cert.ProjA

open Idealize.ShloMosaic Idealize.ShloMosaic.TcCoe Idealize.SL.Sem
open Cert.Reference2Ideal Cert.Reference2Ideal.Gen

/-- The whole projection. -/
def whole (x : FVec Ideal S32768x1024 .bf16) (w : FVec Ideal S1024x6688 .f32) : FVec Ideal S32768x6688 .f32 :=
  Host.dotGeneral (F := Ideal) dot_S32768x1024_S1024x6688_S32768x6688_1_0_0_1_n_n none (extf .f32 x bitsLt_bf16_f32) w

/-- Its first columns. -/
def kept (p : FVec Ideal S32768x6688 .f32) : FVec Ideal S32768x3584 .f32 :=
  extractStridedSlice S32768x3584 ![0, 0] p slices_S32768x6688_S32768x3584_0_0

theorem whole_at (x : FVec Ideal S32768x1024 .bf16) (w : FVec Ideal S1024x6688 .f32) (r : Fin 32768) (l : Fin 6688) :
    whole x w (ix2 r l) = ∑ k : Fin 1024, x (ix2 r k) * w (ix2 k l) := by
  unfold whole
  pointwise

theorem kept_at (p : FVec Ideal S32768x6688 .f32) (r : Fin 32768) (l : Fin 3584) : kept p (ix2 r l) = p (ix2 r ⟨l, by omega⟩) := by
  unfold kept
  pointwise

theorem ref_at (x : FVec Ideal S32768x1024 .bf16) (w : FVec Ideal S1024x6688 .f32) (r : Fin 32768) (l : Fin 3584) :
    kept (whole x w) (ix2 r l) = projOut x w r l := by
  rw [kept_at, whole_at]
  rfl

end Cert.ProjA

end
-- ==== Proof.Proj.SecondCall.lean ====
/- The second input projection: the array the call leaves, entry by entry. -/
module

public import Idealize.ShloMosaic.Lib.Pipeline.ValueKit
public import Idealize.ShloMosaic.Lib.Pointwise
public import proofs.«01_k».proof.Proof.Gen.Kernel3Ideal.Value
import all proofs.«01_k».proof.Proof.Gen.Kernel3Ideal.Value

@[expose] public section

set_option maxRecDepth 16384

noncomputable section

namespace Cert.ProjB

open Idealize.ShloMosaic Idealize.ShloMosaic.TcCoe Idealize.SL.Sem
open Cert.Kernel3Ideal Cert.Kernel3Ideal.Gen

/-- A point's block: its rows times its columns. -/
theorem out_at (x0 : FVec Ideal S512x1024 .bf16) (x1 : FVec Ideal S1024x3200 .bf16) (r : Fin 512) (l : Fin 3200) :
    out0_2 (F := Ideal) x0 x1 (ix2 r l) = ∑ k : Fin 1024, x0 (ix2 r k) * x1 (ix2 k l) := by
  unfold out0_2
  frame_out
  unfold k0_pay1
  pointwise

variable (m : (ℓ : Loc nD τ sig) → Buf (Elt Ideal) ℓ)

theorem index_at : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, win0_0.index t 0 = t.val ∧ win0_0.index t 1 = 0 ∧ win0_1.index t 0 = 0 ∧ win0_1.index t 1 = 0
    ∧ win0_2.index t 0 = t.val ∧ win0_2.index t 1 = 0)

theorem lt64 (t : Fin cfg0.N) : t.val < 64 := lt_of_lt_of_eq t.isLt (show cfg0.N = 64 from N_0)

theorem rows_at (c : Dev nD) (t : Fin cfg0.N) (r : Fin 512) (k : Fin 1024) :
    iblk m c 0 t (ix2 r k) = m ((c : Thread nD τ).loc main_arg0) (ix2 ⟨t.val * 512 + r, by have := lt64 t; omega⟩ k) := by
  blk_ext [iblk, V, index_at t]

theorem cols_at (c : Dev nD) (t : Fin cfg0.N) (k : Fin 1024) (l : Fin 3200) :
    iblk m c 1 t (ix2 k l) = V m c main_v4 (ix2 k l) := by
  blk_ext [iblk, index_at t]

/-- The columns the call multiplies by: the merge gates', the decay gates' low-rank ones and zeros. -/
def weight (w : FVec Ideal S1024x6688 .f32) (k : Fin 1024) (l : Fin 3200) : EReal :=
  if h : l.val < 3072 then w (ix2 k ⟨3616 + l, by omega⟩)
  else if h' : l.val - 3072 < 32 then w (ix2 k ⟨3584 + (l - 3072), by omega⟩) else 0

/-- The three groups of columns side by side. -/
def beside (a : FVec Ideal S1024x3072 .f32) (b : FVec Ideal S1024x32 .f32) (d : FVec Ideal S1024x96 .f32) : FVec Ideal S1024x3200 .bf16 :=
  truncf .bf16 (concatenate S1024x3200 1 [⟨S1024x3072, a⟩, ⟨S1024x32, b⟩, ⟨S1024x96, d⟩] concatenates_S1024x3072_S1024x32_S1024x96_S1024x3200_d1) bitsLt_bf16_f32

theorem beside_at (a : FVec Ideal S1024x3072 .f32) (b : FVec Ideal S1024x32 .f32) (d : FVec Ideal S1024x96 .f32) (k : Fin 1024) (l : Fin 3200) : beside a b d (ix2 k l)
    = if h : l.val < 3072 then a (ix2 k ⟨l, h⟩) else if h' : l.val - 3072 < 32 then b (ix2 k ⟨l - 3072, h'⟩) else d (ix2 k ⟨l - 3072 - 32, by omega⟩) := by
  unfold beside
  pointwise

theorem entry_weight (c : Dev nD) : V m c main_v4 = beside (extractStridedSlice S1024x3072 ![0, 3616] (m ((c : Thread nD τ).loc main_arg1)) slices_S1024x6688_S1024x3072_0_3616)
    (extractStridedSlice S1024x32 ![0, 3584] (m ((c : Thread nD τ).loc main_arg1)) slices_S1024x6688_S1024x32_0_3584)
    (broadcastInDim S1024x96 ![] bcast_S_S1024x96 (constant (F := Ideal) S_ .f32 0x00000000#32)) := by
  unfold V
  after_results <;> rfl

theorem weight_at (c : Dev nD) (k : Fin 1024) (l : Fin 3200) :
    V m c main_v4 (ix2 k l) = weight (m ((c : Thread nD τ).loc main_arg1)) k l := by
  rw [entry_weight, beside_at]
  unfold weight
  split
  · pointwise
  · split
    · pointwise
    · pointwise

/-- The second projection of the whole batch. -/
def projOut (x : FVec Ideal S32768x1024 .bf16) (w : FVec Ideal S1024x6688 .f32) (r : Fin 32768) (l : Fin 3200) : EReal :=
  ∑ k : Fin 1024, x (ix2 r k) * weight w k l

theorem point (c : Dev nD) (t : Fin cfg0.N) (r : Fin 512) (l : Fin 3200) (a : Fin 32768) (b : Fin 3200)
    (ha : a.val = t.val * 512 + r) (hb : b.val = l) :
    out0_2 (F := Ideal) (iblk m c 0 t) (iblk m c 1 t) (ix2 r l)
      = projOut (m ((c : Thread nD τ).loc main_arg0)) (m ((c : Thread nD τ).loc main_arg1)) a b := by
  have ea : (⟨t.val * 512 + r, by have := lt64 t; omega⟩ : Fin 32768) = a := Fin.ext ha.symm
  obtain rfl : l = b := Fin.ext hb.symm
  refine (out_at _ _ r l).trans (Finset.sum_congr rfl fun k _ => ?_)
  rw [rows_at, cols_at, weight_at, ea]

/-- The array the call leaves. -/
theorem array_at (c : Dev nD) : (dats m 0 c).arrAt 2 cfg0.N
    = fun j => projOut (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  idx_vars y
  obtain ⟨-, -, -, -, e0, e1⟩ := index_at t
  refine point m c t y0 y1 _ _ ?_ ?_
  · blk_simp; rw [e0]
  · blk_simp; rw [e1, zero_mul, zero_add]

end Cert.ProjB

end
-- ==== Proof.Proj.SecondRef.lean ====
/- The second input projection: the reference, entry by entry. -/
module

public import proofs.«01_k».proof.Proof.Proj.SecondCall
public import proofs.«01_k».proof.Proof.Gen.Reference3Ideal.Run

@[expose] public section

set_option maxRecDepth 16384

noncomputable section

namespace Cert.ProjB

open Idealize.ShloMosaic Idealize.ShloMosaic.TcCoe Idealize.SL.Sem
open Cert.Reference3Ideal Cert.Reference3Ideal.Gen

/-- The whole projection. -/
def whole (x : FVec Ideal S32768x1024 .bf16) (w : FVec Ideal S1024x6688 .f32) : FVec Ideal S32768x6688 .f32 :=
  Host.dotGeneral (F := Ideal) dot_S32768x1024_S1024x6688_S32768x6688_1_0_0_1_n_n none (extf .f32 x bitsLt_bf16_f32) w

/-- The merge gates' columns, the two low-rank gates' and zeros, side by side. -/
def sideBySide (p : FVec Ideal S32768x6688 .f32) : FVec Ideal S32768x3200 .f32 :=
  concatenate S32768x3200 1 [⟨S32768x3072, extractStridedSlice S32768x3072 ![0, 3616] p slices_S32768x6688_S32768x3072_0_3616⟩,
    ⟨S32768x16, extractStridedSlice S32768x16 ![0, 3584] p slices_S32768x6688_S32768x16_0_3584⟩,
    ⟨S32768x16, extractStridedSlice S32768x16 ![0, 3600] p slices_S32768x6688_S32768x16_0_3600⟩,
    ⟨S32768x96, broadcastInDim S32768x96 ![] bcast_S_S32768x96 (constant (F := Ideal) S_ .f32 0x00000000#32)⟩]
    concatenates_S32768x3072_S32768x16_S32768x16_S32768x96_S32768x3200_d1

theorem whole_at (x : FVec Ideal S32768x1024 .bf16) (w : FVec Ideal S1024x6688 .f32) (r : Fin 32768) (l : Fin 6688) :
    whole x w (ix2 r l) = ∑ k : Fin 1024, x (ix2 r k) * w (ix2 k l) := by
  unfold whole
  pointwise

theorem sideBySide_at (p : FVec Ideal S32768x6688 .f32) (r : Fin 32768) (l : Fin 3200) : sideBySide p (ix2 r l)
    = if h : l.val < 3072 then p (ix2 r ⟨3616 + l, by omega⟩) else if h' : l.val - 3072 < 16 then p (ix2 r ⟨3584 + (l - 3072), by omega⟩)
      else if h'' : l.val - 3072 - 16 < 16 then p (ix2 r ⟨3600 + (l - 3072 - 16), by omega⟩) else 0 := by
  unfold sideBySide
  pointwise

theorem ref_at (x : FVec Ideal S32768x1024 .bf16) (w : FVec Ideal S1024x6688 .f32) (r : Fin 32768) (l : Fin 3200) :
    sideBySide (whole x w) (ix2 r l) = projOut x w r l := by
  rw [sideBySide_at]
  unfold projOut weight
  by_cases h : l.val < 3072
  · simp only [dif_pos h]
    exact whole_at x w r _
  · simp only [dif_neg h]
    by_cases h' : l.val - 3072 < 16
    · simp only [dif_pos h', dif_pos (show l.val - 3072 < 32 by omega)]
      exact whole_at x w r _
    · simp only [dif_neg h']
      by_cases h'' : l.val - 3072 - 16 < 16
      · simp only [dif_pos h'', dif_pos (show l.val - 3072 < 32 by omega)]
        rw [whole_at]
        have e : (⟨3600 + (l.val - 3072 - 16), by omega⟩ : Fin 6688) = ⟨3584 + (l.val - 3072), by omega⟩ := Fin.ext (by show 3600 + (l.val - 3072 - 16) = 3584 + (l.val - 3072); omega)
        rw [e]
      · simp only [dif_neg h'', dif_neg (show ¬l.val - 3072 < 32 by omega), mul_zero, Finset.sum_const_zero]

end Cert.ProjB

end
-- ==== Proof.Attn.Consts.lean ====
/- The real values of the float words that the attention kernel and its reference write out. -/
module

public import Idealize.ShloMosaic.PureOps.Ideal

@[expose] public section

noncomputable section

namespace Cert.Attn

open Idealize.ShloMosaic

theorem ofBits_two : Ideal.ofBits .f32 0x40000000#32 = ((2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_16th : Ideal.ofBits .f32 0x3D800000#32 = ((1 / 16 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_256th : Ideal.ofBits .f32 0x3B800000#32 = ((1 / 256 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The kernel's starting maximum is some finite number. -/
theorem ofBits_low : ∃ μ : ℝ, Ideal.ofBits .f32 0xF149F2CA#32 = (μ : EReal) :=
  ⟨_, by simp [Ideal.ofBits, Ideal.ieee, -EReal.coe_mul]; rfl⟩

end Cert.Attn

end
-- ==== Proof.Attn.Chunk.lean ====
/- One chunk of the attention kernel: 256 query rows against one block of 512 keys, with the running maximum and the
   running sum of weighted values carried from the key blocks before it. -/
module

public import proofs.«01_k».proof.Proof.Gen.Kernel4Ideal.Skeleton
public import proofs.«01_k».proof.Proof.Attn.Consts
public import Idealize.ShloMosaic.Lib.Pointwise

@[expose] public section

set_option maxRecDepth 16384

noncomputable section

namespace Cert.Attn

open Idealize.ShloMosaic Idealize.ShloMosaic.TcCoe Idealize.SL.Sem
open Cert.Kernel4Ideal Cert.Kernel4Ideal.Gen

/-- The scores of a chunk: its augmented query rows times the augmented keys of the block. -/
def score (lhs : FVec Ideal S1x1x256x256 .bf16) (ka : FVec Ideal S256x512 .bf16) : FVec Ideal S256x512 .f32 :=
  matmul (φ₁ := .bf16) (φ₂ := .bf16) dot_S256x256_S256x512_S256x512_1_0_0_1_n_n none
    (shapeCast S256x256 lhs shapeCasts_S1x1x256x256_S256x256) ka (constant S256x512 .f32 0x00000000#32)

/-- The scores of a chunk on the diagonal: the correction of the keys to the right of the row is added. -/
def scoreFix (lhs : FVec Ideal S1x1x256x256 .bf16) (ka : FVec Ideal S256x512 .bf16)
    (fix : FVec Ideal S1x256x512 .f32) : FVec Ideal S256x512 .f32 :=
  addf (score lhs ka) (shapeCast S256x512 fix shapeCasts_S1x256x512_S256x512)

/-- The new running maximum of each row, as a column. -/
def colMax (s : FVec Ideal S256x512 .f32) (m : FVec Ideal S1x256x1 .f32) : FVec Ideal S256x1 .f32 :=
  maximumf (shapeCast S256x1 m shapeCasts_S1x256x1_S256x1)
    (shapeCast S256x1 (multiReduction .maximumf [1] S256 s 0xFF800000#32 reduces_S256x512_S256 (.inl rfl) rfl)
      shapeCasts_S256_S256x1)

/-- The new running maximum of each row, as it is stored. -/
def newMax (s : FVec Ideal S256x512 .f32) (m : FVec Ideal S1x256x1 .f32) : FVec Ideal S1x256x1 .f32 :=
  shapeCast S1x256x1 (colMax s m) shapeCasts_S256x1_S1x256x1

/-- The new running sums: the old ones scaled to the new maximum, and this block's weighted values. -/
def newAcc (s : FVec Ideal S256x512 .f32) (m : FVec Ideal S1x256x1 .f32) (a : FVec Ideal S1x256x256 .f32)
    (vb : FVec Ideal S512x256 .bf16) : FVec Ideal S1x256x256 .f32 :=
  shapeCast S1x256x256
    (addf
      (mulf
        (broadcastTo S256x256 (exp2 (subf (shapeCast S256x1 m shapeCasts_S1x256x1_S256x1) (colMax s m)))
          broadcasts_S256x1_S256x256)
        (shapeCast S256x256 a shapeCasts_S1x256x256_S256x256))
      (matmul (φ₁ := .bf16) (φ₂ := .bf16) dot_S256x512_S512x256_S256x256_1_0_0_1_n_n none
        (truncf .bf16 (exp2 (subf s (broadcastTo S256x512 (colMax s m) broadcasts_S256x1_S256x512)))
          bitsLt_bf16_f32)
        vb (constant S256x256 .f32 0x00000000#32)))
    shapeCasts_S256x256_S1x256x256

theorem score_at (lhs : FVec Ideal S1x1x256x256 .bf16) (ka : FVec Ideal S256x512 .bf16) (x : Fin 256) (y : Fin 512) :
    score lhs ka (ix2 x y) = ∑ l : Fin 256, lhs (ix4 0 0 x l) * ka (ix2 l y) := by
  pointwise [score]

theorem scoreFix_at (lhs : FVec Ideal S1x1x256x256 .bf16) (ka : FVec Ideal S256x512 .bf16)
    (fix : FVec Ideal S1x256x512 .f32) (x : Fin 256) (y : Fin 512) :
    scoreFix lhs ka fix (ix2 x y) = score lhs ka (ix2 x y) + fix (ix3 0 x y) := by
  pointwise [scoreFix]

theorem newMax_at (s : FVec Ideal S256x512 .f32) (m : FVec Ideal S1x256x1 .f32) (x : Fin 256) :
    newMax s m (ix3 0 x 0) = max (m (ix3 0 x 0)) (Finset.univ.fold max ⊥ fun y : Fin 512 => s (ix2 x y)) := by
  pointwise [newMax, colMax, ofBits_neg_inf]

theorem newAcc_at (s : FVec Ideal S256x512 .f32) (m : FVec Ideal S1x256x1 .f32) (a : FVec Ideal S1x256x256 .f32)
    (vb : FVec Ideal S512x256 .bf16) (x : Fin 256) (c : Fin 256) :
    newAcc s m a vb (ix3 0 x c)
      = Ideal.exp2 (m (ix3 0 x 0) - newMax s m (ix3 0 x 0)) * a (ix3 0 x c)
        + ∑ y : Fin 512, Ideal.exp2 (s (ix2 x y) - newMax s m (ix3 0 x 0)) * vb (ix2 y c) := by
  pointwise [newAcc, newMax, colMax, ofBits_neg_inf]
  rfl

theorem exp2_coe (r : ℝ) : Ideal.exp2 (r : EReal) = (((2 : ℝ) ^ r : ℝ) : EReal) := rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- What one row's running maximum and running sums hold once the first `512 * n` keys are seen: the maximum is some
    real number `μ`, and each running sum is the sum over those keys of `2 ^ (score - μ)` times the value. -/
def RowHolds (S : ℕ → ℝ) (V : ℕ → ℕ → ℝ) (n : ℕ) (m : EReal) (a : Fin 256 → EReal) : Prop :=
  ∃ μ : ℝ, m = (μ : EReal) ∧
    ∀ c : Fin 256, a c = ((∑ p ∈ Finset.range (512 * n), (2 : ℝ) ^ (S p - μ) * V p c : ℝ) : EReal)

/-- One more block of keys. -/
theorem RowHolds.step {S : ℕ → ℝ} {V : ℕ → ℕ → ℝ} {n : ℕ} {m : EReal} {a : Fin 256 → EReal} (h : RowHolds S V n m a)
    (s : Fin 512 → EReal) (vb : Fin 512 → Fin 256 → EReal)
    (hs : ∀ y : Fin 512, s y = ((S (512 * n + y) : ℝ) : EReal))
    (hv : ∀ (y : Fin 512) (c : Fin 256), vb y c = ((V (512 * n + y) c : ℝ) : EReal)) :
    RowHolds S V (n + 1) (max m (Finset.univ.fold max ⊥ s))
      (fun c => Ideal.exp2 (m - max m (Finset.univ.fold max ⊥ s)) * a c
        + ∑ y : Fin 512, Ideal.exp2 (s y - max m (Finset.univ.fold max ⊥ s)) * vb y c) := by
  obtain ⟨μ, rfl, ha⟩ := h
  obtain ⟨i, -, hi⟩ := Finset.exists_mem_eq_sup (Finset.univ : Finset (Fin 512)) ⟨0, Finset.mem_univ _⟩ s
  have hfold : Finset.univ.fold max ⊥ s = ((S (512 * n + i) : ℝ) : EReal) := (hi : Finset.univ.fold max ⊥ s = s i).trans (hs i)
  obtain ⟨ν, hν⟩ : ∃ ν : ℝ, max (μ : EReal) (Finset.univ.fold max ⊥ s) = (ν : EReal) := by
    rw [hfold]
    rcases max_choice (μ : EReal) ((S (512 * n + i) : ℝ) : EReal) with e | e <;> exact ⟨_, e⟩
  rw [hν]
  refine ⟨ν, rfl, fun c => ?_⟩
  simp only [ha, hs, hv, ← EReal.coe_sub, exp2_coe, ← EReal.coe_mul, coe_sum, ← EReal.coe_add]
  congr 1
  rw [Nat.mul_add, Finset.sum_range_add, Finset.mul_sum, Nat.mul_one,
    ← Fin.sum_univ_eq_sum_range (fun y => (2 : ℝ) ^ (S (512 * n + y) - ν) * V (512 * n + y) c)]
  congr 1
  refine Finset.sum_congr rfl fun p _ => ?_
  rw [← mul_assoc, ← Real.rpow_add two_pos]
  congr 2
  ring

/-- The 256 rows of chunk `r` each hold their first `512 * n` keys. -/
def ChunkHolds (S : ℕ → ℕ → ℝ) (V : ℕ → ℕ → ℝ) (r n : ℕ) (m : FVec Ideal S1x256x1 .f32) (a : FVec Ideal S1x256x256 .f32) :
    Prop :=
  ∀ x : Fin 256, RowHolds (S (256 * r + x)) V n (m (ix3 0 x 0)) (fun c => a (ix3 0 x c))

/-- One chunk against one more block of keys. -/
theorem ChunkHolds.step {S : ℕ → ℕ → ℝ} {V : ℕ → ℕ → ℝ} {r n : ℕ} {m : FVec Ideal S1x256x1 .f32}
    {a : FVec Ideal S1x256x256 .f32} (h : ChunkHolds S V r n m a) (s : FVec Ideal S256x512 .f32)
    (vb : FVec Ideal S512x256 .bf16)
    (hs : ∀ (x : Fin 256) (y : Fin 512), s (ix2 x y) = ((S (256 * r + x) (512 * n + y) : ℝ) : EReal))
    (hv : ∀ (y : Fin 512) (c : Fin 256), vb (ix2 y c) = ((V (512 * n + y) c : ℝ) : EReal)) :
    ChunkHolds S V r (n + 1) (newMax s m) (newAcc s m a vb) := by
  intro x
  have e := (h x).step (fun y => s (ix2 x y)) (fun y c => vb (ix2 y c)) (hs x) hv
  simp only [newAcc_at, newMax_at]
  exact e

end Cert.Attn

end
-- ==== Proof.Attn.State.lean ====
/- The two running arrays of the attention kernel while one block of keys is being taken in, chunk after chunk. -/
module

public import proofs.«01_k».proof.Proof.Attn.Chunk
public import Idealize.ShloMosaic.Lib.VecWindow

@[expose] public section

set_option maxRecDepth 16384

noncomputable section

namespace Cert.Attn

open Idealize.ShloMosaic Idealize.ShloMosaic.TcCoe Idealize.SL.Sem
open Cert.Kernel4Ideal Cert.Kernel4Ideal.Gen

/-- The running arrays once `n` blocks of keys are in for every chunk and block `n` is in for the first `k` of the
    eight chunks (four of the first map, then four of the second). -/
def Inv (S : Fin 2 → ℕ → ℕ → ℝ) (V : ℕ → ℕ → ℝ) (n k : ℕ) (M : S2x1024x1.Idx → EReal) (A : S2x1024x256.Idx → EReal) : Prop :=
  ∀ (p : Fin 2) (row : Fin 1024),
    RowHolds (S p row) V (if 4 * p.val + row.val / 256 < k then n + 1 else n) (M (ix3 p row 0)) (fun c => A (ix3 p row c))

theorem Inv.next {S : Fin 2 → ℕ → ℕ → ℝ} {V : ℕ → ℕ → ℝ} {n : ℕ} {M : S2x1024x1.Idx → EReal} {A : S2x1024x256.Idx → EReal}
    (h : Inv S V n 8 M A) : Inv S V (n + 1) 0 M A := by
  intro p row
  have e := h p row
  rw [if_pos (by omega)] at e
  rw [if_neg (by omega)]
  exact e

variable {sig : RefSig} {κ : Kind} {sp : Space}

/-- The chunk a load of the running maximum reads. -/
theorem readAt_max (v : View sig κ sp S2x1024x1 .f32) (f : v.ty.Contents (Elt Ideal)) (p : Fin 2) (r : Fin 4) {off : Fin 3 → ℕ}
    (inb : ∀ a, off a + S1x256x1.size a ≤ S2x1024x1.size a) (h : off = ![p.val, 256 * r.val, 0]) (x : Fin 256) :
    v.readAt (Elt Ideal) (Rect.unit (s := S2x1024x1) off S1x256x1.size inb).toLoadRect f (ix3 0 x 0)
      = v.read (Elt Ideal) f (ix3 p ⟨256 * r.val + x.val, by omega⟩ 0) := by
  subst h
  refine congrArg (v.read (Elt Ideal) f) (funext fun a => Fin.ext ?_)
  fin_cases a <;> simp [Rect.toLoadRect, LoadRect.idx, Rect.unit]

/-- The chunk a load of the running sums reads. -/
theorem readAt_acc (v : View sig κ sp S2x1024x256 .f32) (f : v.ty.Contents (Elt Ideal)) (p : Fin 2) (r : Fin 4) {off : Fin 3 → ℕ}
    (inb : ∀ a, off a + S1x256x256.size a ≤ S2x1024x256.size a) (h : off = ![p.val, 256 * r.val, 0]) (x c : Fin 256) :
    v.readAt (Elt Ideal) (Rect.unit (s := S2x1024x256) off S1x256x256.size inb).toLoadRect f (ix3 0 x c)
      = v.read (Elt Ideal) f (ix3 p ⟨256 * r.val + x.val, by omega⟩ c) := by
  subst h
  refine congrArg (v.read (Elt Ideal) f) (funext fun a => Fin.ext ?_)
  fin_cases a <;> simp [Rect.toLoadRect, LoadRect.idx, Rect.unit]

/-- A chunk not yet at block `n` holds its first `n` blocks. -/
theorem Inv.chunk {S : Fin 2 → ℕ → ℕ → ℝ} {V : ℕ → ℕ → ℝ} {n k : ℕ} {v13 : View sig κ sp S2x1024x1 .f32}
    {v14 : View sig κ sp S2x1024x256 .f32} {f13 : v13.ty.Contents (Elt Ideal)} {f14 : v14.ty.Contents (Elt Ideal)}
    (h : Inv S V n k (v13.read (Elt Ideal) f13) (v14.read (Elt Ideal) f14)) (p : Fin 2) (r : Fin 4) (hk : k ≤ 4 * p.val + r.val)
    {off off' : Fin 3 → ℕ} (inb : ∀ a, off a + S1x256x1.size a ≤ S2x1024x1.size a) (ho : off = ![p.val, 256 * r.val, 0])
    (inb' : ∀ a, off' a + S1x256x256.size a ≤ S2x1024x256.size a) (ho' : off' = ![p.val, 256 * r.val, 0]) :
    ChunkHolds (S p) V r.val n (v13.readAt (Elt Ideal) (Rect.unit (s := S2x1024x1) off S1x256x1.size inb).toLoadRect f13)
      (v14.readAt (Elt Ideal) (Rect.unit (s := S2x1024x256) off' S1x256x256.size inb').toLoadRect f14) := by
  intro x
  have e := h p ⟨256 * r.val + x.val, by omega⟩
  rw [if_neg (by simp only; omega)] at e
  rw [readAt_max v13 f13 p r inb ho x]
  simp only [readAt_acc v14 f14 p r inb' ho' x]
  exact e

/-- Storing a chunk that is through with block `n`. -/
theorem Inv.push {S : Fin 2 → ℕ → ℕ → ℝ} {V : ℕ → ℕ → ℝ} {n k : ℕ} {v13 : View sig κ sp S2x1024x1 .f32}
    {v14 : View sig κ sp S2x1024x256 .f32} {f13 : v13.ty.Contents (Elt Ideal)} {f14 : v14.ty.Contents (Elt Ideal)}
    {L13 : List (View.Piece (Elt Ideal) S2x1024x1 .f32)} {L14 : List (View.Piece (Elt Ideal) S2x1024x256 .f32)}
    (p : Fin 2) (r : Fin 4) (hk : k = 4 * p.val + r.val + 1)
    {off off' : Fin 3 → ℕ} (inb : ∀ a, off a + S1x256x1.size a ≤ S2x1024x1.size a) (ho : off = ![p.val, 256 * r.val, 0])
    (inb' : ∀ a, off' a + S1x256x256.size a ≤ S2x1024x256.size a) (ho' : off' = ![p.val, 256 * r.val, 0])
    {wm : FVec Ideal S1x256x1 .f32} {wa : FVec Ideal S1x256x256 .f32}
    (hc : ChunkHolds (S p) V r.val (n + 1) wm wa)
    (h : Inv S V n (4 * p.val + r.val) (v13.read (Elt Ideal) (v13.writes (Elt Ideal) f13 L13))
      (v14.read (Elt Ideal) (v14.writes (Elt Ideal) f14 L14))) :
    Inv S V n k
      (v13.read (Elt Ideal) (v13.writes (Elt Ideal) f13 (⟨Rect.unit (s := S2x1024x1) off S1x256x1.size inb, wm⟩ :: L13)))
      (v14.read (Elt Ideal) (v14.writes (Elt Ideal) f14 (⟨Rect.unit (s := S2x1024x256) off' S1x256x256.size inb', wa⟩ :: L14))) := by
  subst hk
  intro q row
  rw [View.read_writes_cons_put v13 f13 inb wm L13 ho, View.read_writes_cons_put v14 f14 inb' wa L14 ho']
  by_cases hit : q = p ∧ row.val / 256 = r.val
  · obtain ⟨rfl, hr⟩ := hit
    rw [if_pos (by omega)]
    have hrow : row.val = 256 * r.val + (row.val - 256 * r.val) := by omega
    have e := hc ⟨row.val - 256 * r.val, by omega⟩
    simp only [← hrow] at e
    have e1 : VecWindow.put (v13.read (Elt Ideal) (v13.writes (Elt Ideal) f13 L13)) ![q.val, 256 * r.val, 0] S1x256x1.size wm
        (ix3 q row 0) = wm (ix3 0 ⟨row.val - 256 * r.val, by omega⟩ 0) := by
      unfold VecWindow.put
      rw [dif_pos (by intro a; fin_cases a <;> simp <;> omega)]
      refine congrArg wm (funext fun a => Fin.ext ?_)
      fin_cases a <;> simp [Rect.unitLocal]
    have e2 (c : Fin 256) : VecWindow.put (v14.read (Elt Ideal) (v14.writes (Elt Ideal) f14 L14)) ![q.val, 256 * r.val, 0]
        S1x256x256.size wa (ix3 q row c) = wa (ix3 0 ⟨row.val - 256 * r.val, by omega⟩ c) := by
      unfold VecWindow.put
      rw [dif_pos (by intro a; fin_cases a <;> simp <;> omega)]
      refine congrArg wa (funext fun a => Fin.ext ?_)
      fin_cases a <;> simp [Rect.unitLocal]
    simp only [e1, e2]
    exact e
  · have hne : 4 * q.val + row.val / 256 ≠ 4 * p.val + r.val := by
      intro e
      exact hit ⟨Fin.ext (by omega), by omega⟩
    have e := h q row
    have hin (c : ℕ) : ¬ (((![p.val, 256 * r.val, 0] : Fin 3 → ℕ) 0 ≤ q.val ∧ q.val < (![p.val, 256 * r.val, 0] : Fin 3 → ℕ) 0 + 1)
        ∧ ((![p.val, 256 * r.val, 0] : Fin 3 → ℕ) 1 ≤ row.val ∧ row.val < (![p.val, 256 * r.val, 0] : Fin 3 → ℕ) 1 + 256)) := by
      simp only [Matrix.cons_val_zero, Matrix.cons_val_one]
      omega
    have e1 : VecWindow.put (v13.read (Elt Ideal) (v13.writes (Elt Ideal) f13 L13)) ![p.val, 256 * r.val, 0] S1x256x1.size wm
        (ix3 q row 0) = v13.read (Elt Ideal) (v13.writes (Elt Ideal) f13 L13) (ix3 q row 0) := by
      unfold VecWindow.put
      rw [dif_neg fun h => hin 0 ⟨h 0, h 1⟩]
    have e2 (c : Fin 256) : VecWindow.put (v14.read (Elt Ideal) (v14.writes (Elt Ideal) f14 L14)) ![p.val, 256 * r.val, 0]
        S1x256x256.size wa (ix3 q row c) = v14.read (Elt Ideal) (v14.writes (Elt Ideal) f14 L14) (ix3 q row c) := by
      unfold VecWindow.put
      rw [dif_neg fun h => hin 0 ⟨h 0, h 1⟩]
    simp only [e1, e2]
    have hcnt : (if 4 * q.val + row.val / 256 < 4 * p.val + r.val + 1 then n + 1 else n)
        = if 4 * q.val + row.val / 256 < 4 * p.val + r.val then n + 1 else n := by
      by_cases hl : 4 * q.val + row.val / 256 < 4 * p.val + r.val
      · rw [if_pos hl, if_pos (by omega)]
      · rw [if_neg hl, if_neg (by omega)]
    rw [hcnt]
    exact e

end Cert.Attn

end
-- ==== Proof.Attn.Scores.lean ====
/- The scores of the attention kernel over the reals.  The kernel multiplies a query row of 256 lanes with a key column of
   256 lanes: the first 128 lanes are the scaled query (one of its two halves, the other set to zero) and the key, the
   last 128 lanes carry the distance penalty. -/
module

public import proofs.«01_k».proof.Proof.Attn.State
public import Mathlib.Analysis.SpecialFunctions.Log.Basic

@[expose] public section

set_option maxRecDepth 16384

noncomputable section

namespace Cert.Attn

open Idealize.ShloMosaic Idealize.ShloMosaic.TcCoe Idealize.SL.Sem
open Cert.Kernel4Ideal Cert.Kernel4Ideal.Gen

/-- The factor on the queries: one over the square root of the head width, times the base-2 logarithm of e. -/
def qscale : ℝ := 1 / 8 * (Real.log 2)⁻¹

/-- The sign of the distance lanes: plus for keys at or before the row, minus for keys after it. -/
def sgn (g : Fin 2) : ℝ := if g = 0 then 1 else -1

/-- Lane `l` of query row `row` (the row of the block; the block's first row is row `b` of the sequence). -/
def lane (q : ℕ → ℕ → ℝ) (σ : ℝ) (b : ℕ) (p g : Fin 2) (row l : ℕ) : ℝ :=
  if l < 128 then (if l / 64 = p.val then q row l * qscale else 0)
  else sgn g * (if l = 128 then ((b + row : ℕ) : ℝ) * (-σ) else if l < 131 then 0 else if l < 134 then 1 else 0)

/-- Lane `l` of key `pos`. -/
def keyLane (k : ℕ → ℕ → ℝ) (σ : ℝ) (l pos : ℕ) : ℝ :=
  if l < 128 then k pos l else if l < 131 then 1 else if l = 131 then (pos : ℝ) * σ else 0

/-- The product of a query's and a key's half `p`. -/
def dot (q k : ℕ → ℕ → ℝ) (p : Fin 2) (row pos : ℕ) : ℝ :=
  ∑ d ∈ Finset.range 64, q row (64 * p.val + d) * k pos (64 * p.val + d)

/-- The score of a row against a key, in powers of two. -/
def logit (q k : ℕ → ℕ → ℝ) (σ : ℝ) (b : ℕ) (p : Fin 2) (row pos : ℕ) : ℝ :=
  dot q k p row pos * qscale - σ * |((b + row : ℕ) : ℝ) - (pos : ℝ)|

theorem sum_lanes (q k : ℕ → ℕ → ℝ) (σ : ℝ) (b : ℕ) (p g : Fin 2) (row pos : ℕ) :
    ∑ l ∈ Finset.range 256, lane q σ b p g row l * keyLane k σ l pos
      = dot q k p row pos * qscale + sgn g * (σ * ((pos : ℝ) - ((b + row : ℕ) : ℝ))) := by
  rw [show (256 : ℕ) = 128 + 128 from rfl, Finset.sum_range_add]
  congr 1
  · rw [show (128 : ℕ) = 64 + 64 from rfl, Finset.sum_range_add]
    have h1 : ∀ d ∈ Finset.range 64, lane q σ b p g row d * keyLane k σ d pos
        = if p = 0 then q row d * k pos d * qscale else 0 := by
      intro d hd
      rw [Finset.mem_range] at hd
      unfold lane keyLane
      have hd' : d < 128 := by omega
      rw [if_pos hd', if_pos hd', show d / 64 = 0 by omega]
      by_cases hp : p = 0
      · subst hp; simp; ring
      · have hp' : p.val ≠ 0 := fun e => hp (Fin.ext e)
        rw [if_neg (Ne.symm hp'), if_neg hp]; ring
    have h2 : ∀ d ∈ Finset.range 64, lane q σ b p g row (64 + d) * keyLane k σ (64 + d) pos
        = if p = 0 then 0 else q row (64 + d) * k pos (64 + d) * qscale := by
      intro d hd
      rw [Finset.mem_range] at hd
      unfold lane keyLane
      have hd' : 64 + d < 128 := by omega
      rw [if_pos hd', if_pos hd', show (64 + d) / 64 = 1 by omega]
      by_cases hp : p = 0
      · subst hp; simp
      · have hp' : p.val = 1 := by have := p.isLt; have : p.val ≠ 0 := fun e => hp (Fin.ext e); omega
        rw [if_pos hp'.symm, if_neg hp]; ring
    rw [Finset.sum_congr rfl h1, Finset.sum_congr rfl h2]
    unfold dot
    by_cases hp : p = 0
    · subst hp; simp [Finset.sum_mul]
    · have hp' : p.val = 1 := by have := p.isLt; have : p.val ≠ 0 := fun e => hp (Fin.ext e); omega
      simp [hp, hp', Finset.sum_mul]
  · rw [show (128 : ℕ) = 6 + 122 from rfl, Finset.sum_range_add]
    rw [Finset.sum_eq_zero (s := Finset.range 122) (fun d hd => by
      unfold lane keyLane
      rw [if_neg (by omega), if_neg (by omega), if_neg (by omega), if_neg (by omega), if_neg (by omega)]
      ring)]
    simp only [Finset.sum_range_succ, Finset.sum_range_zero, lane, keyLane]
    norm_num
    push_cast
    ring

theorem sum_lanes_coe (q k : ℕ → ℕ → ℝ) (σ : ℝ) (b : ℕ) (p g : Fin 2) (row pos : ℕ) :
    ∑ l : Fin 256, ((lane q σ b p g row l : ℝ) : EReal) * ((keyLane k σ l pos : ℝ) : EReal)
      = ((dot q k p row pos * qscale + sgn g * (σ * ((pos : ℝ) - ((b + row : ℕ) : ℝ))) : ℝ) : EReal) := by
  rw [← sum_lanes, ← Fin.sum_univ_eq_sum_range (fun l => lane q σ b p g row l * keyLane k σ l pos), ← coe_sum]
  exact Finset.sum_congr rfl fun l _ => (EReal.coe_mul _ _).symm

section
variable {q k : ℕ → ℕ → ℝ} {σ : ℝ} {b n : ℕ} {p g : Fin 2} {r : ℕ}
  {lhs : FVec Ideal S1x1x256x256 .bf16} {ka : FVec Ideal S256x512 .bf16} {fix : FVec Ideal S1x256x512 .f32}

/-- A chunk wholly after the keys of the block. -/
theorem score_before (hl : ∀ x l : Fin 256, lhs (ix4 0 0 x l) = ((lane q σ b p 0 (256 * r + x) l : ℝ) : EReal))
    (hk : ∀ (l : Fin 256) (y : Fin 512), ka (ix2 l y) = ((keyLane k σ l (512 * n + y) : ℝ) : EReal))
    (hr : 512 * (n + 1) ≤ b + 256 * r) (x : Fin 256) (y : Fin 512) :
    score lhs ka (ix2 x y) = ((logit q k σ b p (256 * r + x) (512 * n + y) : ℝ) : EReal) := by
  rw [score_at]
  simp only [hl, hk]
  rw [sum_lanes_coe]
  congr 1
  have h : ((512 * n + y.val : ℕ) : ℝ) ≤ ((b + (256 * r + x.val) : ℕ) : ℝ) := by exact_mod_cast (by omega)
  unfold logit sgn
  rw [abs_of_nonneg (by linarith), if_pos rfl]
  ring

/-- A chunk wholly before the keys of the block. -/
theorem score_after (hl : ∀ x l : Fin 256, lhs (ix4 0 0 x l) = ((lane q σ b p 1 (256 * r + x) l : ℝ) : EReal))
    (hk : ∀ (l : Fin 256) (y : Fin 512), ka (ix2 l y) = ((keyLane k σ l (512 * n + y) : ℝ) : EReal))
    (hr : b + 256 * (r + 1) ≤ 512 * n) (x : Fin 256) (y : Fin 512) :
    score lhs ka (ix2 x y) = ((logit q k σ b p (256 * r + x) (512 * n + y) : ℝ) : EReal) := by
  rw [score_at]
  simp only [hl, hk]
  rw [sum_lanes_coe]
  congr 1
  have h : ((b + (256 * r + x.val) : ℕ) : ℝ) ≤ ((512 * n + y.val : ℕ) : ℝ) := by exact_mod_cast (by omega)
  unfold logit sgn
  rw [abs_of_nonpos (by linarith), if_neg (by decide)]
  ring

/-- A chunk whose rows lie among the keys of the block: the correction mends the keys after the row. -/
theorem score_diag (hl : ∀ x l : Fin 256, lhs (ix4 0 0 x l) = ((lane q σ b p 0 (256 * r + x) l : ℝ) : EReal))
    (hk : ∀ (l : Fin 256) (y : Fin 512), ka (ix2 l y) = ((keyLane k σ l (512 * n + y) : ℝ) : EReal)) (f : ℕ)
    (hf : ∀ (x : Fin 256) (y : Fin 512), fix (ix3 0 x y)
      = ((2 * σ * min (((256 * f + x.val : ℕ) : ℝ) - ((y.val : ℕ) : ℝ)) 0 : ℝ) : EReal))
    (hr : b + 256 * r = 512 * n + 256 * f) (x : Fin 256) (y : Fin 512) :
    scoreFix lhs ka fix (ix2 x y) = ((logit q k σ b p (256 * r + x) (512 * n + y) : ℝ) : EReal) := by
  rw [scoreFix_at, score_at, hf]
  simp only [hl, hk]
  rw [sum_lanes_coe, ← EReal.coe_add]
  congr 1
  have e : ((256 * f + x.val : ℕ) : ℝ) - ((y.val : ℕ) : ℝ)
      = ((b + (256 * r + x.val) : ℕ) : ℝ) - ((512 * n + y.val : ℕ) : ℝ) := by
    have : b + (256 * r + x.val) = 512 * n + (256 * f + x.val) := by omega
    rw [this]; push_cast; ring
  unfold logit sgn
  rw [e, if_pos rfl]
  rcases le_total ((b + (256 * r + x.val) : ℕ) : ℝ) ((512 * n + y.val : ℕ) : ℝ) with h | h
  · rw [abs_of_nonpos (by linarith), min_eq_left (by linarith)]; ring
  · rw [abs_of_nonneg (by linarith), min_eq_right (by linarith)]; ring

end

end Cert.Attn

end
-- ==== Proof.Attn.Trips.lean ====
/- One trip of a key loop of the attention kernel: all eight chunks take in the block of keys that the trip reads. -/
module

public import proofs.«01_k».proof.Proof.Attn.Scores
public import proofs.«01_k».proof.Proof.Gen.Kernel4Ideal.Loops

@[expose] public section

set_option maxRecDepth 16384

noncomputable section

namespace Cert.Attn

open Idealize.ShloMosaic Idealize.ShloMosaic.TcCoe Idealize.SL.Sem
open Cert.Kernel4Ideal Cert.Kernel4Ideal.Gen

section reads
variable {sig : RefSig} {κ : Kind} {sp : Space}

/-- The keys of block `n`. -/
theorem readAt_keys (v : View sig κ sp S256x4096 .bf16) (f : v.ty.Contents (Elt Ideal)) (n : ℕ) (hn : n < 8) {off : Fin 2 → ℕ}
    (inb : ∀ a, off a + S256x512.size a ≤ S256x4096.size a) (h : off = ![0, 512 * n]) (l : Fin 256) (y : Fin 512) :
    v.readAt (Elt Ideal) (Rect.unit (s := S256x4096) off S256x512.size inb).toLoadRect f (ix2 l y)
      = v.read (Elt Ideal) f (ix2 l ⟨512 * n + y.val, by omega⟩) := by
  subst h
  refine congrArg (v.read (Elt Ideal) f) (funext fun a => Fin.ext ?_)
  fin_cases a <;> simp [Rect.toLoadRect, LoadRect.idx, Rect.unit]

/-- The values of block `n`. -/
theorem readAt_vals (v : View sig κ sp S4096x256 .bf16) (f : v.ty.Contents (Elt Ideal)) (n : ℕ) (hn : n < 8) {off : Fin 2 → ℕ}
    (inb : ∀ a, off a + S512x256.size a ≤ S4096x256.size a) (h : off = ![512 * n, 0]) (y : Fin 512) (c : Fin 256) :
    v.readAt (Elt Ideal) (Rect.unit (s := S4096x256) off S512x256.size inb).toLoadRect f (ix2 y c)
      = v.read (Elt Ideal) f (ix2 ⟨512 * n + y.val, by omega⟩ c) := by
  subst h
  refine congrArg (v.read (Elt Ideal) f) (funext fun a => Fin.ext ?_)
  fin_cases a <;> simp [Rect.toLoadRect, LoadRect.idx, Rect.unit]

/-- The query rows of chunk `r` of map `p`, with sign `g`. -/
theorem readAt_rows (v : View sig κ sp S2x2x1024x256 .bf16) (f : v.ty.Contents (Elt Ideal)) (p g : Fin 2) (r : Fin 4)
    {off : Fin 4 → ℕ} (inb : ∀ a, off a + S1x1x256x256.size a ≤ S2x2x1024x256.size a)
    (h : off = ![p.val, g.val, 256 * r.val, 0]) (x l : Fin 256) :
    v.readAt (Elt Ideal) (Rect.unit (s := S2x2x1024x256) off S1x1x256x256.size inb).toLoadRect f (ix4 0 0 x l)
      = v.read (Elt Ideal) f (ix4 p g ⟨256 * r.val + x.val, by omega⟩ l) := by
  subst h
  refine congrArg (v.read (Elt Ideal) f) (funext fun a => Fin.ext ?_)
  fin_cases a <;> simp [Rect.toLoadRect, LoadRect.idx, Rect.unit]

/-- The correction number `d`. -/
theorem readAt_fix (v : View sig κ sp S2x256x512 .f32) (f : v.ty.Contents (Elt Ideal)) (d : Fin 2)
    {off : Fin 3 → ℕ} (inb : ∀ a, off a + S1x256x512.size a ≤ S2x256x512.size a)
    (h : off = ![d.val, 0, 0]) (x : Fin 256) (y : Fin 512) :
    v.readAt (Elt Ideal) (Rect.unit (s := S2x256x512) off S1x256x512.size inb).toLoadRect f (ix3 0 x y)
      = v.read (Elt Ideal) f (ix3 d x y) := by
  subst h
  refine congrArg (v.read (Elt Ideal) f) (funext fun a => Fin.ext ?_)
  fin_cases a <;> simp [Rect.toLoadRect, LoadRect.idx, Rect.unit]

/-- What the keys' array holds. -/
def KeysHold (k : ℕ → ℕ → ℝ) (σ : ℝ) (K : S256x4096.Idx → EReal) : Prop :=
  ∀ (l : Fin 256) (pos : Fin 4096), K (ix2 l pos) = ((keyLane k σ l pos : ℝ) : EReal)

/-- What the values' array holds. -/
def ValsHold (V : ℕ → ℕ → ℝ) (W : S4096x256.Idx → EReal) : Prop :=
  ∀ (pos : Fin 4096) (c : Fin 256), W (ix2 pos c) = ((V pos c : ℝ) : EReal)

/-- What the queries' array holds. -/
def RowsHold (q : ℕ → ℕ → ℝ) (σ : ℝ) (b : ℕ) (Q : S2x2x1024x256.Idx → EReal) : Prop :=
  ∀ (p g : Fin 2) (row : Fin 1024) (l : Fin 256), Q (ix4 p g row l) = ((lane q σ b p g row l : ℝ) : EReal)

/-- What the corrections' array holds. -/
def FixHolds (σ : ℝ) (F : S2x256x512.Idx → EReal) : Prop :=
  ∀ (d : Fin 2) (x : Fin 256) (y : Fin 512),
    F (ix3 d x y) = ((2 * σ * min (((256 * d.val + x.val : ℕ) : ℝ) - ((y.val : ℕ) : ℝ)) 0 : ℝ) : EReal)

variable {q k V : ℕ → ℕ → ℝ} {σ : ℝ} {b : ℕ}
  {v9 : View sig κ sp S256x4096 .bf16} {v10 : View sig κ sp S4096x256 .bf16} {v11 : View sig κ sp S2x2x1024x256 .bf16}
  {v12 : View sig κ sp S2x256x512 .f32}
  {X9 : v9.ty.Contents (Elt Ideal)} {X10 : v10.ty.Contents (Elt Ideal)} {X11 : v11.ty.Contents (Elt Ideal)}
  {X12 : v12.ty.Contents (Elt Ideal)}

section chunk
variable {n : ℕ} (p : Fin 2) (r : Fin 4) (hn : n < 8)
  (h9 : KeysHold k σ (v9.read (Elt Ideal) X9)) (h10 : ValsHold V (v10.read (Elt Ideal) X10))
  (h11 : RowsHold q σ b (v11.read (Elt Ideal) X11)) (h12 : FixHolds σ (v12.read (Elt Ideal) X12))
  {m : FVec Ideal S1x256x1 .f32} {a : FVec Ideal S1x256x256 .f32}
  (hc : ChunkHolds (logit q k σ b p) V r.val n m a)
  {off9 : Fin 2 → ℕ} (i9 : ∀ a, off9 a + S256x512.size a ≤ S256x4096.size a) (e9 : off9 = ![0, 512 * n])
  {off10 : Fin 2 → ℕ} (i10 : ∀ a, off10 a + S512x256.size a ≤ S4096x256.size a) (e10 : off10 = ![512 * n, 0])
  {off11 : Fin 4 → ℕ} (i11 : ∀ a, off11 a + S1x1x256x256.size a ≤ S2x2x1024x256.size a)
  {off12 : Fin 3 → ℕ} (i12 : ∀ a, off12 a + S1x256x512.size a ≤ S2x256x512.size a)

include hn h9 h10 h11 hc e9 e10

/-- A chunk against a block of keys before it. -/
theorem chunk_before (e11 : off11 = ![p.val, 0, 256 * r.val, 0]) (hr : 512 * (n + 1) ≤ b + 256 * r.val) :
    ChunkHolds (logit q k σ b p) V r.val (n + 1)
      (newMax (score (v11.readAt (Elt Ideal) (Rect.unit (s := S2x2x1024x256) off11 S1x1x256x256.size i11).toLoadRect X11)
        (v9.readAt (Elt Ideal) (Rect.unit (s := S256x4096) off9 S256x512.size i9).toLoadRect X9)) m)
      (newAcc (score (v11.readAt (Elt Ideal) (Rect.unit (s := S2x2x1024x256) off11 S1x1x256x256.size i11).toLoadRect X11)
        (v9.readAt (Elt Ideal) (Rect.unit (s := S256x4096) off9 S256x512.size i9).toLoadRect X9)) m a
        (v10.readAt (Elt Ideal) (Rect.unit (s := S4096x256) off10 S512x256.size i10).toLoadRect X10)) :=
  hc.step _ _
    (score_before (fun x l => (readAt_rows v11 X11 p 0 r i11 e11 x l).trans (h11 p 0 _ l))
      (fun l y => (readAt_keys v9 X9 n hn i9 e9 l y).trans (h9 l _)) hr)
    (fun y c => (readAt_vals v10 X10 n hn i10 e10 y c).trans (h10 _ c))

/-- A chunk against a block of keys after it. -/
theorem chunk_after (e11 : off11 = ![p.val, 1, 256 * r.val, 0]) (hr : b + 256 * (r.val + 1) ≤ 512 * n) :
    ChunkHolds (logit q k σ b p) V r.val (n + 1)
      (newMax (score (v11.readAt (Elt Ideal) (Rect.unit (s := S2x2x1024x256) off11 S1x1x256x256.size i11).toLoadRect X11)
        (v9.readAt (Elt Ideal) (Rect.unit (s := S256x4096) off9 S256x512.size i9).toLoadRect X9)) m)
      (newAcc (score (v11.readAt (Elt Ideal) (Rect.unit (s := S2x2x1024x256) off11 S1x1x256x256.size i11).toLoadRect X11)
        (v9.readAt (Elt Ideal) (Rect.unit (s := S256x4096) off9 S256x512.size i9).toLoadRect X9)) m a
        (v10.readAt (Elt Ideal) (Rect.unit (s := S4096x256) off10 S512x256.size i10).toLoadRect X10)) :=
  hc.step _ _
    (score_after (fun x l => (readAt_rows v11 X11 p 1 r i11 e11 x l).trans (h11 p 1 _ l))
      (fun l y => (readAt_keys v9 X9 n hn i9 e9 l y).trans (h9 l _)) hr)
    (fun y c => (readAt_vals v10 X10 n hn i10 e10 y c).trans (h10 _ c))

include h12 in
/-- A chunk on the diagonal of its block of keys. -/
theorem chunk_diag (d : Fin 2) (e11 : off11 = ![p.val, 0, 256 * r.val, 0]) (e12 : off12 = ![d.val, 0, 0])
    (hr : b + 256 * r.val = 512 * n + 256 * d.val) :
    ChunkHolds (logit q k σ b p) V r.val (n + 1)
      (newMax (scoreFix (v11.readAt (Elt Ideal) (Rect.unit (s := S2x2x1024x256) off11 S1x1x256x256.size i11).toLoadRect X11)
        (v9.readAt (Elt Ideal) (Rect.unit (s := S256x4096) off9 S256x512.size i9).toLoadRect X9)
        (v12.readAt (Elt Ideal) (Rect.unit (s := S2x256x512) off12 S1x256x512.size i12).toLoadRect X12)) m)
      (newAcc (scoreFix (v11.readAt (Elt Ideal) (Rect.unit (s := S2x2x1024x256) off11 S1x1x256x256.size i11).toLoadRect X11)
        (v9.readAt (Elt Ideal) (Rect.unit (s := S256x4096) off9 S256x512.size i9).toLoadRect X9)
        (v12.readAt (Elt Ideal) (Rect.unit (s := S2x256x512) off12 S1x256x512.size i12).toLoadRect X12)) m a
        (v10.readAt (Elt Ideal) (Rect.unit (s := S4096x256) off10 S512x256.size i10).toLoadRect X10)) :=
  hc.step _ _
    (score_diag (fun x l => (readAt_rows v11 X11 p 0 r i11 e11 x l).trans (h11 p 0 _ l))
      (fun l y => (readAt_keys v9 X9 n hn i9 e9 l y).trans (h9 l _)) d.val
      (fun x y => (readAt_fix v12 X12 d i12 e12 x y).trans (h12 d x y)) hr)
    (fun y c => (readAt_vals v10 X10 n hn i10 e10 y c).trans (h10 _ c))

end chunk

end reads

section trip1
variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (c0_i32_51 : BitVec 32) (c1_i32_53 : BitVec 32) (X_arg9 : BufTy.Contents (Elt Ideal) arg9.view.ty) (X_arg10 : BufTy.Contents (Elt Ideal) arg10.view.ty) (X_arg11 : BufTy.Contents (Elt Ideal) arg11.view.ty) (k : Fin (k0_t1_loop i).trips)
  {q kk V : ℕ → ℕ → ℝ} {σ : ℝ} {b n : ℕ} (hn : n < 8)
  (h9 : KeysHold kk σ (arg9.view.read (Elt Ideal) X_arg9)) (h10 : ValsHold V (arg10.view.read (Elt Ideal) X_arg10))
  (h11 : RowsHold q σ b (arg11.view.read (Elt Ideal) X_arg11))
  (e9 : k0_off1 i k = ![0, 512 * n]) (e10 : k0_off2 i k = ![512 * n, 0])
  (hb : 512 * (n + 1) ≤ b)
  {f13 : BufTy.Contents (Elt Ideal) arg13.view.ty} {f14 : BufTy.Contents (Elt Ideal) arg14.view.ty}
  (h : Inv (logit q kk σ b) V n 0 (arg13.view.read (Elt Ideal) f13) (arg14.view.read (Elt Ideal) f14))
include hn h9 h10 h11 e9 e10 hb h

/-- A trip whose block of keys lies before the query rows. -/
theorem trip1_holds :
    Inv (logit q kk σ b) V n 8
      (arg13.view.read (Elt Ideal) (arg13.view.writes (Elt Ideal) f13 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 c0_i32_51 c1_i32_53 X_arg9 X_arg10 X_arg11 k).1 f13 f14)))
      (arg14.view.read (Elt Ideal) (arg14.view.writes (Elt Ideal) f14 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 c0_i32_51 c1_i32_53 X_arg9 X_arg10 X_arg11 k).2.1 f13 f14))) := by
  unfold trip_k0_t1
  dsimp only
  refine Inv.push 1 3 rfl _ rfl _ rfl (chunk_before 1 3 hn h9 h10 h11 (h.chunk 1 3 (by decide) _ rfl _ rfl) _ e9 _ e10 _ rfl (by simp; omega)) ?_
  refine Inv.push 1 2 rfl _ rfl _ rfl (chunk_before 1 2 hn h9 h10 h11 (h.chunk 1 2 (by decide) _ rfl _ rfl) _ e9 _ e10 _ rfl (by simp; omega)) ?_
  refine Inv.push 1 1 rfl _ rfl _ rfl (chunk_before 1 1 hn h9 h10 h11 (h.chunk 1 1 (by decide) _ rfl _ rfl) _ e9 _ e10 _ rfl (by simp; omega)) ?_
  refine Inv.push 1 0 rfl _ rfl _ rfl (chunk_before 1 0 hn h9 h10 h11 (h.chunk 1 0 (by decide) _ rfl _ rfl) _ e9 _ e10 _ rfl (by simp; omega)) ?_
  refine Inv.push 0 3 rfl _ rfl _ rfl (chunk_before 0 3 hn h9 h10 h11 (h.chunk 0 3 (by decide) _ rfl _ rfl) _ e9 _ e10 _ rfl (by simp; omega)) ?_
  refine Inv.push 0 2 rfl _ rfl _ rfl (chunk_before 0 2 hn h9 h10 h11 (h.chunk 0 2 (by decide) _ rfl _ rfl) _ e9 _ e10 _ rfl (by simp; omega)) ?_
  refine Inv.push 0 1 rfl _ rfl _ rfl (chunk_before 0 1 hn h9 h10 h11 (h.chunk 0 1 (by decide) _ rfl _ rfl) _ e9 _ e10 _ rfl (by simp; omega)) ?_
  refine Inv.push 0 0 rfl _ rfl _ rfl (chunk_before 0 0 hn h9 h10 h11 (h.chunk 0 0 (by decide) _ rfl _ rfl) _ e9 _ e10 _ rfl (by simp; omega)) ?_
  exact h

end trip1

section trip3
variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (v569 : BitVec 32) (c1_i32_391 : BitVec 32) (X_arg9 : BufTy.Contents (Elt Ideal) arg9.view.ty) (X_arg10 : BufTy.Contents (Elt Ideal) arg10.view.ty) (X_arg11 : BufTy.Contents (Elt Ideal) arg11.view.ty) (k : Fin (k0_t3_loop i).trips)
  {q kk V : ℕ → ℕ → ℝ} {σ : ℝ} {b n : ℕ} (hn : n < 8)
  (h9 : KeysHold kk σ (arg9.view.read (Elt Ideal) X_arg9)) (h10 : ValsHold V (arg10.view.read (Elt Ideal) X_arg10))
  (h11 : RowsHold q σ b (arg11.view.read (Elt Ideal) X_arg11))
  (e9 : k0_off7 i k = ![0, 512 * n]) (e10 : k0_off8 i k = ![512 * n, 0])
  (hb : b + 1024 ≤ 512 * n)
  {f13 : BufTy.Contents (Elt Ideal) arg13.view.ty} {f14 : BufTy.Contents (Elt Ideal) arg14.view.ty}
  (h : Inv (logit q kk σ b) V n 0 (arg13.view.read (Elt Ideal) f13) (arg14.view.read (Elt Ideal) f14))
include hn h9 h10 h11 e9 e10 hb h

/-- A trip whose block of keys lies after the query rows. -/
theorem trip3_holds :
    Inv (logit q kk σ b) V n 8
      (arg13.view.read (Elt Ideal) (arg13.view.writes (Elt Ideal) f13 ((trip_k0_t3 (F := Ideal) 𝒱 c bd i arg3 harg3 arg4 harg4 arg5 harg5 arg6 harg6 arg7 harg7 arg8 harg8 arg9 harg9 arg10 harg10 arg11 harg11 arg12 harg12 arg13 harg13 arg14 harg14 v569 c1_i32_391 X_arg9 X_arg10 X_arg11 k).1 f13 f14)))
      (arg14.view.read (Elt Ideal) (arg14.view.writes (Elt Ideal) f14 ((trip_k0_t3 (F := Ideal) 𝒱 c bd i arg3 harg3 arg4 harg4 arg5 harg5 arg6 harg6 arg7 harg7 arg8 harg8 arg9 harg9 arg10 harg10 arg11 harg11 arg12 harg12 arg13 harg13 arg14 harg14 v569 c1_i32_391 X_arg9 X_arg10 X_arg11 k).2.1 f13 f14))) := by
  unfold trip_k0_t3
  dsimp only
  refine Inv.push 1 3 rfl _ rfl _ rfl (chunk_after 1 3 hn h9 h10 h11 (h.chunk 1 3 (by decide) _ rfl _ rfl) _ e9 _ e10 _ rfl (by simp; omega)) ?_
  refine Inv.push 1 2 rfl _ rfl _ rfl (chunk_after 1 2 hn h9 h10 h11 (h.chunk 1 2 (by decide) _ rfl _ rfl) _ e9 _ e10 _ rfl (by simp; omega)) ?_
  refine Inv.push 1 1 rfl _ rfl _ rfl (chunk_after 1 1 hn h9 h10 h11 (h.chunk 1 1 (by decide) _ rfl _ rfl) _ e9 _ e10 _ rfl (by simp; omega)) ?_
  refine Inv.push 1 0 rfl _ rfl _ rfl (chunk_after 1 0 hn h9 h10 h11 (h.chunk 1 0 (by decide) _ rfl _ rfl) _ e9 _ e10 _ rfl (by simp; omega)) ?_
  refine Inv.push 0 3 rfl _ rfl _ rfl (chunk_after 0 3 hn h9 h10 h11 (h.chunk 0 3 (by decide) _ rfl _ rfl) _ e9 _ e10 _ rfl (by simp; omega)) ?_
  refine Inv.push 0 2 rfl _ rfl _ rfl (chunk_after 0 2 hn h9 h10 h11 (h.chunk 0 2 (by decide) _ rfl _ rfl) _ e9 _ e10 _ rfl (by simp; omega)) ?_
  refine Inv.push 0 1 rfl _ rfl _ rfl (chunk_after 0 1 hn h9 h10 h11 (h.chunk 0 1 (by decide) _ rfl _ rfl) _ e9 _ e10 _ rfl (by simp; omega)) ?_
  refine Inv.push 0 0 rfl _ rfl _ rfl (chunk_after 0 0 hn h9 h10 h11 (h.chunk 0 0 (by decide) _ rfl _ rfl) _ e9 _ e10 _ rfl (by simp; omega)) ?_
  exact h

end trip3

end Cert.Attn

end
-- ==== Proof.Attn.Points.lean ====
/- The key blocks that a grid point's loops and its two blocks on the diagonal read, as numbers. -/
module

public import proofs.«01_k».proof.Proof.Gen.Kernel4Ideal.Loops

@[expose] public section

set_option maxRecDepth 16384

noncomputable section

namespace Cert.Attn

open Idealize.ShloMosaic Idealize.ShloMosaic.TcCoe Idealize.SL.Sem
open Cert.Kernel4Ideal Cert.Kernel4Ideal.Gen

/-- The block of query rows of a grid point. -/
theorem coord2 (i : grid0.Coords) : (i 2).val = 0 ∨ (i 2).val = 1 ∨ (i 2).val = 2 ∨ (i 2).val = 3 := by
  have := (i 2).isLt
  change (i 2).val < 4 at this
  omega

theorem trips1 (i : grid0.Coords) : (k0_t1_loop i).trips = 2 * (i 2).val := by
  unfold k0_t1_loop
  rcases coord2 i with h | h | h | h <;> simp only [h] <;> decide

theorem trips2 (i : grid0.Coords) : (k0_t2_loop i).trips = 0 := by
  unfold k0_t2_loop
  rcases coord2 i with h | h | h | h <;> simp only [h] <;> decide

theorem trips3 (i : grid0.Coords) : (k0_t3_loop i).trips = 6 - 2 * (i 2).val := by
  unfold k0_t3_loop
  rcases coord2 i with h | h | h | h <;> simp only [h] <;> decide

theorem trips4 (i : grid0.Coords) : (k0_t4_loop i).trips = 0 := by
  unfold k0_t4_loop
  rcases coord2 i with h | h | h | h <;> simp only [h] <;> decide

theorem k1_lt (i : grid0.Coords) (k : Fin (k0_t1_loop i).trips) : k.val < 2 * (i 2).val :=
  lt_of_lt_of_eq k.isLt (trips1 i)

theorem k3_lt (i : grid0.Coords) (k : Fin (k0_t3_loop i).trips) : k.val < 6 - 2 * (i 2).val :=
  lt_of_lt_of_eq k.isLt (trips3 i)

theorem small6 {n : ℕ} (h : n < 6) : n = 0 ∨ n = 1 ∨ n = 2 ∨ n = 3 ∨ n = 4 ∨ n = 5 := by omega

theorem off1 (i : grid0.Coords) (k : Fin (k0_t1_loop i).trips) : k0_off1 i k = ![0, 512 * k.val] := by
  have hi := coord2 i
  have hk := small6 (lt_of_lt_of_le (k1_lt i k) (by omega))
  unfold k0_off1
  rcases hi with h | h | h | h <;> simp only [h] <;> rcases hk with e | e | e | e | e | e <;> rw [e] <;> decide

theorem off2 (i : grid0.Coords) (k : Fin (k0_t1_loop i).trips) : k0_off2 i k = ![512 * k.val, 0] := by
  have hi := coord2 i
  have hk := small6 (lt_of_lt_of_le (k1_lt i k) (by omega))
  unfold k0_off2
  rcases hi with h | h | h | h <;> simp only [h] <;> rcases hk with e | e | e | e | e | e <;> rw [e] <;> decide

theorem off7 (i : grid0.Coords) (k : Fin (k0_t3_loop i).trips) : k0_off7 i k = ![0, 512 * (2 * (i 2).val + 2 + k.val)] := by
  have hi := coord2 i
  have hk := small6 (lt_of_lt_of_le (k3_lt i k) (by omega))
  unfold k0_off7
  rcases hi with h | h | h | h <;> simp only [h] <;> rcases hk with e | e | e | e | e | e <;> rw [e] <;> decide

theorem off8 (i : grid0.Coords) (k : Fin (k0_t3_loop i).trips) : k0_off8 i k = ![512 * (2 * (i 2).val + 2 + k.val), 0] := by
  have hi := coord2 i
  have hk := small6 (lt_of_lt_of_le (k3_lt i k) (by omega))
  unfold k0_off8
  rcases hi with h | h | h | h <;> simp only [h] <;> rcases hk with e | e | e | e | e | e <;> rw [e] <;> decide

theorem off5_0 (i : grid0.Coords) : k0_off5 i 0#32 = ![0, 512 * (2 * (i 2).val + 0)] := by
  unfold k0_off5
  rcases coord2 i with h | h | h | h <;> simp only [h] <;> decide

theorem off5_1 (i : grid0.Coords) : k0_off5 i 1#32 = ![0, 512 * (2 * (i 2).val + 1)] := by
  unfold k0_off5
  rcases coord2 i with h | h | h | h <;> simp only [h] <;> decide

theorem off6_0 (i : grid0.Coords) : k0_off6 i 0#32 = ![512 * (2 * (i 2).val + 0), 0] := by
  unfold k0_off6
  rcases coord2 i with h | h | h | h <;> simp only [h] <;> decide

theorem off6_1 (i : grid0.Coords) : k0_off6 i 1#32 = ![512 * (2 * (i 2).val + 1), 0] := by
  unfold k0_off6
  rcases coord2 i with h | h | h | h <;> simp only [h] <;> decide

end Cert.Attn

end
-- ==== Proof.Attn.KeyLoops.lean ====
/- The key loops of the attention kernel: the blocks of keys before and after the query rows of the grid point. -/
module

public import proofs.«01_k».proof.Proof.Attn.Trips
public import proofs.«01_k».proof.Proof.Attn.Points

@[expose] public section

set_option maxRecDepth 16384

noncomputable section

namespace Cert.Attn

open Idealize.ShloMosaic Idealize.ShloMosaic.TcCoe Idealize.SL.Sem
open Cert.Kernel4Ideal Cert.Kernel4Ideal.Gen

section loop1
variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (c0_i32_51 : BitVec 32) (c1_i32_53 : BitVec 32) (X_arg9 : BufTy.Contents (Elt Ideal) arg9.view.ty) (X_arg10 : BufTy.Contents (Elt Ideal) arg10.view.ty) (X_arg11 : BufTy.Contents (Elt Ideal) arg11.view.ty)
  {q kk V : ℕ → ℕ → ℝ} {σ : ℝ} {b : ℕ}
  {f13 : BufTy.Contents (Elt Ideal) arg13.view.ty} {f14 : BufTy.Contents (Elt Ideal) arg14.view.ty}
  {L13 : List (View.Piece (Elt Ideal) S2x1024x1 .f32)} {L14 : List (View.Piece (Elt Ideal) S2x1024x256 .f32)}

/-- The loop over the blocks of keys before the query rows. -/
theorem loop1_holds (hb : b = 1024 * (i 2).val)
    (h9 : KeysHold kk σ (arg9.view.read (Elt Ideal) X_arg9)) (h10 : ValsHold V (arg10.view.read (Elt Ideal) X_arg10))
    (h11 : RowsHold q σ b (arg11.view.read (Elt Ideal) X_arg11))
    (h : Inv (logit q kk σ b) V (0) 0 (arg13.view.read (Elt Ideal) (arg13.view.writes (Elt Ideal) f13 L13))
      (arg14.view.read (Elt Ideal) (arg14.view.writes (Elt Ideal) f14 L14))) :
    Inv (logit q kk σ b) V (2 * (i 2).val) 0
      (arg13.view.read (Elt Ideal) (arg13.view.writes (Elt Ideal) f13
        ((pb_k0_t1 (F := Ideal) 𝒱 c bd i arg3 harg3 arg4 harg4 arg5 harg5 arg6 harg6 arg7 harg7 arg8 harg8 arg9 harg9 arg10 harg10 arg11 harg11 arg12 harg12 arg13 harg13 arg14 harg14 c0_i32_51 c1_i32_53 X_arg9 X_arg10 X_arg11 (arg13.view.writes (Elt Ideal) f13 L13) (arg14.view.writes (Elt Ideal) f14 L14) (Scf.trips (k0_t1_loop i).lb (k0_t1_loop i).ub (k0_t1_loop i).st)).1 ++ L13)))
      (arg14.view.read (Elt Ideal) (arg14.view.writes (Elt Ideal) f14
        ((pb_k0_t1 (F := Ideal) 𝒱 c bd i arg3 harg3 arg4 harg4 arg5 harg5 arg6 harg6 arg7 harg7 arg8 harg8 arg9 harg9 arg10 harg10 arg11 harg11 arg12 harg12 arg13 harg13 arg14 harg14 c0_i32_51 c1_i32_53 X_arg9 X_arg10 X_arg11 (arg13.view.writes (Elt Ideal) f13 L13) (arg14.view.writes (Elt Ideal) f14 L14) (Scf.trips (k0_t1_loop i).lb (k0_t1_loop i).ub (k0_t1_loop i).st)).2 ++ L14))) := by
  have key : ∀ j : ℕ, j ≤ (k0_t1_loop i).trips →
      Inv (logit q kk σ b) V (j) 0
        (arg13.view.read (Elt Ideal) (arg13.view.writes (Elt Ideal) (arg13.view.writes (Elt Ideal) f13 L13) (pb_k0_t1 (F := Ideal) 𝒱 c bd i arg3 harg3 arg4 harg4 arg5 harg5 arg6 harg6 arg7 harg7 arg8 harg8 arg9 harg9 arg10 harg10 arg11 harg11 arg12 harg12 arg13 harg13 arg14 harg14 c0_i32_51 c1_i32_53 X_arg9 X_arg10 X_arg11 (arg13.view.writes (Elt Ideal) f13 L13) (arg14.view.writes (Elt Ideal) f14 L14) j).1))
        (arg14.view.read (Elt Ideal) (arg14.view.writes (Elt Ideal) (arg14.view.writes (Elt Ideal) f14 L14) (pb_k0_t1 (F := Ideal) 𝒱 c bd i arg3 harg3 arg4 harg4 arg5 harg5 arg6 harg6 arg7 harg7 arg8 harg8 arg9 harg9 arg10 harg10 arg11 harg11 arg12 harg12 arg13 harg13 arg14 harg14 c0_i32_51 c1_i32_53 X_arg9 X_arg10 X_arg11 (arg13.view.writes (Elt Ideal) f13 L13) (arg14.view.writes (Elt Ideal) f14 L14) j).2)) := by
    intro j
    induction j with
    | zero => intro _; exact h
    | succ j ih =>
      intro hj
      have ih' := ih (by omega)
      rw [pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 c0_i32_51 c1_i32_53 X_arg9 X_arg10 X_arg11 _ _ ⟨j, hj⟩]
      have hi := coord2 i
      have hk := k1_lt i ⟨j, hj⟩
      simp only at hk
      simp only [View.writes_append]
      refine Inv.next ?_
      exact trip1_holds 𝒱 c bd i arg3 harg3 arg4 harg4 arg5 harg5 arg6 harg6 arg7 harg7 arg8 harg8 arg9 harg9 arg10 harg10 arg11 harg11 arg12 harg12 arg13 harg13 arg14 harg14 c0_i32_51 c1_i32_53 X_arg9 X_arg10 X_arg11 ⟨j, hj⟩ (n := j) (by omega) h9 h10 h11 (by rw [off1]) (by rw [off2]) (by omega) ih'
  have e := key _ le_rfl
  rw [← View.writes_append, ← View.writes_append] at e
  have e3 : (k0_t1_loop i).trips = 2 * (i 2).val := by
    exact trips1 i
  exact e3 ▸ e

end loop1

section loop2
variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (v114 : BitVec 32) (c1_i32_54 : BitVec 32) (X_arg9 : BufTy.Contents (Elt Ideal) arg9.view.ty) (X_arg10 : BufTy.Contents (Elt Ideal) arg10.view.ty) (X_arg11 : BufTy.Contents (Elt Ideal) arg11.view.ty)
  {q kk V : ℕ → ℕ → ℝ} {σ : ℝ} {b : ℕ}
  {f13 : BufTy.Contents (Elt Ideal) arg13.view.ty} {f14 : BufTy.Contents (Elt Ideal) arg14.view.ty}
  {L13 : List (View.Piece (Elt Ideal) S2x1024x1 .f32)} {L14 : List (View.Piece (Elt Ideal) S2x1024x256 .f32)}

/-- A loop without trips leaves the arrays as they are. -/
theorem loop2_holds {n : ℕ}
    (h : Inv (logit q kk σ b) V n 0 (arg13.view.read (Elt Ideal) (arg13.view.writes (Elt Ideal) f13 L13))
      (arg14.view.read (Elt Ideal) (arg14.view.writes (Elt Ideal) f14 L14))) :
    Inv (logit q kk σ b) V n 0
      (arg13.view.read (Elt Ideal) (arg13.view.writes (Elt Ideal) f13
        ((pb_k0_t2 (F := Ideal) 𝒱 c bd i arg3 harg3 arg4 harg4 arg5 harg5 arg6 harg6 arg7 harg7 arg8 harg8 arg9 harg9 arg10 harg10 arg11 harg11 arg12 harg12 arg13 harg13 arg14 harg14 v114 c1_i32_54 X_arg9 X_arg10 X_arg11 (arg13.view.writes (Elt Ideal) f13 L13) (arg14.view.writes (Elt Ideal) f14 L14) (Scf.trips (k0_t2_loop i).lb (k0_t2_loop i).ub (k0_t2_loop i).st)).1 ++ L13)))
      (arg14.view.read (Elt Ideal) (arg14.view.writes (Elt Ideal) f14
        ((pb_k0_t2 (F := Ideal) 𝒱 c bd i arg3 harg3 arg4 harg4 arg5 harg5 arg6 harg6 arg7 harg7 arg8 harg8 arg9 harg9 arg10 harg10 arg11 harg11 arg12 harg12 arg13 harg13 arg14 harg14 v114 c1_i32_54 X_arg9 X_arg10 X_arg11 (arg13.view.writes (Elt Ideal) f13 L13) (arg14.view.writes (Elt Ideal) f14 L14) (Scf.trips (k0_t2_loop i).lb (k0_t2_loop i).ub (k0_t2_loop i).st)).2 ++ L14))) := by
  have e : Scf.trips (k0_t2_loop i).lb (k0_t2_loop i).ub (k0_t2_loop i).st = 0 := trips2 i
  rw [e]
  exact h

end loop2

section loop3
variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (v569 : BitVec 32) (c1_i32_391 : BitVec 32) (X_arg9 : BufTy.Contents (Elt Ideal) arg9.view.ty) (X_arg10 : BufTy.Contents (Elt Ideal) arg10.view.ty) (X_arg11 : BufTy.Contents (Elt Ideal) arg11.view.ty)
  {q kk V : ℕ → ℕ → ℝ} {σ : ℝ} {b : ℕ}
  {f13 : BufTy.Contents (Elt Ideal) arg13.view.ty} {f14 : BufTy.Contents (Elt Ideal) arg14.view.ty}
  {L13 : List (View.Piece (Elt Ideal) S2x1024x1 .f32)} {L14 : List (View.Piece (Elt Ideal) S2x1024x256 .f32)}

/-- The loop over the blocks of keys after the query rows. -/
theorem loop3_holds (hb : b = 1024 * (i 2).val)
    (h9 : KeysHold kk σ (arg9.view.read (Elt Ideal) X_arg9)) (h10 : ValsHold V (arg10.view.read (Elt Ideal) X_arg10))
    (h11 : RowsHold q σ b (arg11.view.read (Elt Ideal) X_arg11))
    (h : Inv (logit q kk σ b) V (2 * (i 2).val + 2) 0 (arg13.view.read (Elt Ideal) (arg13.view.writes (Elt Ideal) f13 L13))
      (arg14.view.read (Elt Ideal) (arg14.view.writes (Elt Ideal) f14 L14))) :
    Inv (logit q kk σ b) V (8) 0
      (arg13.view.read (Elt Ideal) (arg13.view.writes (Elt Ideal) f13
        ((pb_k0_t3 (F := Ideal) 𝒱 c bd i arg3 harg3 arg4 harg4 arg5 harg5 arg6 harg6 arg7 harg7 arg8 harg8 arg9 harg9 arg10 harg10 arg11 harg11 arg12 harg12 arg13 harg13 arg14 harg14 v569 c1_i32_391 X_arg9 X_arg10 X_arg11 (arg13.view.writes (Elt Ideal) f13 L13) (arg14.view.writes (Elt Ideal) f14 L14) (Scf.trips (k0_t3_loop i).lb (k0_t3_loop i).ub (k0_t3_loop i).st)).1 ++ L13)))
      (arg14.view.read (Elt Ideal) (arg14.view.writes (Elt Ideal) f14
        ((pb_k0_t3 (F := Ideal) 𝒱 c bd i arg3 harg3 arg4 harg4 arg5 harg5 arg6 harg6 arg7 harg7 arg8 harg8 arg9 harg9 arg10 harg10 arg11 harg11 arg12 harg12 arg13 harg13 arg14 harg14 v569 c1_i32_391 X_arg9 X_arg10 X_arg11 (arg13.view.writes (Elt Ideal) f13 L13) (arg14.view.writes (Elt Ideal) f14 L14) (Scf.trips (k0_t3_loop i).lb (k0_t3_loop i).ub (k0_t3_loop i).st)).2 ++ L14))) := by
  have key : ∀ j : ℕ, j ≤ (k0_t3_loop i).trips →
      Inv (logit q kk σ b) V (2 * (i 2).val + 2 + j) 0
        (arg13.view.read (Elt Ideal) (arg13.view.writes (Elt Ideal) (arg13.view.writes (Elt Ideal) f13 L13) (pb_k0_t3 (F := Ideal) 𝒱 c bd i arg3 harg3 arg4 harg4 arg5 harg5 arg6 harg6 arg7 harg7 arg8 harg8 arg9 harg9 arg10 harg10 arg11 harg11 arg12 harg12 arg13 harg13 arg14 harg14 v569 c1_i32_391 X_arg9 X_arg10 X_arg11 (arg13.view.writes (Elt Ideal) f13 L13) (arg14.view.writes (Elt Ideal) f14 L14) j).1))
        (arg14.view.read (Elt Ideal) (arg14.view.writes (Elt Ideal) (arg14.view.writes (Elt Ideal) f14 L14) (pb_k0_t3 (F := Ideal) 𝒱 c bd i arg3 harg3 arg4 harg4 arg5 harg5 arg6 harg6 arg7 harg7 arg8 harg8 arg9 harg9 arg10 harg10 arg11 harg11 arg12 harg12 arg13 harg13 arg14 harg14 v569 c1_i32_391 X_arg9 X_arg10 X_arg11 (arg13.view.writes (Elt Ideal) f13 L13) (arg14.view.writes (Elt Ideal) f14 L14) j).2)) := by
    intro j
    induction j with
    | zero => intro _; exact h
    | succ j ih =>
      intro hj
      have ih' := ih (by omega)
      rw [pb_k0_t3_succ (F := Ideal) 𝒱 c bd i arg3 harg3 arg4 harg4 arg5 harg5 arg6 harg6 arg7 harg7 arg8 harg8 arg9 harg9 arg10 harg10 arg11 harg11 arg12 harg12 arg13 harg13 arg14 harg14 v569 c1_i32_391 X_arg9 X_arg10 X_arg11 _ _ ⟨j, hj⟩]
      have hi := coord2 i
      have hk := k3_lt i ⟨j, hj⟩
      simp only at hk
      simp only [View.writes_append]
      refine Inv.next ?_
      exact trip3_holds 𝒱 c bd i arg3 harg3 arg4 harg4 arg5 harg5 arg6 harg6 arg7 harg7 arg8 harg8 arg9 harg9 arg10 harg10 arg11 harg11 arg12 harg12 arg13 harg13 arg14 harg14 v569 c1_i32_391 X_arg9 X_arg10 X_arg11 ⟨j, hj⟩ (n := 2 * (i 2).val + 2 + j) (by omega) h9 h10 h11 (by rw [off7]) (by rw [off8]) (by omega) ih'
  have e := key _ le_rfl
  rw [← View.writes_append, ← View.writes_append] at e
  have e3 : 2 * (i 2).val + 2 + (k0_t3_loop i).trips = 8 := by
    rw [trips3]; have := coord2 i; omega
  exact e3 ▸ e

end loop3

section loop4
variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (v574 : BitVec 32) (c1_i32_392 : BitVec 32) (X_arg9 : BufTy.Contents (Elt Ideal) arg9.view.ty) (X_arg10 : BufTy.Contents (Elt Ideal) arg10.view.ty) (X_arg11 : BufTy.Contents (Elt Ideal) arg11.view.ty)
  {q kk V : ℕ → ℕ → ℝ} {σ : ℝ} {b : ℕ}
  {f13 : BufTy.Contents (Elt Ideal) arg13.view.ty} {f14 : BufTy.Contents (Elt Ideal) arg14.view.ty}
  {L13 : List (View.Piece (Elt Ideal) S2x1024x1 .f32)} {L14 : List (View.Piece (Elt Ideal) S2x1024x256 .f32)}

/-- A loop without trips leaves the arrays as they are. -/
theorem loop4_holds {n : ℕ}
    (h : Inv (logit q kk σ b) V n 0 (arg13.view.read (Elt Ideal) (arg13.view.writes (Elt Ideal) f13 L13))
      (arg14.view.read (Elt Ideal) (arg14.view.writes (Elt Ideal) f14 L14))) :
    Inv (logit q kk σ b) V n 0
      (arg13.view.read (Elt Ideal) (arg13.view.writes (Elt Ideal) f13
        ((pb_k0_t4 (F := Ideal) 𝒱 c bd i arg3 harg3 arg4 harg4 arg5 harg5 arg6 harg6 arg7 harg7 arg8 harg8 arg9 harg9 arg10 harg10 arg11 harg11 arg12 harg12 arg13 harg13 arg14 harg14 v574 c1_i32_392 X_arg9 X_arg10 X_arg11 (arg13.view.writes (Elt Ideal) f13 L13) (arg14.view.writes (Elt Ideal) f14 L14) (Scf.trips (k0_t4_loop i).lb (k0_t4_loop i).ub (k0_t4_loop i).st)).1 ++ L13)))
      (arg14.view.read (Elt Ideal) (arg14.view.writes (Elt Ideal) f14
        ((pb_k0_t4 (F := Ideal) 𝒱 c bd i arg3 harg3 arg4 harg4 arg5 harg5 arg6 harg6 arg7 harg7 arg8 harg8 arg9 harg9 arg10 harg10 arg11 harg11 arg12 harg12 arg13 harg13 arg14 harg14 v574 c1_i32_392 X_arg9 X_arg10 X_arg11 (arg13.view.writes (Elt Ideal) f13 L13) (arg14.view.writes (Elt Ideal) f14 L14) (Scf.trips (k0_t4_loop i).lb (k0_t4_loop i).ub (k0_t4_loop i).st)).2 ++ L14))) := by
  have e : Scf.trips (k0_t4_loop i).lb (k0_t4_loop i).ub (k0_t4_loop i).st = 0 := trips4 i
  rw [e]
  exact h

end loop4

end Cert.Attn

end
-- ==== Proof.Attn.Push.lean ====
/- One chunk of query rows taken in, in the form in which the blocks of the query rows themselves meet it. -/
module

public import proofs.«01_k».proof.Proof.Attn.KeyLoops

@[expose] public section

set_option maxRecDepth 16384

noncomputable section

namespace Cert.Attn

open Idealize.ShloMosaic Idealize.ShloMosaic.TcCoe Idealize.SL.Sem
open Cert.Kernel4Ideal Cert.Kernel4Ideal.Gen

section push
variable {sig : RefSig} {κ : Kind} {sp : Space}
  {v9 : View sig κ sp S256x4096 .bf16} {v10 : View sig κ sp S4096x256 .bf16} {v11 : View sig κ sp S2x2x1024x256 .bf16}
  {v12 : View sig κ sp S2x256x512 .f32} {v13 : View sig κ sp S2x1024x1 .f32} {v14 : View sig κ sp S2x1024x256 .f32}
  {X9 : v9.ty.Contents (Elt Ideal)} {X10 : v10.ty.Contents (Elt Ideal)} {X11 : v11.ty.Contents (Elt Ideal)}
  {X12 : v12.ty.Contents (Elt Ideal)} {f13 : v13.ty.Contents (Elt Ideal)} {f14 : v14.ty.Contents (Elt Ideal)}
  {L13 : List (View.Piece (Elt Ideal) S2x1024x1 .f32)} {L14 : List (View.Piece (Elt Ideal) S2x1024x256 .f32)}
  {q kk V : ℕ → ℕ → ℝ} {σ : ℝ} {b n : ℕ}

/-- A chunk after the block of keys is taken in. -/
theorem push_before (p : Fin 2) (r : Fin 4) {k : ℕ} (hk : k = 4 * p.val + r.val + 1) (hn : n < 8)
    (h9 : KeysHold kk σ (v9.read (Elt Ideal) X9)) (h10 : ValsHold V (v10.read (Elt Ideal) X10))
    (h11 : RowsHold q σ b (v11.read (Elt Ideal) X11))
    {off9 : Fin 2 → ℕ} (i9 : ∀ a, off9 a + S256x512.size a ≤ S256x4096.size a) (e9 : off9 = ![0, 512 * n])
    {off10 : Fin 2 → ℕ} (i10 : ∀ a, off10 a + S512x256.size a ≤ S4096x256.size a) (e10 : off10 = ![512 * n, 0])
    {off11 : Fin 4 → ℕ} (i11 : ∀ a, off11 a + S1x1x256x256.size a ≤ S2x2x1024x256.size a)
    (e11 : off11 = ![p.val, 0, 256 * r.val, 0])
    {off : Fin 3 → ℕ} (inb : ∀ a, off a + S1x256x1.size a ≤ S2x1024x1.size a) (inb' : ∀ a, off a + S1x256x256.size a ≤ S2x1024x256.size a)
    (ho : off = ![p.val, 256 * r.val, 0]) (hr : 512 * (n + 1) ≤ b + 256 * r.val)
    {wm : FVec Ideal S1x256x1 .f32} {wa : FVec Ideal S1x256x256 .f32}
    (hm : wm = newMax
        (score (v11.readAt (Elt Ideal) (Rect.unit (s := S2x2x1024x256) off11 S1x1x256x256.size i11).toLoadRect X11)
          (v9.readAt (Elt Ideal) (Rect.unit (s := S256x4096) off9 S256x512.size i9).toLoadRect X9))
        (v13.readAt (Elt Ideal) (Rect.unit (s := S2x1024x1) off S1x256x1.size inb).toLoadRect (v13.writes (Elt Ideal) f13 L13)))
    (ha : wa = newAcc
        (score (v11.readAt (Elt Ideal) (Rect.unit (s := S2x2x1024x256) off11 S1x1x256x256.size i11).toLoadRect X11)
          (v9.readAt (Elt Ideal) (Rect.unit (s := S256x4096) off9 S256x512.size i9).toLoadRect X9))
        (v13.readAt (Elt Ideal) (Rect.unit (s := S2x1024x1) off S1x256x1.size inb).toLoadRect (v13.writes (Elt Ideal) f13 L13))
        (v14.readAt (Elt Ideal) (Rect.unit (s := S2x1024x256) off S1x256x256.size inb').toLoadRect (v14.writes (Elt Ideal) f14 L14))
        (v10.readAt (Elt Ideal) (Rect.unit (s := S4096x256) off10 S512x256.size i10).toLoadRect X10))
    (h : Inv (logit q kk σ b) V n (4 * p.val + r.val) (v13.read (Elt Ideal) (v13.writes (Elt Ideal) f13 L13))
      (v14.read (Elt Ideal) (v14.writes (Elt Ideal) f14 L14))) :
    Inv (logit q kk σ b) V n k
      (v13.read (Elt Ideal) (v13.writes (Elt Ideal) f13 (⟨Rect.unit (s := S2x1024x1) off S1x256x1.size inb, wm⟩ :: L13)))
      (v14.read (Elt Ideal) (v14.writes (Elt Ideal) f14 (⟨Rect.unit (s := S2x1024x256) off S1x256x256.size inb', wa⟩ :: L14))) := by
  subst hm ha
  exact Inv.push p r hk inb ho inb' ho (chunk_before p r hn h9 h10 h11 (h.chunk p r le_rfl inb ho inb' ho) i9 e9 i10 e10 i11 e11 hr) h

/-- A chunk before the block of keys is taken in. -/
theorem push_after (p : Fin 2) (r : Fin 4) {k : ℕ} (hk : k = 4 * p.val + r.val + 1) (hn : n < 8)
    (h9 : KeysHold kk σ (v9.read (Elt Ideal) X9)) (h10 : ValsHold V (v10.read (Elt Ideal) X10))
    (h11 : RowsHold q σ b (v11.read (Elt Ideal) X11))
    {off9 : Fin 2 → ℕ} (i9 : ∀ a, off9 a + S256x512.size a ≤ S256x4096.size a) (e9 : off9 = ![0, 512 * n])
    {off10 : Fin 2 → ℕ} (i10 : ∀ a, off10 a + S512x256.size a ≤ S4096x256.size a) (e10 : off10 = ![512 * n, 0])
    {off11 : Fin 4 → ℕ} (i11 : ∀ a, off11 a + S1x1x256x256.size a ≤ S2x2x1024x256.size a)
    (e11 : off11 = ![p.val, 1, 256 * r.val, 0])
    {off : Fin 3 → ℕ} (inb : ∀ a, off a + S1x256x1.size a ≤ S2x1024x1.size a) (inb' : ∀ a, off a + S1x256x256.size a ≤ S2x1024x256.size a)
    (ho : off = ![p.val, 256 * r.val, 0]) (hr : b + 256 * (r.val + 1) ≤ 512 * n)
    {wm : FVec Ideal S1x256x1 .f32} {wa : FVec Ideal S1x256x256 .f32}
    (hm : wm = newMax
        (score (v11.readAt (Elt Ideal) (Rect.unit (s := S2x2x1024x256) off11 S1x1x256x256.size i11).toLoadRect X11)
          (v9.readAt (Elt Ideal) (Rect.unit (s := S256x4096) off9 S256x512.size i9).toLoadRect X9))
        (v13.readAt (Elt Ideal) (Rect.unit (s := S2x1024x1) off S1x256x1.size inb).toLoadRect (v13.writes (Elt Ideal) f13 L13)))
    (ha : wa = newAcc
        (score (v11.readAt (Elt Ideal) (Rect.unit (s := S2x2x1024x256) off11 S1x1x256x256.size i11).toLoadRect X11)
          (v9.readAt (Elt Ideal) (Rect.unit (s := S256x4096) off9 S256x512.size i9).toLoadRect X9))
        (v13.readAt (Elt Ideal) (Rect.unit (s := S2x1024x1) off S1x256x1.size inb).toLoadRect (v13.writes (Elt Ideal) f13 L13))
        (v14.readAt (Elt Ideal) (Rect.unit (s := S2x1024x256) off S1x256x256.size inb').toLoadRect (v14.writes (Elt Ideal) f14 L14))
        (v10.readAt (Elt Ideal) (Rect.unit (s := S4096x256) off10 S512x256.size i10).toLoadRect X10))
    (h : Inv (logit q kk σ b) V n (4 * p.val + r.val) (v13.read (Elt Ideal) (v13.writes (Elt Ideal) f13 L13))
      (v14.read (Elt Ideal) (v14.writes (Elt Ideal) f14 L14))) :
    Inv (logit q kk σ b) V n k
      (v13.read (Elt Ideal) (v13.writes (Elt Ideal) f13 (⟨Rect.unit (s := S2x1024x1) off S1x256x1.size inb, wm⟩ :: L13)))
      (v14.read (Elt Ideal) (v14.writes (Elt Ideal) f14 (⟨Rect.unit (s := S2x1024x256) off S1x256x256.size inb', wa⟩ :: L14))) := by
  subst hm ha
  exact Inv.push p r hk inb ho inb' ho (chunk_after p r hn h9 h10 h11 (h.chunk p r le_rfl inb ho inb' ho) i9 e9 i10 e10 i11 e11 hr) h

/-- A chunk within the block of keys is taken in. -/
theorem push_diag (p : Fin 2) (r : Fin 4) (d : Fin 2) {k : ℕ} (hk : k = 4 * p.val + r.val + 1) (hn : n < 8)
    (h9 : KeysHold kk σ (v9.read (Elt Ideal) X9)) (h10 : ValsHold V (v10.read (Elt Ideal) X10))
    (h11 : RowsHold q σ b (v11.read (Elt Ideal) X11)) (h12 : FixHolds σ (v12.read (Elt Ideal) X12))
    {off9 : Fin 2 → ℕ} (i9 : ∀ a, off9 a + S256x512.size a ≤ S256x4096.size a) (e9 : off9 = ![0, 512 * n])
    {off10 : Fin 2 → ℕ} (i10 : ∀ a, off10 a + S512x256.size a ≤ S4096x256.size a) (e10 : off10 = ![512 * n, 0])
    {off11 : Fin 4 → ℕ} (i11 : ∀ a, off11 a + S1x1x256x256.size a ≤ S2x2x1024x256.size a)
    (e11 : off11 = ![p.val, 0, 256 * r.val, 0])
    {off12 : Fin 3 → ℕ} (i12 : ∀ a, off12 a + S1x256x512.size a ≤ S2x256x512.size a) (e12 : off12 = ![d.val, 0, 0])
    {off : Fin 3 → ℕ} (inb : ∀ a, off a + S1x256x1.size a ≤ S2x1024x1.size a) (inb' : ∀ a, off a + S1x256x256.size a ≤ S2x1024x256.size a)
    (ho : off = ![p.val, 256 * r.val, 0]) (hr : b + 256 * r.val = 512 * n + 256 * d.val)
    {wm : FVec Ideal S1x256x1 .f32} {wa : FVec Ideal S1x256x256 .f32}
    (hm : wm = newMax
        (scoreFix (v11.readAt (Elt Ideal) (Rect.unit (s := S2x2x1024x256) off11 S1x1x256x256.size i11).toLoadRect X11)
          (v9.readAt (Elt Ideal) (Rect.unit (s := S256x4096) off9 S256x512.size i9).toLoadRect X9)
          (v12.readAt (Elt Ideal) (Rect.unit (s := S2x256x512) off12 S1x256x512.size i12).toLoadRect X12))
        (v13.readAt (Elt Ideal) (Rect.unit (s := S2x1024x1) off S1x256x1.size inb).toLoadRect (v13.writes (Elt Ideal) f13 L13)))
    (ha : wa = newAcc
        (scoreFix (v11.readAt (Elt Ideal) (Rect.unit (s := S2x2x1024x256) off11 S1x1x256x256.size i11).toLoadRect X11)
          (v9.readAt (Elt Ideal) (Rect.unit (s := S256x4096) off9 S256x512.size i9).toLoadRect X9)
          (v12.readAt (Elt Ideal) (Rect.unit (s := S2x256x512) off12 S1x256x512.size i12).toLoadRect X12))
        (v13.readAt (Elt Ideal) (Rect.unit (s := S2x1024x1) off S1x256x1.size inb).toLoadRect (v13.writes (Elt Ideal) f13 L13))
        (v14.readAt (Elt Ideal) (Rect.unit (s := S2x1024x256) off S1x256x256.size inb').toLoadRect (v14.writes (Elt Ideal) f14 L14))
        (v10.readAt (Elt Ideal) (Rect.unit (s := S4096x256) off10 S512x256.size i10).toLoadRect X10))
    (h : Inv (logit q kk σ b) V n (4 * p.val + r.val) (v13.read (Elt Ideal) (v13.writes (Elt Ideal) f13 L13))
      (v14.read (Elt Ideal) (v14.writes (Elt Ideal) f14 L14))) :
    Inv (logit q kk σ b) V n k
      (v13.read (Elt Ideal) (v13.writes (Elt Ideal) f13 (⟨Rect.unit (s := S2x1024x1) off S1x256x1.size inb, wm⟩ :: L13)))
      (v14.read (Elt Ideal) (v14.writes (Elt Ideal) f14 (⟨Rect.unit (s := S2x1024x256) off S1x256x256.size inb', wa⟩ :: L14))) := by
  subst hm ha
  exact Inv.push p r hk inb ho inb' ho (chunk_diag p r hn h9 h10 h11 h12 (h.chunk p r le_rfl inb ho inb' ho) i9 e9 i10 e10 i11 i12 d e11 e12 hr) h

end push

end Cert.Attn

end
-- ==== Proof.Attn.Start.lean ====
/- The state before the first block of keys. -/
module

public import proofs.«01_k».proof.Proof.Attn.Trips

@[expose] public section

set_option maxRecDepth 16384

noncomputable section

namespace Cert.Attn

open Idealize.ShloMosaic Idealize.ShloMosaic.TcCoe Idealize.SL.Sem
open Cert.Kernel4Ideal Cert.Kernel4Ideal.Gen

/-- Before any key every row's maximum is one finite number, and every sum is empty. -/
theorem start_holds {sig : RefSig} {κ : Kind} {sp : Space} {v13 : View sig κ sp S2x1024x1 .f32} {v14 : View sig κ sp S2x1024x256 .f32}
    {f13 : v13.ty.Contents (Elt Ideal)} {f14 : v14.ty.Contents (Elt Ideal)} {S : Fin 2 → ℕ → ℕ → ℝ} {V : ℕ → ℕ → ℝ}
    (inb : ∀ a, (![0, 0, 0] : Fin 3 → ℕ) a + S2x1024x1.size a ≤ S2x1024x1.size a)
    (inb' : ∀ a, (![0, 0, 0] : Fin 3 → ℕ) a + S2x1024x256.size a ≤ S2x1024x256.size a) :
    Inv S V 0 0
      (v13.read (Elt Ideal) (v13.writes (Elt Ideal) f13 [⟨Rect.unit (s := S2x1024x1) ![0, 0, 0] S2x1024x1.size inb, k0_pay194 (F := Ideal)⟩]))
      (v14.read (Elt Ideal) (v14.writes (Elt Ideal) f14 [⟨Rect.unit (s := S2x1024x256) ![0, 0, 0] S2x1024x256.size inb', k0_pay195 (F := Ideal)⟩])) := by
  obtain ⟨μ, hμ⟩ := ofBits_low
  rw [View.read_writes_full, View.read_writes_full]
  intro p row
  refine ⟨μ, ?_, fun c => ?_⟩
  · pointwise [k0_pay194]
    exact hμ
  · pointwise [k0_pay195]
    simp

end Cert.Attn

end
-- ==== Proof.Attn.StateA.lean ====
/- The running maxima, numerators and denominators after all keys, at a grid point of kind A. -/
module

public import proofs.«01_k».proof.Proof.Attn.Push
public import proofs.«01_k».proof.Proof.Attn.Start
public import proofs.«01_k».proof.Proof.Gen.Kernel4Ideal.Value
import all proofs.«01_k».proof.Proof.Gen.Kernel4Ideal.Value

@[expose] public section

set_option maxRecDepth 16384

noncomputable section

namespace Cert.Attn

open Idealize.ShloMosaic Idealize.ShloMosaic.TcCoe Idealize.SL.Sem
open Cert.Kernel4Ideal Cert.Kernel4Ideal.Gen

section stateA
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (x2 : Vec Ideal S1x1024x128 .f32) (x3 : Vec Ideal S1x4096x128 .f32) (x4 : Vec Ideal S1x4096x128 .f32)
  {q kk V : ℕ → ℕ → ℝ} {σ : ℝ} {b : ℕ}

/-- After all keys the two arrays hold, for every row, the sums over all 4096 keys. -/
theorem stateA (hb : b = 1024 * (i 2).val)
    (h9 : KeysHold kk σ (arg9.view.read (Elt Ideal) (arg9.view.writes (Elt Ideal) arg9.view.junk (kernelRun0_A.sl.HS0_2 c i arg6 harg6 x3))))
    (h10 : ValsHold V (arg10.view.read (Elt Ideal) (arg10.view.writes (Elt Ideal) arg10.view.junk (kernelRun0_A.sl.HS1_2 c arg7 harg7 x4))))
    (h11 : RowsHold q σ b (arg11.view.read (Elt Ideal) (arg11.view.writes (Elt Ideal) arg11.view.junk (kernelRun0_A.sl.HS2_4 (F := Ideal) c i arg5 harg5 x2))))
    (h12 : FixHolds σ (arg12.view.read (Elt Ideal) (arg12.view.writes (Elt Ideal) arg12.view.junk (kernelRun0_A.sl.HS3_2 (F := Ideal) i)))) :
    ∃ (M : S2x1024x1.Idx → EReal) (f : arg14.view.ty.Contents (Elt Ideal)),
      kernelRun0_A.sl.v591 (F := Ideal) c i arg3 harg3 arg4 harg4 arg5 harg5 arg6 harg6 arg7 harg7 arg8 harg8 arg9 harg9 arg10 harg10 arg11 harg11 arg12 harg12 arg13 harg13 arg14 harg14 x2 x3 x4 = arg14.view.readAt (Elt Ideal) (Rect.unit (s := S2x1024x256) ![0, 0, 0] S1x1024x128.size inb_S2x1024x256_S1x1024x128_0_0_0).toLoadRect f
      ∧ kernelRun0_A.sl.v593 (F := Ideal) c i arg3 harg3 arg4 harg4 arg5 harg5 arg6 harg6 arg7 harg7 arg8 harg8 arg9 harg9 arg10 harg10 arg11 harg11 arg12 harg12 arg13 harg13 arg14 harg14 x2 x3 x4 = arg14.view.readAt (Elt Ideal) (Rect.unit (s := S2x1024x256) ![0, 0, 128] S1x1024x1.size inb_S2x1024x256_S1x1024x1_0_0_128).toLoadRect f
      ∧ kernelRun0_A.sl.v597 (F := Ideal) c i arg3 harg3 arg4 harg4 arg5 harg5 arg6 harg6 arg7 harg7 arg8 harg8 arg9 harg9 arg10 harg10 arg11 harg11 arg12 harg12 arg13 harg13 arg14 harg14 x2 x3 x4 = arg14.view.readAt (Elt Ideal) (Rect.unit (s := S2x1024x256) ![1, 0, 0] S1x1024x128.size inb_S2x1024x256_S1x1024x128_1_0_0).toLoadRect f
      ∧ kernelRun0_A.sl.v599 (F := Ideal) c i arg3 harg3 arg4 harg4 arg5 harg5 arg6 harg6 arg7 harg7 arg8 harg8 arg9 harg9 arg10 harg10 arg11 harg11 arg12 harg12 arg13 harg13 arg14 harg14 x2 x3 x4 = arg14.view.readAt (Elt Ideal) (Rect.unit (s := S2x1024x256) ![1, 0, 128] S1x1024x1.size inb_S2x1024x256_S1x1024x1_1_0_128).toLoadRect f
      ∧ Inv (logit q kk σ b) V 8 0 M (arg14.view.read (Elt Ideal) f) := by
  refine ⟨?M, _, rfl, rfl, rfl, rfl, ?_⟩
  rotate_left
  have hi := coord2 i
  have hl0 : 2 * (i 2).val < 8 := by omega
  have hl1 : 2 * (i 2).val + 1 < 8 := by omega
  have e9_0 : k0_off5 i 0#32 = ![0, 512 * (2 * (i 2).val)] := off5_0 i
  have e9_1 : k0_off5 i 1#32 = ![0, 512 * (2 * (i 2).val + 1)] := by rw [off5_1]
  have e10_0 : k0_off6 i 0#32 = ![512 * (2 * (i 2).val), 0] := off6_0 i
  have e10_1 : k0_off6 i 1#32 = ![512 * (2 * (i 2).val + 1), 0] := by rw [off6_1]
  refine loop4_holds _ _ _ _ _ _ _ _ _ _ _ _ _ _ _ _ _ _ _ _ _ _ _ _ _ _ _ _ _ _ _ _ _ (b := b) ?_
  refine loop3_holds _ _ _ _ _ _ _ _ _ _ _ _ _ _ _ _ _ _ _ _ _ _ _ _ _ _ _ _ _ _ _ _ _ hb h9 h10 h11 ?_
  refine Inv.next ?_
  refine push_diag 1 3 1 rfl hl1 h9 h10 h11 h12 _ e9_1 _ e10_1 _ rfl _ rfl _ _ rfl (by simp; omega) rfl rfl ?_
  refine push_diag 1 2 0 rfl hl1 h9 h10 h11 h12 _ e9_1 _ e10_1 _ rfl _ rfl _ _ rfl (by simp; omega) rfl rfl ?_
  refine push_after 1 1 rfl hl1 h9 h10 h11 _ e9_1 _ e10_1 _ rfl _ _ rfl (by simp; omega) rfl rfl ?_
  refine push_after 1 0 rfl hl1 h9 h10 h11 _ e9_1 _ e10_1 _ rfl _ _ rfl (by simp; omega) rfl rfl ?_
  refine push_diag 0 3 1 rfl hl1 h9 h10 h11 h12 _ e9_1 _ e10_1 _ rfl _ rfl _ _ rfl (by simp; omega) rfl rfl ?_
  refine push_diag 0 2 0 rfl hl1 h9 h10 h11 h12 _ e9_1 _ e10_1 _ rfl _ rfl _ _ rfl (by simp; omega) rfl rfl ?_
  refine push_after 0 1 rfl hl1 h9 h10 h11 _ e9_1 _ e10_1 _ rfl _ _ rfl (by simp; omega) rfl rfl ?_
  refine push_after 0 0 rfl hl1 h9 h10 h11 _ e9_1 _ e10_1 _ rfl _ _ rfl (by simp; omega) rfl rfl ?_
  refine Inv.next ?_
  refine push_before 1 3 rfl hl0 h9 h10 h11 _ e9_0 _ e10_0 _ rfl _ _ rfl (by simp; omega) rfl rfl ?_
  refine push_before 1 2 rfl hl0 h9 h10 h11 _ e9_0 _ e10_0 _ rfl _ _ rfl (by simp; omega) rfl rfl ?_
  refine push_diag 1 1 1 rfl hl0 h9 h10 h11 h12 _ e9_0 _ e10_0 _ rfl _ rfl _ _ rfl (by simp; omega) rfl rfl ?_
  refine push_diag 1 0 0 rfl hl0 h9 h10 h11 h12 _ e9_0 _ e10_0 _ rfl _ rfl _ _ rfl (by simp; omega) rfl rfl ?_
  refine push_before 0 3 rfl hl0 h9 h10 h11 ?_ e9_0 ?_ e10_0 (off11 := ![0, 0, 768, 0]) ?_ rfl ?_ ?_ rfl (by simp; omega) ?hm ?ha ?_
  case hm =>
    unfold k0_pay220 k0_pay218 kernelRun0_A.sl.r_7 kernelRun0_A.sl.r_8 k0_pay216 k0_pay217 k0_pay215
    rfl
  case ha =>
    unfold k0_pay219 k0_pay218 kernelRun0_A.sl.r_6 kernelRun0_A.sl.r_7 kernelRun0_A.sl.r_8 k0_pay216 k0_pay217 k0_pay215
    rfl
  refine push_before 0 2 rfl hl0 h9 h10 h11 _ e9_0 _ e10_0 _ rfl _ _ rfl (by simp; omega) rfl rfl ?_
  refine push_diag 0 1 1 rfl hl0 h9 h10 h11 h12 _ e9_0 _ e10_0 _ rfl _ rfl _ _ rfl (by simp; omega) rfl rfl ?_
  refine push_diag 0 0 0 rfl hl0 h9 h10 h11 h12 _ e9_0 _ e10_0 _ rfl _ rfl _ _ rfl (by simp; omega) rfl rfl ?_
  refine loop2_holds _ _ _ _ _ _ _ _ _ _ _ _ _ _ _ _ _ _ _ _ _ _ _ _ _ _ _ _ _ _ _ _ _ ?_
  refine loop1_holds _ _ _ _ _ _ _ _ _ _ _ _ _ _ _ _ _ _ _ _ _ _ _ _ _ _ _ _ _ _ _ _ _ hb h9 h10 h11 ?_
  exact start_holds _ _

end stateA

end Cert.Attn

end
-- ==== Proof.Attn.Prep.lean ====
/- What the attention kernel prepares before the loops, element by element. -/
module

public import proofs.«01_k».proof.Proof.Attn.Trips

@[expose] public section

set_option maxRecDepth 16384

noncomputable section

namespace Cert.Attn

open Idealize.ShloMosaic Idealize.ShloMosaic.TcCoe Idealize.SL.Sem
open Cert.Kernel4Ideal Cert.Kernel4Ideal.Gen

theorem toInt_small (n : ℕ) (h : n < 2 ^ 31) : (BitVec.ofNat 32 n).toInt = (n : ℤ) := by
  rw [BitVec.toInt_eq_toNat_of_lt] <;> rw [BitVec.toNat_ofNat, Nat.mod_eq_of_lt (by omega)]
  omega

theorem sel_eq {α : Type} (n k : ℕ) (hn : n < 2 ^ 31) (hk : k < 2 ^ 31) (a b : α) :
    Scalar.select (IntOp.cmpi .eq (BitVec.ofNat 32 n) (BitVec.ofNat 32 k)) a b = if n = k then a else b := by
  have e : (BitVec.ofNat 32 n = BitVec.ofNat 32 k) ↔ n = k := by
    rw [← BitVec.toInt_inj, toInt_small n hn, toInt_small k hk]; exact Nat.cast_inj
  by_cases h : n = k
  · subst h; simp [Scalar.select, IntOp.cmpi]
  · have h' : ¬(BitVec.ofNat 32 n = BitVec.ofNat 32 k) := fun x => h (e.mp x)
    have h2 : (BitVec.ofNat 32 n == BitVec.ofNat 32 k) = false := beq_eq_false_iff_ne.mpr h'
    simp [Scalar.select, IntOp.cmpi, h, h2]

theorem sel_slt {α : Type} (n k : ℕ) (hn : n < 2 ^ 31) (hk : k < 2 ^ 31) (a b : α) :
    Scalar.select (IntOp.cmpi .slt (BitVec.ofNat 32 n) (BitVec.ofNat 32 k)) a b = if n < k then a else b := by
  have e : (BitVec.ofNat 32 n).slt (BitVec.ofNat 32 k) = decide (n < k) := by
    rw [BitVec.slt_eq_decide, toInt_small n hn, toInt_small k hk]; exact decide_eq_decide.mpr Nat.cast_lt
  by_cases h : n < k <;> simp [Scalar.select, IntOp.cmpi, e, h]

theorem sel_sge {α : Type} (n k : ℕ) (hn : n < 2 ^ 31) (hk : k < 2 ^ 31) (a b : α) :
    Scalar.select (IntOp.cmpi .sge (BitVec.ofNat 32 n) (BitVec.ofNat 32 k)) a b = if k ≤ n then a else b := by
  have e : (BitVec.ofNat 32 k).sle (BitVec.ofNat 32 n) = decide (k ≤ n) := by
    rw [BitVec.sle_eq_decide, toInt_small n hn, toInt_small k hk]; exact decide_eq_decide.mpr Nat.cast_le
  by_cases h : k ≤ n <;> simp [Scalar.select, IntOp.cmpi, e, h]

theorem sitofp_eq (x : BitVec 32) : (FloatOps.sitofp .f32 x : Ideal .f32) = ((x.toInt : ℝ) : EReal) := rfl

theorem sitofp_small (n : ℕ) (h : n < 2 ^ 31) : (FloatOps.sitofp .f32 (BitVec.ofNat 32 n) : Ideal .f32) = ((n : ℝ) : EReal) := by
  rw [sitofp_eq, toInt_small n h]; simp

theorem sitofp_diff (a x y : ℕ) (h : a < 1024) (hx : x < 1024) (hy : y < 1024) :
    (FloatOps.sitofp .f32 (IntOp.subi (IntOp.addi (BitVec.ofNat 32 a) (BitVec.ofNat 32 x)) (BitVec.ofNat 32 y)) : Ideal .f32)
      = ((((a + x : ℕ) : ℝ) - (y : ℝ) : ℝ) : EReal) := by
  have e : (IntOp.subi (IntOp.addi (BitVec.ofNat 32 a) (BitVec.ofNat 32 x)) (BitVec.ofNat 32 y)).toInt = ((a + x : ℕ) : ℤ) - (y : ℤ) := by
    unfold IntOp.subi IntOp.addi
    rw [← BitVec.ofNat_add, BitVec.toInt_sub, toInt_small _ (by omega), toInt_small _ (by omega)]
    exact Int.bmod_eq_of_le (by omega) (by omega)
  rw [sitofp_eq, e]; push_cast; rfl

/-- The slope of a head's penalty on distance. -/
def slope (h : ℕ) : ℝ := if h = 0 then 1 / 4 else if h = 1 then 1 / 16 else if h = 2 then 1 / 64 else 1 / 256

theorem log2e_eq : Named.named (F := Ideal) (φ := .f32) κ "log2e" 0x3FB8AA3B#32 = (((Real.log 2)⁻¹ : ℝ) : EReal) := rfl
theorem qscale_eq : Named.named (F := Ideal) (φ := .f32) κ "qscale" 0x3E38AA3B#32 = ((qscale : ℝ) : EReal) := rfl

theorem pay184_at (i : grid0.Coords) : k0_pay184 (F := Ideal) i = ((slope (i 1).val * (Real.log 2)⁻¹ : ℝ) : EReal) := by
  have hi : (i 1).val < 4 := (i 1).isLt
  unfold k0_pay184 slope
  rw [log2e_eq]
  show (Scalar.select (IntOp.cmpi .eq (BitVec.ofNat 32 (i 1).val) 2#32) (Ideal.ofBits .f32 0x3C800000#32)
    (Scalar.select (IntOp.cmpi .eq (BitVec.ofNat 32 (i 1).val) 1#32) (Ideal.ofBits .f32 0x3D800000#32)
      (Scalar.select (IntOp.cmpi .eq (BitVec.ofNat 32 (i 1).val) 0#32) (Ideal.ofBits .f32 0x3E800000#32)
        (Ideal.ofBits .f32 0x3B800000#32))) : EReal) * _ = _
  rw [sel_eq _ 0 (by omega) (by omega), sel_eq _ 1 (by omega) (by omega), sel_eq _ 2 (by omega) (by omega)]
  rw [EReal.coe_mul, apply_ite Real.toEReal, apply_ite Real.toEReal, apply_ite Real.toEReal, ← ofBits_quarter, ← ofBits_16th, ← ofBits_64th, ← ofBits_256th]
  congr 1
  split_ifs <;> first | rfl | omega

theorem pay2_at (x : Vec Ideal S1x4096x128 .f32) (l : Fin 128) (pos : Fin 4096) : k0_pay2 (F := Ideal) x (ix2 l pos) = x (ix3 0 pos l) := by
  pointwise [k0_pay2]

theorem pay3_at (s : ℝ) (l : Fin 128) (pos : Fin 4096) : k0_pay3 (F := Ideal) ((s : ℝ) : EReal) (ix2 l pos)
    = ((if l.val < 3 then 1 else if l.val = 3 then (pos.val : ℝ) * s else 0 : ℝ) : EReal) := by
  pointwise [k0_pay3]
  rw [sel_slt _ 3 (by omega) (by omega), sel_eq _ 3 (by omega) (by omega), sel_eq _ 4 (by omega) (by omega), sel_eq _ 5 (by omega) (by omega),
    sitofp_small _ (by omega), ← EReal.coe_mul, ← EReal.coe_sub, sub_self, ← EReal.coe_sub, sub_self]
  split_ifs <;> rfl

theorem pay4_at (x : Vec Ideal S1x4096x128 .f32) (pos : Fin 4096) (l : Fin 128) : k0_pay4 (F := Ideal) x (ix2 pos l) = x (ix3 0 pos l) := by
  pointwise [k0_pay4]

theorem pay5_at (pos : Fin 4096) (l : Fin 128) : k0_pay5 (F := Ideal) (ix2 pos l) = ((if l.val = 0 then 1 else 0 : ℝ) : EReal) := by
  pointwise [k0_pay5]
  rw [sel_eq _ 0 (by omega) (by omega)]
  split_ifs <;> rfl

theorem fix_at (a : ℕ) (ha : a < 1024) (s : ℝ) (x : Fin 256) (y : Fin 512) :
    Ideal.ofBits FTy.f32 0x40000000#32 * ((s : ℝ) : EReal)
        * min (FloatOps.sitofp .f32 (IntOp.subi (IntOp.addi (BitVec.ofNat 32 a) (BitVec.ofNat 32 x.val)) (BitVec.ofNat 32 y.val)) : Ideal .f32) 0
      = ((2 * s * min (((a + x.val : ℕ) : ℝ) - ((y.val : ℕ) : ℝ)) 0 : ℝ) : EReal) := by
  rw [sitofp_diff a _ _ ha (by omega) (by omega), ofBits_two, ← EReal.coe_mul, ← EReal.coe_zero, ← EReal.coe_strictMono.monotone.map_min, ← EReal.coe_mul]

theorem pay6_at (s : ℝ) (x : Fin 256) (y : Fin 512) : k0_pay6 (F := Ideal) ((s : ℝ) : EReal) (ix3 0 x y)
    = ((2 * s * min (((0 + x.val : ℕ) : ℝ) - ((y.val : ℕ) : ℝ)) 0 : ℝ) : EReal) := by
  rw [← fix_at 0 (by omega)]
  pointwise [k0_pay6]

theorem pay185_at (s : ℝ) (x : Fin 256) (y : Fin 512) : k0_pay185 (F := Ideal) ((s : ℝ) : EReal) (k0_pay7 (F := Ideal)) (ix3 0 x y)
    = ((2 * s * min (((256 + x.val : ℕ) : ℝ) - ((y.val : ℕ) : ℝ)) 0 : ℝ) : EReal) := by
  rw [← fix_at 256 (by omega)]
  pointwise [k0_pay185, k0_pay7]

/-- The distance lanes of a query row. -/
theorem pay187_at (n : ℕ) (hn : n < 4) (s : ℝ) (row : Fin 1024) (l : Fin 128) :
    k0_pay187 (F := Ideal) (BitVec.ofNat 32 n) ((s : ℝ) : EReal) (ix2 row l)
      = ((if l.val = 0 then ((1024 * n + row.val : ℕ) : ℝ) * (-s) else if l.val < 3 then 0 else if l.val < 6 then 1 else 0 : ℝ) : EReal) := by
  have e : (FloatOps.sitofp .f32 (IntOp.addi (Scalar.muli (BitVec.ofNat 32 n) 1024#32) (BitVec.ofNat 32 row.val)) : Ideal .f32)
      = (((1024 * n + row.val : ℕ) : ℝ) : EReal) := by
    rw [← sitofp_small _ (by omega)]
    congr 1
    show BitVec.ofNat 32 n * BitVec.ofNat 32 1024 + BitVec.ofNat 32 row.val = _
    rw [← BitVec.ofNat_mul, ← BitVec.ofNat_add, Nat.mul_comm]
  pointwise [k0_pay187]
  rw [sel_eq _ 0 (by omega) (by omega), sel_eq _ 1 (by omega) (by omega), sel_eq _ 2 (by omega) (by omega), sel_slt _ 6 (by omega) (by omega), e,
    ← EReal.coe_zero, ← EReal.coe_sub, ← EReal.coe_mul, ← EReal.coe_sub, sub_self, ← EReal.coe_sub, sub_self, zero_sub]
  split_ifs <;> first | rfl | omega

/-- The product lanes of a query row, for the first half of the lanes. -/
theorem pay188_at (Q : Vec Ideal S1x1024x128 .f32) (row : Fin 1024) (l : Fin 128) :
    k0_pay188 (F := Ideal) Q (ix2 row l)
      = if l.val < 64 then Q (ix3 0 row l) * ((qscale : ℝ) : EReal) else 0 := by
  pointwise [k0_pay188, k0_pay186]
  rw [sel_slt _ 64 (by omega) (by omega), qscale_eq]

/-- The product lanes of a query row, for the second half of the lanes. -/
theorem pay191_at (Q : Vec Ideal S1x1024x128 .f32) (row : Fin 1024) (l : Fin 128) :
    k0_pay191 (F := Ideal) (k0_pay186 (F := Ideal) Q) (iota .tc S1024x128 32 [1] iota_S1024x128_d1_w32) (ix2 row l)
      = if 64 ≤ l.val then Q (ix3 0 row l) * ((qscale : ℝ) : EReal) else 0 := by
  pointwise [k0_pay191, k0_pay186]
  rw [sel_sge _ 64 (by omega) (by omega), qscale_eq]

theorem pay189_at (A B : FVec Ideal S1024x128 .f32) (row : Fin 1024) (l : Fin 256) :
    k0_pay189 (F := Ideal) B A (ix4 0 0 row l)
      = if h : l.val < 128 then A (ix2 row ⟨l.val, h⟩) else B (ix2 row ⟨l.val - 128, by omega⟩) := by
  pointwise [k0_pay189]

theorem pay190_at (A B : FVec Ideal S1024x128 .f32) (row : Fin 1024) (l : Fin 256) :
    k0_pay190 (F := Ideal) B A (ix4 0 0 row l)
      = if h : l.val < 128 then A (ix2 row ⟨l.val, h⟩) else 0 - B (ix2 row ⟨l.val - 128, by omega⟩) := by
  pointwise [k0_pay190]

theorem pay192_at (A B : FVec Ideal S1024x128 .f32) (c : IVec S1024x128 32) (row : Fin 1024) (l : Fin 256) :
    k0_pay192 (F := Ideal) A c B (ix4 0 0 row l)
      = if h : l.val < 128 then k0_pay191 (F := Ideal) A c (ix2 row ⟨l.val, h⟩) else B (ix2 row ⟨l.val - 128, by omega⟩) := by
  pointwise [k0_pay192]

theorem pay193_at (A B : FVec Ideal S1024x128 .f32) (c : IVec S1024x128 32) (row : Fin 1024) (l : Fin 256) :
    k0_pay193 (F := Ideal) A c B (ix4 0 0 row l)
      = if h : l.val < 128 then k0_pay191 (F := Ideal) A c (ix2 row ⟨l.val, h⟩) else 0 - B (ix2 row ⟨l.val - 128, by omega⟩) := by
  pointwise [k0_pay193]

end Cert.Attn

end
-- ==== Proof.Attn.Fill.lean ====
/- The arrays that the attention kernel fills before the loops: keys, values, queries and corrections. -/
module

public import proofs.«01_k».proof.Proof.Attn.Prep

@[expose] public section

set_option maxRecDepth 16384

noncomputable section

namespace Cert.Attn

open Idealize.ShloMosaic Idealize.ShloMosaic.TcCoe Idealize.SL.Sem
open Cert.Kernel4Ideal Cert.Kernel4Ideal.Gen

/-- The column block of values, and the ones beside it. -/
def vcols (v : ℕ → ℕ → ℝ) (pos c : ℕ) : ℝ := if c < 128 then v pos c else if c = 128 then 1 else 0

section fill
variable {sig : RefSig} {κ : Kind} {sp : Space}

theorem fill_keys {v : View sig κ sp S256x4096 .bf16} {f : v.ty.Contents (Elt Ideal)} (x : Vec Ideal S1x4096x128 .f32) (s : Ideal .f32)
    {kk : ℕ → ℕ → ℝ} {σ : ℝ} (hs : s = ((σ : ℝ) : EReal)) (hk : ∀ (pos : Fin 4096) (l : Fin 128), x (ix3 0 pos l) = ((kk pos l : ℝ) : EReal))
    (inb : ∀ a, (![128, 0] : Fin 2 → ℕ) a + S128x4096.size a ≤ S256x4096.size a)
    (inb' : ∀ a, (![0, 0] : Fin 2 → ℕ) a + S128x4096.size a ≤ S256x4096.size a) :
    KeysHold kk σ (v.read (Elt Ideal) (v.writes (Elt Ideal) f
      [⟨Rect.unit (s := S256x4096) ![128, 0] S128x4096.size inb, k0_pay3 (F := Ideal) s⟩,
       ⟨Rect.unit (s := S256x4096) ![0, 0] S128x4096.size inb', k0_pay2 (F := Ideal) x⟩])) := by
  subst hs
  intro l pos
  by_cases h : l.val < 128
  · refine (View.read_writes_cons_unit_of_not_mem v f inb _ _ _ rfl 0 (Or.inl h)).trans ?_
    refine (View.read_writes_cons_unit_of_mem v f inb' _ _ (ix2 l pos) (ix2 (⟨l.val, h⟩ : Fin 128) pos) rfl
      (by intro a; fin_cases a <;> simp)).trans ?_
    rw [pay2_at, hk, keyLane, if_pos h]
  · refine (View.read_writes_cons_unit_of_mem v f inb _ _ (ix2 l pos) (ix2 (⟨l.val - 128, by omega⟩ : Fin 128) pos) rfl
      (by intro a; fin_cases a <;> simp; omega)).trans ?_
    rw [pay3_at, keyLane, if_neg h]
    congr 1
    simp only
    split_ifs <;> first | rfl | omega

theorem fill_vals {v : View sig κ sp S4096x256 .bf16} {f : v.ty.Contents (Elt Ideal)} (x : Vec Ideal S1x4096x128 .f32)
    {vv : ℕ → ℕ → ℝ} (hv : ∀ (pos : Fin 4096) (l : Fin 128), x (ix3 0 pos l) = ((vv pos l : ℝ) : EReal))
    (inb : ∀ a, (![0, 128] : Fin 2 → ℕ) a + S4096x128.size a ≤ S4096x256.size a)
    (inb' : ∀ a, (![0, 0] : Fin 2 → ℕ) a + S4096x128.size a ≤ S4096x256.size a) :
    ValsHold (vcols vv) (v.read (Elt Ideal) (v.writes (Elt Ideal) f
      [⟨Rect.unit (s := S4096x256) ![0, 128] S4096x128.size inb, k0_pay5 (F := Ideal)⟩,
       ⟨Rect.unit (s := S4096x256) ![0, 0] S4096x128.size inb', k0_pay4 (F := Ideal) x⟩])) := by
  intro pos l
  by_cases h : l.val < 128
  · refine (View.read_writes_cons_unit_of_not_mem v f inb _ _ _ rfl 1 (Or.inl h)).trans ?_
    refine (View.read_writes_cons_unit_of_mem v f inb' _ _ (ix2 pos l) (ix2 pos (⟨l.val, h⟩ : Fin 128)) rfl
      (by intro a; fin_cases a <;> simp)).trans ?_
    rw [pay4_at, hv, vcols, if_pos h]
  · refine (View.read_writes_cons_unit_of_mem v f inb _ _ (ix2 pos l) (ix2 pos (⟨l.val - 128, by omega⟩ : Fin 128)) rfl
      (by intro a; fin_cases a <;> simp; omega)).trans ?_
    rw [pay5_at, vcols, if_neg h]
    congr 1
    simp only
    split_ifs <;> first | rfl | omega

theorem fill_fix {v : View sig κ sp S2x256x512 .f32} {f : v.ty.Contents (Elt Ideal)} (s : Ideal .f32) {σ : ℝ} (hs : s = ((σ : ℝ) : EReal))
    (i1 : ∀ a, (![1, 0, 0] : Fin 3 → ℕ) a + S1x256x512.size a ≤ S2x256x512.size a)
    (i0 : ∀ a, (![0, 0, 0] : Fin 3 → ℕ) a + S1x256x512.size a ≤ S2x256x512.size a) :
    FixHolds σ (v.read (Elt Ideal) (v.writes (Elt Ideal) f
      [⟨Rect.unit (s := S2x256x512) ![1, 0, 0] S1x256x512.size i1, k0_pay185 (F := Ideal) s (k0_pay7 (F := Ideal))⟩,
       ⟨Rect.unit (s := S2x256x512) ![0, 0, 0] S1x256x512.size i0, k0_pay6 (F := Ideal) s⟩])) := by
  subst hs
  intro d x y
  have hd : d = 1 ∨ d = 0 := by fin_cases d <;> simp
  rcases hd with rfl | rfl
  · exact (View.read_writes_cons_unit_of_mem v f i1 _ _ (ix3 1 x y) (ix3 (0 : Fin 1) x y) rfl
      (by intro a; fin_cases a <;> simp)).trans (pay185_at σ x y)
  · refine (View.read_writes_cons_unit_of_not_mem v f i1 _ _ _ rfl 0 (Or.inl (by simp))).trans ?_
    exact (View.read_writes_cons_unit_of_mem v f i0 _ _ (ix3 0 x y) (ix3 (0 : Fin 1) x y) rfl
      (by intro a; fin_cases a <;> simp)).trans (pay6_at σ x y)

/-- The distance lanes of a query row, as the scores name them. -/
def dist (σ : ℝ) (b row l : ℕ) : ℝ := if l = 128 then ((b + row : ℕ) : ℝ) * (-σ) else if l < 131 then 0 else if l < 134 then 1 else 0

theorem dist_at (n : ℕ) (hn : n < 4) (σ : ℝ) (row : Fin 1024) (l : Fin 256) (h : ¬l.val < 128) :
    k0_pay187 (F := Ideal) (BitVec.ofNat 32 n) ((σ : ℝ) : EReal) (ix2 row ⟨l.val - 128, by omega⟩) = ((dist σ (1024 * n) row l : ℝ) : EReal) := by
  rw [pay187_at n hn, dist]
  congr 1
  simp only
  split_ifs <;> first | rfl | omega

theorem fill_rows {v : View sig κ sp S2x2x1024x256 .bf16} {f : v.ty.Contents (Elt Ideal)} (Q : Vec Ideal S1x1024x128 .f32)
    (n : ℕ) (hn : n < 4) (s : Ideal .f32) {q : ℕ → ℕ → ℝ} {σ : ℝ} (hs : s = ((σ : ℝ) : EReal))
    (hq : ∀ (row : Fin 1024) (l : Fin 128), Q (ix3 0 row l) = ((q row l : ℝ) : EReal))
    (i3 : ∀ a, (![1, 1, 0, 0] : Fin 4 → ℕ) a + S1x1x1024x256.size a ≤ S2x2x1024x256.size a)
    (i2 : ∀ a, (![1, 0, 0, 0] : Fin 4 → ℕ) a + S1x1x1024x256.size a ≤ S2x2x1024x256.size a)
    (i1 : ∀ a, (![0, 1, 0, 0] : Fin 4 → ℕ) a + S1x1x1024x256.size a ≤ S2x2x1024x256.size a)
    (i0 : ∀ a, (![0, 0, 0, 0] : Fin 4 → ℕ) a + S1x1x1024x256.size a ≤ S2x2x1024x256.size a) :
    RowsHold q σ (1024 * n) (v.read (Elt Ideal) (v.writes (Elt Ideal) f
      [⟨Rect.unit (s := S2x2x1024x256) ![1, 1, 0, 0] S1x1x1024x256.size i3, k0_pay193 (F := Ideal) (k0_pay186 Q) (iota .tc S1024x128 32 [1] iota_S1024x128_d1_w32) (k0_pay187 (BitVec.ofNat 32 n) s)⟩,
       ⟨Rect.unit (s := S2x2x1024x256) ![1, 0, 0, 0] S1x1x1024x256.size i2, k0_pay192 (F := Ideal) (k0_pay186 Q) (iota .tc S1024x128 32 [1] iota_S1024x128_d1_w32) (k0_pay187 (BitVec.ofNat 32 n) s)⟩,
       ⟨Rect.unit (s := S2x2x1024x256) ![0, 1, 0, 0] S1x1x1024x256.size i1, k0_pay190 (F := Ideal) (k0_pay187 (BitVec.ofNat 32 n) s) (k0_pay188 Q)⟩,
       ⟨Rect.unit (s := S2x2x1024x256) ![0, 0, 0, 0] S1x1x1024x256.size i0, k0_pay189 (F := Ideal) (k0_pay187 (BitVec.ofNat 32 n) s) (k0_pay188 Q)⟩])) := by
  subst hs
  intro p g row l
  have hd : (p = 1 ∧ g = 1) ∨ (p = 1 ∧ g = 0) ∨ (p = 0 ∧ g = 1) ∨ (p = 0 ∧ g = 0) := by fin_cases p <;> fin_cases g <;> simp
  have lo : ∀ g' : Fin 2, l.val < 128 → lane q σ (1024 * n) 0 g' row l = if l.val < 64 then q row l * qscale else 0 := fun g' h => by
    rw [lane, if_pos h]
    by_cases h' : l.val < 64
    · rw [if_pos h', if_pos (by simp; omega)]
    · rw [if_neg h', if_neg (by simp; omega)]
  have hi : ∀ g' : Fin 2, l.val < 128 → lane q σ (1024 * n) 1 g' row l = if 64 ≤ l.val then q row l * qscale else 0 := fun g' h => by
    rw [lane, if_pos h]
    by_cases h' : 64 ≤ l.val
    · rw [if_pos h', if_pos (by simp; omega)]
    · rw [if_neg h', if_neg (by simp; omega)]
  have up : ∀ p' : Fin 2, ¬l.val < 128 → lane q σ (1024 * n) p' 0 row l = dist σ (1024 * n) row l := fun p' h => by
    have e : lane q σ (1024 * n) p' 0 row l = sgn 0 * dist σ (1024 * n) row l := if_neg h
    rw [e]; simp [sgn]
  have dn : ∀ p' : Fin 2, ¬l.val < 128 → lane q σ (1024 * n) p' 1 row l = 0 - dist σ (1024 * n) row l := fun p' h => by
    have e : lane q σ (1024 * n) p' 1 row l = sgn 1 * dist σ (1024 * n) row l := if_neg h
    rw [e]; simp [sgn]
  rcases hd with ⟨rfl, rfl⟩ | ⟨rfl, rfl⟩ | ⟨rfl, rfl⟩ | ⟨rfl, rfl⟩
  · refine (View.read_writes_cons_unit_of_mem v f i3 _ _ (ix4 1 1 row l) (ix4 (0 : Fin 1) (0 : Fin 1) row l) rfl
      (by intro a; fin_cases a <;> simp)).trans ?_
    rw [pay193_at]
    split_ifs with h
    · rw [pay191_at, hq, hi 1 h, ← EReal.coe_mul, ← EReal.coe_zero, ← apply_ite Real.toEReal]
    · rw [dist_at n hn σ row l h, dn 1 h, EReal.coe_sub, EReal.coe_zero]
  · refine (View.read_writes_cons_unit_of_not_mem v f i3 _ _ _ rfl 1 (Or.inl (by simp))).trans ?_
    refine (View.read_writes_cons_unit_of_mem v f i2 _ _ (ix4 1 0 row l) (ix4 (0 : Fin 1) (0 : Fin 1) row l) rfl
      (by intro a; fin_cases a <;> simp)).trans ?_
    rw [pay192_at]
    split_ifs with h
    · rw [pay191_at, hq, hi 0 h, ← EReal.coe_mul, ← EReal.coe_zero, ← apply_ite Real.toEReal]
    · rw [dist_at n hn σ row l h, up 1 h]
  · refine (View.read_writes_cons_unit_of_not_mem v f i3 _ _ _ rfl 0 (Or.inl (by simp))).trans ?_
    refine (View.read_writes_cons_unit_of_not_mem v f i2 _ _ _ rfl 0 (Or.inl (by simp))).trans ?_
    refine (View.read_writes_cons_unit_of_mem v f i1 _ _ (ix4 0 1 row l) (ix4 (0 : Fin 1) (0 : Fin 1) row l) rfl
      (by intro a; fin_cases a <;> simp)).trans ?_
    rw [pay190_at]
    split_ifs with h
    · rw [pay188_at, hq, lo 1 h, ← EReal.coe_mul, ← EReal.coe_zero, ← apply_ite Real.toEReal]
    · rw [dist_at n hn σ row l h, dn 0 h, EReal.coe_sub, EReal.coe_zero]
  · refine (View.read_writes_cons_unit_of_not_mem v f i3 _ _ _ rfl 0 (Or.inl (by simp))).trans ?_
    refine (View.read_writes_cons_unit_of_not_mem v f i2 _ _ _ rfl 0 (Or.inl (by simp))).trans ?_
    refine (View.read_writes_cons_unit_of_not_mem v f i1 _ _ _ rfl 1 (Or.inl (by simp))).trans ?_
    refine (View.read_writes_cons_unit_of_mem v f i0 _ _ (ix4 0 0 row l) (ix4 (0 : Fin 1) (0 : Fin 1) row l) rfl
      (by intro a; fin_cases a <;> simp)).trans ?_
    rw [pay189_at]
    split_ifs with h
    · rw [pay188_at, hq, lo 0 h, ← EReal.coe_mul, ← EReal.coe_zero, ← apply_ite Real.toEReal]
    · rw [dist_at n hn σ row l h, up 0 h]

end fill

end Cert.Attn

end
-- ==== Proof.Attn.Out.lean ====
/- What the attention kernel writes for a row, from the sums over all keys. -/
module

public import proofs.«01_k».proof.Proof.Attn.Fill

@[expose] public section

set_option maxRecDepth 16384

noncomputable section

namespace Cert.Attn

open Idealize.ShloMosaic Idealize.ShloMosaic.TcCoe Idealize.SL.Sem
open Cert.Kernel4Ideal Cert.Kernel4Ideal.Gen

/-- The factor on the second map of a head, before rounding: the difference of two exponentials and a constant. -/
def lamE (x : S4x64.Idx → EReal) : EReal :=
  Ideal.exp (∑ k : Fin 64, x (ix2 0 k) * x (ix2 1 k)) - Ideal.exp (∑ k : Fin 64, x (ix2 2 k) * x (ix2 3 k)) + Ideal.ofBits .f32 0x3E4CCCCD#32

/-- A row, normalised by its mean square, times the weight and the constant. -/
def rowOut (o : Fin 128 → EReal) (g : EReal) (c : Fin 128) : EReal :=
  o c * Ideal.rsqrt (Ideal.div (∑ k : Fin 128, o k * o k) (Ideal.ofBits .f32 0x43000000#32) + Ideal.ofBits .f32 0x3727C5AC#32) * g
    * Ideal.ofBits .f32 0x3F4CCCCD#32

theorem pay562_at (x : Vec Ideal S4x64 .f32) (N0 N1 : Vec Ideal S1x1024x128 .f32) (D0 D1 : Vec Ideal S1x1024x1 .f32) (row : Fin 1024) (c : Fin 128) :
    k0_pay295 (F := Ideal) x N0 D0 N1 D1 (ix2 row c)
      = Ideal.div (N0 (ix3 0 row c)) (D0 (ix3 0 row 0)) - lamE x * Ideal.div (N1 (ix3 0 row c)) (D1 (ix3 0 row 0)) := by
  pointwise [k0_pay295, lamE]

theorem pay1_at (x : Vec Ideal S4x64 .f32) (g : Vec Ideal S1x128 .f32) (N0 N1 : Vec Ideal S1x1024x128 .f32) (D0 D1 : Vec Ideal S1x1024x1 .f32)
    (row : Fin 1024) (c : Fin 128) :
    k0_pay1 (F := Ideal) (k0_pay295 (F := Ideal) x N0 D0 N1 D1) (k0_pay296 (F := Ideal) x N0 D0 N1 D1) g (ix3 0 row c)
      = rowOut (fun k => k0_pay295 (F := Ideal) x N0 D0 N1 D1 (ix2 row k)) (g (ix2 0 c)) c := by
  generalize h : k0_pay295 (F := Ideal) x N0 D0 N1 D1 = O
  pointwise [k0_pay1, k0_pay296, rowOut, h]

/-- The same factor, of real lambda rows. -/
def lamR (lv : ℕ → ℕ → ℝ) : ℝ :=
  Real.exp (∑ k ∈ Finset.range 64, lv 0 k * lv 1 k) - Real.exp (∑ k ∈ Finset.range 64, lv 2 k * lv 3 k) + 13421773 / 67108864

theorem ofBits_fifth : Ideal.ofBits .f32 0x3E4CCCCD#32 = ((13421773 / 67108864 : ℝ) : EReal) := by
  simp [Ideal.ofBits, Ideal.ieee, -EReal.coe_mul]; norm_num

theorem lamE_eq {x : S4x64.Idx → EReal} {lv : ℕ → ℕ → ℝ} (h : ∀ (a : Fin 4) (k : Fin 64), x (ix2 a k) = ((lv a k : ℝ) : EReal)) :
    lamE x = ((lamR lv : ℝ) : EReal) := by
  unfold lamE lamR
  simp only [h, ofBits_fifth, ← EReal.coe_mul, coe_sum]
  rw [Fin.sum_univ_eq_sum_range (fun k => lv ((0 : Fin 4) : ℕ) k * lv ((1 : Fin 4) : ℕ) k) 64,
    Fin.sum_univ_eq_sum_range (fun k => lv ((2 : Fin 4) : ℕ) k * lv ((3 : Fin 4) : ℕ) k) 64]
  rfl

/-- The mean of values over the 4096 keys, weighted by the exponentials of scores. -/
def weigh (s v : ℕ → ℝ) : ℝ :=
  (∑ pos ∈ Finset.range 4096, Real.exp (s pos) * v pos) / (∑ pos ∈ Finset.range 4096, Real.exp (s pos))

theorem sum_exp_pos (s : ℕ → ℝ) : 0 < ∑ pos ∈ Finset.range 4096, Real.exp (s pos) :=
  Finset.sum_pos (fun _ _ => Real.exp_pos _) ⟨0, by simp⟩

theorem weigh_shift (s v : ℕ → ℝ) (μ : ℝ) : weigh (fun pos => s pos - μ) v = weigh s v := by
  unfold weigh
  have h : ∀ pos, Real.exp (s pos - μ) = Real.exp (-μ) * Real.exp (s pos) := fun pos => by rw [← Real.exp_add]; ring_nf
  simp only [h, mul_assoc, ← Finset.mul_sum]
  rw [mul_div_mul_left _ _ (Real.exp_pos _).ne']

/-- The same mean from powers of two. -/
theorem weigh_two (S v : ℕ → ℝ) (μ : ℝ) :
    (∑ pos ∈ Finset.range 4096, (2 : ℝ) ^ (S pos - μ) * v pos) / (∑ pos ∈ Finset.range 4096, (2 : ℝ) ^ (S pos - μ))
      = weigh (fun pos => S pos * Real.log 2) v := by
  rw [← weigh_shift _ _ (μ * Real.log 2)]
  unfold weigh
  have h : ∀ pos, (2 : ℝ) ^ (S pos - μ) = Real.exp (S pos * Real.log 2 - μ * Real.log 2) := fun pos => by
    rw [Real.rpow_def_of_pos (by norm_num)]; ring_nf
  simp only [h]

/-- The row before rounding: the mean under the first map less `lam` times the mean under the second. -/
def headRow (s0 s1 : ℕ → ℝ) (vv : ℕ → ℕ → ℝ) (lam : ℝ) (c : ℕ) : ℝ :=
  weigh s0 (fun pos => vv pos c) - lam * weigh s1 (fun pos => vv pos c)

theorem div_real {a b : ℝ} (hb : b ≠ 0) : Ideal.div ((a : ℝ) : EReal) ((b : ℝ) : EReal) = ((a / b : ℝ) : EReal) := by
  simp [Ideal.div, hb]
  first | rfl | exact (EReal.coe_div a b).symm | norm_cast

/-- The quotient of the two columns of a row that is through with all keys. -/
theorem quot_row {S : ℕ → ℝ} {vv : ℕ → ℕ → ℝ} {m : EReal} {a : Fin 256 → EReal} (h : RowHolds S (vcols vv) 8 m a) (c : Fin 128) :
    Ideal.div (a ⟨c.val, by omega⟩) (a 128) = ((weigh (fun pos => S pos * Real.log 2) (fun pos => vv pos c) : ℝ) : EReal) := by
  obtain ⟨μ, -, h⟩ := h
  rw [h, h]
  have hv : ∀ pos, vcols vv pos c.val = vv pos c := fun pos => by simp [vcols]
  have hd : ∀ pos, vcols vv pos ((128 : Fin 256) : ℕ) = 1 := fun pos => by
    rw [show ((128 : Fin 256) : ℕ) = 128 from rfl]; simp [vcols]
  simp only [hv, hd, mul_one]
  rw [div_real (Finset.sum_pos (fun _ _ => Real.rpow_pos_of_pos (by norm_num) _) ⟨0, by simp⟩).ne', weigh_two]

section
variable {κ : Kind} {sp : Space}

theorem readAt_num (v : View sig κ sp S2x1024x256 .f32) (f : v.ty.Contents (Elt Ideal)) (p : Fin 2) {off : Fin 3 → ℕ}
    (inb : ∀ a, off a + S1x1024x128.size a ≤ S2x1024x256.size a) (h : off = ![p.val, 0, 0]) (x : Fin 1024) (c : Fin 128) :
    v.readAt (Elt Ideal) (Rect.unit (s := S2x1024x256) off S1x1024x128.size inb).toLoadRect f (ix3 0 x c)
      = v.read (Elt Ideal) f (ix3 p x ⟨c.val, by omega⟩) := by
  subst h
  refine congrArg (v.read (Elt Ideal) f) (funext fun a => Fin.ext ?_)
  fin_cases a <;> simp [Rect.toLoadRect, LoadRect.idx, Rect.unit]

theorem readAt_den (v : View sig κ sp S2x1024x256 .f32) (f : v.ty.Contents (Elt Ideal)) (p : Fin 2) {off : Fin 3 → ℕ}
    (inb : ∀ a, off a + S1x1024x1.size a ≤ S2x1024x256.size a) (h : off = ![p.val, 0, 128]) (x : Fin 1024) :
    v.readAt (Elt Ideal) (Rect.unit (s := S2x1024x256) off S1x1024x1.size inb).toLoadRect f (ix3 0 x 0)
      = v.read (Elt Ideal) f (ix3 p x 128) := by
  subst h
  refine congrArg (v.read (Elt Ideal) f) (funext fun a => Fin.ext ?_)
  fin_cases a <;> simp [Rect.toLoadRect, LoadRect.idx, Rect.unit]

/-- What a grid point stores, from the state after all keys. -/
theorem out_row {S : Fin 2 → ℕ → ℕ → ℝ} {vv lv : ℕ → ℕ → ℝ} {M : S2x1024x1.Idx → EReal} {v : View sig κ sp S2x1024x256 .f32}
    {f : v.ty.Contents (Elt Ideal)} (hI : Inv S (vcols vv) 8 0 M (v.read (Elt Ideal) f)) {x : Vec Ideal S4x64 .f32}
    (hl : ∀ (a : Fin 4) (k : Fin 64), x (ix2 a k) = ((lv a k : ℝ) : EReal)) (g : Vec Ideal S1x128 .f32)
    {N0 N1 : Vec Ideal S1x1024x128 .f32} {D0 D1 : Vec Ideal S1x1024x1 .f32}
    (hN0 : N0 = v.readAt (Elt Ideal) (Rect.unit (s := S2x1024x256) ![0, 0, 0] S1x1024x128.size inb_S2x1024x256_S1x1024x128_0_0_0).toLoadRect f)
    (hD0 : D0 = v.readAt (Elt Ideal) (Rect.unit (s := S2x1024x256) ![0, 0, 128] S1x1024x1.size inb_S2x1024x256_S1x1024x1_0_0_128).toLoadRect f)
    (hN1 : N1 = v.readAt (Elt Ideal) (Rect.unit (s := S2x1024x256) ![1, 0, 0] S1x1024x128.size inb_S2x1024x256_S1x1024x128_1_0_0).toLoadRect f)
    (hD1 : D1 = v.readAt (Elt Ideal) (Rect.unit (s := S2x1024x256) ![1, 0, 128] S1x1024x1.size inb_S2x1024x256_S1x1024x1_1_0_128).toLoadRect f)
    (row : Fin 1024) (c : Fin 128) :
    k0_pay1 (F := Ideal) (k0_pay295 (F := Ideal) x N0 D0 N1 D1) (k0_pay296 (F := Ideal) x N0 D0 N1 D1) g (ix3 0 row c)
      = rowOut (fun k => ((headRow (fun pos => S 0 row pos * Real.log 2) (fun pos => S 1 row pos * Real.log 2) vv (lamR lv) k : ℝ) : EReal))
          (g (ix2 0 c)) c := by
  rw [pay1_at]
  congr 1
  funext k
  have h0 := hI 0 row
  have h1 := hI 1 row
  rw [if_neg (by omega)] at h0 h1
  rw [pay562_at, hN0, hD0, hN1, hD1, readAt_num v f 0 (off := ![0, 0, 0]) _ rfl, readAt_num v f 1 (off := ![1, 0, 0]) _ rfl,
    readAt_den v f 0 (off := ![0, 0, 128]) _ rfl, readAt_den v f 1 (off := ![1, 0, 128]) _ rfl,
    quot_row h0 k, quot_row h1 k, lamE_eq hl, ← EReal.coe_mul, ← EReal.coe_sub]
  rfl

end

end Cert.Attn

end
-- ==== Proof.Attn.PointA.lean ====
/- What a grid point that fills its arrays itself writes and leaves. -/
module

public import proofs.«01_k».proof.Proof.Attn.StateA
public import proofs.«01_k».proof.Proof.Attn.Out
public import proofs.«01_k».proof.Proof.Gen.Kernel4Ideal.Value
import all proofs.«01_k».proof.Proof.Gen.Kernel4Ideal.Value

@[expose] public section

set_option maxRecDepth 16384

noncomputable section

namespace Cert.Attn

open Idealize.ShloMosaic Idealize.ShloMosaic.TcCoe Idealize.SL.Sem
open Cert.Kernel4Ideal Cert.Kernel4Ideal.Gen

section pointA

variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (hc0 : cond0_0 i)
  (x0 : Vec Ideal S4x64 .f32) (x1 : Vec Ideal S1x128 .f32) (x2 : Vec Ideal S1x1024x128 .f32) (x3 : Vec Ideal S1x4096x128 .f32) (x4 : Vec Ideal S1x4096x128 .f32)
  {q kk vv lv : ℕ → ℕ → ℝ}

theorem keysA (f : arg9.view.ty.Contents (Elt Ideal)) (hk : ∀ (pos : Fin 4096) (l : Fin 128), x3 (ix3 0 pos l) = ((kk pos l : ℝ) : EReal)) :
    KeysHold kk (slope (i 1).val * (Real.log 2)⁻¹) (arg9.view.read (Elt Ideal) (arg9.view.writes (Elt Ideal) f (kernelRun0_A.sl.HS0_2 c i arg6 harg6 x3))) := by
  refine fill_keys (View.readAt (Elt Ideal) arg6.view (Rect.unit (s := S1x4096x128) ![0, 0, 0] S1x4096x128.size (by decide)).toLoadRect (harg6.unread x3))
    (k0_pay184 (F := Ideal) i) (pay184_at i) (fun pos l => ?_) _ _
  rw [View.readAt_full, harg6.read_unread]
  exact hk pos l

theorem valsA (f : arg10.view.ty.Contents (Elt Ideal)) (hv : ∀ (pos : Fin 4096) (l : Fin 128), x4 (ix3 0 pos l) = ((vv pos l : ℝ) : EReal)) :
    ValsHold (vcols vv) (arg10.view.read (Elt Ideal) (arg10.view.writes (Elt Ideal) f (kernelRun0_A.sl.HS1_2 c arg7 harg7 x4))) := by
  refine fill_vals (View.readAt (Elt Ideal) arg7.view (Rect.unit (s := S1x4096x128) ![0, 0, 0] S1x4096x128.size (by decide)).toLoadRect (harg7.unread x4))
    (fun pos l => ?_) _ _
  rw [View.readAt_full, harg7.read_unread]
  exact hv pos l

theorem rowsA (f : arg11.view.ty.Contents (Elt Ideal)) (hq : ∀ (row : Fin 1024) (l : Fin 128), x2 (ix3 0 row l) = ((q row l : ℝ) : EReal)) :
    RowsHold q (slope (i 1).val * (Real.log 2)⁻¹) (1024 * (i 2).val) (arg11.view.read (Elt Ideal) (arg11.view.writes (Elt Ideal) f (kernelRun0_A.sl.HS2_4 (F := Ideal) c i arg5 harg5 x2))) := by
  refine fill_rows (View.readAt (Elt Ideal) arg5.view (Rect.unit (s := S1x1024x128) ![0, 0, 0] S1x1024x128.size (by decide)).toLoadRect (harg5.unread x2))
    (i 2).val (i 2).isLt (k0_pay184 (F := Ideal) i) (pay184_at i) (fun row l => ?_) _ _ _ _
  rw [View.readAt_full, harg5.read_unread]
  exact hq row l

theorem fixA (f : arg12.view.ty.Contents (Elt Ideal)) :
    FixHolds (slope (i 1).val * (Real.log 2)⁻¹) (arg12.view.read (Elt Ideal) (arg12.view.writes (Elt Ideal) f (kernelRun0_A.sl.HS3_2 (F := Ideal) i))) :=
  fill_fix (k0_pay184 (F := Ideal) i) (pay184_at i) _ _

/-- What the point writes. -/
theorem pointA (hl : ∀ (a : Fin 4) (k : Fin 64), x0 (ix2 a k) = ((lv a k : ℝ) : EReal))
    (hq : ∀ (row : Fin 1024) (l : Fin 128), x2 (ix3 0 row l) = ((q row l : ℝ) : EReal))
    (hk : ∀ (pos : Fin 4096) (l : Fin 128), x3 (ix3 0 pos l) = ((kk pos l : ℝ) : EReal))
    (hv : ∀ (pos : Fin 4096) (l : Fin 128), x4 (ix3 0 pos l) = ((vv pos l : ℝ) : EReal)) (row : Fin 1024) (c' : Fin 128) :
    out0_A_5 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 (ix3 0 row c')
      = rowOut (fun k => ((headRow
          (fun pos => logit q kk (slope (i 1).val * (Real.log 2)⁻¹) (1024 * (i 2).val) 0 row pos * Real.log 2)
          (fun pos => logit q kk (slope (i 1).val * (Real.log 2)⁻¹) (1024 * (i 2).val) 1 row pos * Real.log 2)
          vv (lamR lv) k : ℝ) : EReal)) (x1 (ix2 0 c')) c' := by
  obtain ⟨M, f, hN0, hD0, hN1, hD1, hI⟩ := stateA c i arg3 harg3 arg4 harg4 arg5 harg5 arg6 harg6 arg7 harg7 arg8 harg8 arg9 harg9 arg10 harg10 arg11 harg11 arg12 harg12 arg13 harg13 arg14 harg14 x2 x3 x4 rfl
    (keysA c i arg6 harg6 arg9 x3 _ hk) (valsA c arg7 harg7 arg10 x4 _ hv) (rowsA c i arg5 harg5 arg11 x2 _ hq) (fixA i arg12 _)
  unfold out0_A_5 kernelRun0_A
  dsimp only
  rw [View.read_writes_full]
  have e1 : View.readAt (Elt Ideal) arg4.view (Rect.unit (s := S1x128) ![0, 0] S1x128.size inb_S1x128_S1x128_0_0).toLoadRect (harg4.unread x1) = x1 := by
    rw [View.readAt_full, harg4.read_unread]
  have e0 : View.readAt (Elt Ideal) arg3.view (Rect.unit (s := S4x64) ![0, 0] S4x64.size inb_S4x64_S4x64_0_0).toLoadRect (harg3.unread x0) = x0 := by
    rw [View.readAt_full, harg3.read_unread]
  have hres := out_row hI hl x1 hN0 hD0 hN1 hD1 row c'
  refine Eq.trans (congrFun ?_ (ix3 0 row c')) hres
  conv_rhs => rw [← e0, ← e1]
  rfl

/-- What the point leaves in the arrays it carries on. -/
theorem leftA (hk : ∀ (pos : Fin 4096) (l : Fin 128), x3 (ix3 0 pos l) = ((kk pos l : ℝ) : EReal))
    (hv : ∀ (pos : Fin 4096) (l : Fin 128), x4 (ix3 0 pos l) = ((vv pos l : ℝ) : EReal)) :
    KeysHold kk (slope (i 1).val * (Real.log 2)⁻¹) (sout0_A_0 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4)
      ∧ ValsHold (vcols vv) (sout0_A_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4)
      ∧ FixHolds (slope (i 1).val * (Real.log 2)⁻¹) (sout0_A_3 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4) := by
  unfold sout0_A_0 sout0_A_1 sout0_A_3 kernelRun0_A
  dsimp only
  exact ⟨keysA c i arg6 harg6 scM0_0 x3 _ hk, valsA c arg7 harg7 scM0_1 x4 _ hv, fixA i scM0_3 _⟩

end pointA

end Cert.Attn

end
-- ==== Proof.Attn.StateB.lean ====
/- The running maxima, numerators and denominators after all keys, at a grid point of kind B. -/
module

public import proofs.«01_k».proof.Proof.Attn.Push
public import proofs.«01_k».proof.Proof.Attn.Start
public import proofs.«01_k».proof.Proof.Gen.Kernel4Ideal.Value
import all proofs.«01_k».proof.Proof.Gen.Kernel4Ideal.Value

@[expose] public section

set_option maxRecDepth 16384

noncomputable section

namespace Cert.Attn

open Idealize.ShloMosaic Idealize.ShloMosaic.TcCoe Idealize.SL.Sem
open Cert.Kernel4Ideal Cert.Kernel4Ideal.Gen

section stateB
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (x2 : Vec Ideal S1x1024x128 .f32) (xs0 : Vec Ideal S256x4096 .bf16) (xs1 : Vec Ideal S4096x256 .bf16) (xs3 : Vec Ideal S2x256x512 .f32)
  {q kk V : ℕ → ℕ → ℝ} {σ : ℝ} {b : ℕ}

/-- After all keys the two arrays hold, for every row, the sums over all 4096 keys. -/
theorem stateB (hb : b = 1024 * (i 2).val)
    (h9 : KeysHold kk σ (arg9.view.read (Elt Ideal) (harg9.unread xs0)))
    (h10 : ValsHold V (arg10.view.read (Elt Ideal) (harg10.unread xs1)))
    (h11 : RowsHold q σ b (arg11.view.read (Elt Ideal) (arg11.view.writes (Elt Ideal) arg11.view.junk (kernelRun0_B.sl.HS2_4 (F := Ideal) c i arg5 harg5 x2))))
    (h12 : FixHolds σ (arg12.view.read (Elt Ideal) (harg12.unread xs3))) :
    ∃ (M : S2x1024x1.Idx → EReal) (f : arg14.view.ty.Contents (Elt Ideal)),
      kernelRun0_B.sl.v591 (F := Ideal) c i arg3 harg3 arg4 harg4 arg5 harg5 arg6 harg6 arg7 harg7 arg8 harg8 arg9 harg9 arg10 harg10 arg11 harg11 arg12 harg12 arg13 harg13 arg14 harg14 x2 xs0 xs1 xs3 = arg14.view.readAt (Elt Ideal) (Rect.unit (s := S2x1024x256) ![0, 0, 0] S1x1024x128.size inb_S2x1024x256_S1x1024x128_0_0_0).toLoadRect f
      ∧ kernelRun0_B.sl.v593 (F := Ideal) c i arg3 harg3 arg4 harg4 arg5 harg5 arg6 harg6 arg7 harg7 arg8 harg8 arg9 harg9 arg10 harg10 arg11 harg11 arg12 harg12 arg13 harg13 arg14 harg14 x2 xs0 xs1 xs3 = arg14.view.readAt (Elt Ideal) (Rect.unit (s := S2x1024x256) ![0, 0, 128] S1x1024x1.size inb_S2x1024x256_S1x1024x1_0_0_128).toLoadRect f
      ∧ kernelRun0_B.sl.v597 (F := Ideal) c i arg3 harg3 arg4 harg4 arg5 harg5 arg6 harg6 arg7 harg7 arg8 harg8 arg9 harg9 arg10 harg10 arg11 harg11 arg12 harg12 arg13 harg13 arg14 harg14 x2 xs0 xs1 xs3 = arg14.view.readAt (Elt Ideal) (Rect.unit (s := S2x1024x256) ![1, 0, 0] S1x1024x128.size inb_S2x1024x256_S1x1024x128_1_0_0).toLoadRect f
      ∧ kernelRun0_B.sl.v599 (F := Ideal) c i arg3 harg3 arg4 harg4 arg5 harg5 arg6 harg6 arg7 harg7 arg8 harg8 arg9 harg9 arg10 harg10 arg11 harg11 arg12 harg12 arg13 harg13 arg14 harg14 x2 xs0 xs1 xs3 = arg14.view.readAt (Elt Ideal) (Rect.unit (s := S2x1024x256) ![1, 0, 128] S1x1024x1.size inb_S2x1024x256_S1x1024x1_1_0_128).toLoadRect f
      ∧ Inv (logit q kk σ b) V 8 0 M (arg14.view.read (Elt Ideal) f) := by
  refine ⟨?M, _, rfl, rfl, rfl, rfl, ?_⟩
  rotate_left
  have hi := coord2 i
  have hl0 : 2 * (i 2).val < 8 := by omega
  have hl1 : 2 * (i 2).val + 1 < 8 := by omega
  have e9_0 : k0_off5 i 0#32 = ![0, 512 * (2 * (i 2).val)] := off5_0 i
  have e9_1 : k0_off5 i 1#32 = ![0, 512 * (2 * (i 2).val + 1)] := by rw [off5_1]
  have e10_0 : k0_off6 i 0#32 = ![512 * (2 * (i 2).val), 0] := off6_0 i
  have e10_1 : k0_off6 i 1#32 = ![512 * (2 * (i 2).val + 1), 0] := by rw [off6_1]
  refine loop4_holds _ _ _ _ _ _ _ _ _ _ _ _ _ _ _ _ _ _ _ _ _ _ _ _ _ _ _ _ _ _ _ _ _ (b := b) ?_
  refine loop3_holds _ _ _ _ _ _ _ _ _ _ _ _ _ _ _ _ _ _ _ _ _ _ _ _ _ _ _ _ _ _ _ _ _ hb h9 h10 h11 ?_
  refine Inv.next ?_
  refine push_diag 1 3 1 rfl hl1 h9 h10 h11 h12 _ e9_1 _ e10_1 _ rfl _ rfl _ _ rfl (by simp; omega) rfl rfl ?_
  refine push_diag 1 2 0 rfl hl1 h9 h10 h11 h12 _ e9_1 _ e10_1 _ rfl _ rfl _ _ rfl (by simp; omega) rfl rfl ?_
  refine push_after 1 1 rfl hl1 h9 h10 h11 _ e9_1 _ e10_1 _ rfl _ _ rfl (by simp; omega) rfl rfl ?_
  refine push_after 1 0 rfl hl1 h9 h10 h11 _ e9_1 _ e10_1 _ rfl _ _ rfl (by simp; omega) rfl rfl ?_
  refine push_diag 0 3 1 rfl hl1 h9 h10 h11 h12 _ e9_1 _ e10_1 _ rfl _ rfl _ _ rfl (by simp; omega) rfl rfl ?_
  refine push_diag 0 2 0 rfl hl1 h9 h10 h11 h12 _ e9_1 _ e10_1 _ rfl _ rfl _ _ rfl (by simp; omega) rfl rfl ?_
  refine push_after 0 1 rfl hl1 h9 h10 h11 _ e9_1 _ e10_1 _ rfl _ _ rfl (by simp; omega) rfl rfl ?_
  refine push_after 0 0 rfl hl1 h9 h10 h11 _ e9_1 _ e10_1 _ rfl _ _ rfl (by simp; omega) rfl rfl ?_
  refine Inv.next ?_
  refine push_before 1 3 rfl hl0 h9 h10 h11 _ e9_0 _ e10_0 _ rfl _ _ rfl (by simp; omega) rfl rfl ?_
  refine push_before 1 2 rfl hl0 h9 h10 h11 _ e9_0 _ e10_0 _ rfl _ _ rfl (by simp; omega) rfl rfl ?_
  refine push_diag 1 1 1 rfl hl0 h9 h10 h11 h12 _ e9_0 _ e10_0 _ rfl _ rfl _ _ rfl (by simp; omega) rfl rfl ?_
  refine push_diag 1 0 0 rfl hl0 h9 h10 h11 h12 _ e9_0 _ e10_0 _ rfl _ rfl _ _ rfl (by simp; omega) rfl rfl ?_
  refine push_before 0 3 rfl hl0 h9 h10 h11 ?_ e9_0 ?_ e10_0 (off11 := ![0, 0, 768, 0]) ?_ rfl ?_ ?_ rfl (by simp; omega) ?hm ?ha ?_
  case hm =>
    unfold k0_pay220 k0_pay218 kernelRun0_B.sl.r_7 kernelRun0_B.sl.r_8 k0_pay216 k0_pay217 k0_pay215
    rfl
  case ha =>
    unfold k0_pay219 k0_pay218 kernelRun0_B.sl.r_6 kernelRun0_B.sl.r_7 kernelRun0_B.sl.r_8 k0_pay216 k0_pay217 k0_pay215
    rfl
  refine push_before 0 2 rfl hl0 h9 h10 h11 _ e9_0 _ e10_0 _ rfl _ _ rfl (by simp; omega) rfl rfl ?_
  refine push_diag 0 1 1 rfl hl0 h9 h10 h11 h12 _ e9_0 _ e10_0 _ rfl _ rfl _ _ rfl (by simp; omega) rfl rfl ?_
  refine push_diag 0 0 0 rfl hl0 h9 h10 h11 h12 _ e9_0 _ e10_0 _ rfl _ rfl _ _ rfl (by simp; omega) rfl rfl ?_
  refine loop2_holds _ _ _ _ _ _ _ _ _ _ _ _ _ _ _ _ _ _ _ _ _ _ _ _ _ _ _ _ _ _ _ _ _ ?_
  refine loop1_holds _ _ _ _ _ _ _ _ _ _ _ _ _ _ _ _ _ _ _ _ _ _ _ _ _ _ _ _ _ _ _ _ _ hb h9 h10 h11 ?_
  exact start_holds _ _

end stateB

end Cert.Attn

end
-- ==== Proof.Attn.PointB.lean ====
/- What a grid point that finds its arrays filled writes. -/
module

public import proofs.«01_k».proof.Proof.Attn.StateB
public import proofs.«01_k».proof.Proof.Attn.Out
public import proofs.«01_k».proof.Proof.Gen.Kernel4Ideal.Value
import all proofs.«01_k».proof.Proof.Gen.Kernel4Ideal.Value

@[expose] public section

set_option maxRecDepth 16384

noncomputable section

namespace Cert.Attn

open Idealize.ShloMosaic Idealize.ShloMosaic.TcCoe Idealize.SL.Sem
open Cert.Kernel4Ideal Cert.Kernel4Ideal.Gen

section pointB

variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1024x128 .f32) (harg8 : arg8.IsWhole) (arg9 : Memref sig .tc .vmem S256x4096 .bf16) (harg9 : arg9.IsWhole) (arg10 : Memref sig .tc .vmem S4096x256 .bf16) (harg10 : arg10.IsWhole) (arg11 : Memref sig .tc .vmem S2x2x1024x256 .bf16) (harg11 : arg11.IsWhole) (arg12 : Memref sig .tc .vmem S2x256x512 .f32) (harg12 : arg12.IsWhole) (arg13 : Memref sig .tc .vmem S2x1024x1 .f32) (harg13 : arg13.IsWhole) (arg14 : Memref sig .tc .vmem S2x1024x256 .f32) (harg14 : arg14.IsWhole) (hc0 : ¬cond0_0 i)
  (x0 : Vec Ideal S4x64 .f32) (x1 : Vec Ideal S1x128 .f32) (x2 : Vec Ideal S1x1024x128 .f32) (x3 : Vec Ideal S1x4096x128 .f32) (x4 : Vec Ideal S1x4096x128 .f32)
  (xs0 : Vec Ideal S256x4096 .bf16) (xs1 : Vec Ideal S4096x256 .bf16) (xs3 : Vec Ideal S2x256x512 .f32)
  {q kk vv lv : ℕ → ℕ → ℝ}

theorem rowsB (f : arg11.view.ty.Contents (Elt Ideal)) (hq : ∀ (row : Fin 1024) (l : Fin 128), x2 (ix3 0 row l) = ((q row l : ℝ) : EReal)) :
    RowsHold q (slope (i 1).val * (Real.log 2)⁻¹) (1024 * (i 2).val) (arg11.view.read (Elt Ideal) (arg11.view.writes (Elt Ideal) f (kernelRun0_B.sl.HS2_4 (F := Ideal) c i arg5 harg5 x2))) := by
  refine fill_rows (View.readAt (Elt Ideal) arg5.view (Rect.unit (s := S1x1024x128) ![0, 0, 0] S1x1024x128.size (by decide)).toLoadRect (harg5.unread x2))
    (i 2).val (i 2).isLt (k0_pay184 (F := Ideal) i) (pay184_at i) (fun row l => ?_) _ _ _ _
  rw [View.readAt_full, harg5.read_unread]
  exact hq row l

/-- What the point writes. -/
theorem pointB (hl : ∀ (a : Fin 4) (k : Fin 64), x0 (ix2 a k) = ((lv a k : ℝ) : EReal))
    (hq : ∀ (row : Fin 1024) (l : Fin 128), x2 (ix3 0 row l) = ((q row l : ℝ) : EReal))
    (hk : KeysHold kk (slope (i 1).val * (Real.log 2)⁻¹) xs0) (hv : ValsHold (vcols vv) xs1)
    (hf : FixHolds (slope (i 1).val * (Real.log 2)⁻¹) xs3) (row : Fin 1024) (c' : Fin 128) :
    out0_B_5 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 xs0 xs1 xs3 (ix3 0 row c')
      = rowOut (fun k => ((headRow
          (fun pos => logit q kk (slope (i 1).val * (Real.log 2)⁻¹) (1024 * (i 2).val) 0 row pos * Real.log 2)
          (fun pos => logit q kk (slope (i 1).val * (Real.log 2)⁻¹) (1024 * (i 2).val) 1 row pos * Real.log 2)
          vv (lamR lv) k : ℝ) : EReal)) (x1 (ix2 0 c')) c' := by
  obtain ⟨M, f, hN0, hD0, hN1, hD1, hI⟩ := stateB c i arg3 harg3 arg4 harg4 arg5 harg5 arg6 harg6 arg7 harg7 arg8 harg8 arg9 harg9 arg10 harg10 arg11 harg11 arg12 harg12 arg13 harg13 arg14 harg14 x2 xs0 xs1 xs3 rfl
    (by rw [harg9.read_unread]; exact hk) (by rw [harg10.read_unread]; exact hv) (rowsB c i arg5 harg5 arg11 x2 _ hq) (by rw [harg12.read_unread]; exact hf)
  unfold out0_B_5 kernelRun0_B
  dsimp only
  rw [View.read_writes_full]
  have e1 : View.readAt (Elt Ideal) arg4.view (Rect.unit (s := S1x128) ![0, 0] S1x128.size inb_S1x128_S1x128_0_0).toLoadRect (harg4.unread x1) = x1 := by
    rw [View.readAt_full, harg4.read_unread]
  have e0 : View.readAt (Elt Ideal) arg3.view (Rect.unit (s := S4x64) ![0, 0] S4x64.size inb_S4x64_S4x64_0_0).toLoadRect (harg3.unread x0) = x0 := by
    rw [View.readAt_full, harg3.read_unread]
  have hres := out_row hI hl x1 hN0 hD0 hN1 hD1 row c'
  refine Eq.trans (congrFun ?_ (ix3 0 row c')) hres
  conv_rhs => rw [← e0, ← e1]
  rfl

end pointB

end Cert.Attn

end
-- ==== Proof.Attn.Blocks.lean ====
/- The blocks a grid point reads, as parts of the arguments. -/
module

public import proofs.«01_k».proof.Proof.Attn.PointA
public import proofs.«01_k».proof.Proof.Attn.PointB
public import Idealize.ShloMosaic.Lib.Pipeline.ValueKit
public import proofs.«01_k».proof.Proof.Gen.Kernel4Ideal.Value
import all proofs.«01_k».proof.Proof.Gen.Kernel4Ideal.Value

@[expose] public section

set_option maxRecDepth 16384

noncomputable section

namespace Cert.Attn

open Idealize.ShloMosaic Idealize.ShloMosaic.TcCoe Idealize.SL.Sem
open Cert.Kernel4Ideal Cert.Kernel4Ideal.Gen

variable (m : (ℓ : Loc nD τ sig) → Buf (Elt Ideal) ℓ)

theorem coords_at : ∀ t : Fin cfg0.N, (grid0.coords t 0).val = t.val / 16 ∧ (grid0.coords t 1).val = t.val / 4 % 4 ∧ (grid0.coords t 2).val = t.val % 4 :=
  (by decide +kernel : ∀ t : Fin grid0.N, (grid0.coords t 0).val = t.val / 16 ∧ (grid0.coords t 1).val = t.val / 4 % 4 ∧ (grid0.coords t 2).val = t.val % 4)

theorem index_at : ∀ t : Fin cfg0.N, win0_0.index t 0 = 0 ∧ win0_0.index t 1 = 0 ∧ win0_1.index t 0 = 0 ∧ win0_1.index t 1 = 0
    ∧ win0_2.index t 0 = t.val / 16 ∧ win0_2.index t 1 = t.val % 4 ∧ win0_2.index t 2 = t.val / 4 % 4
    ∧ win0_3.index t 0 = t.val / 16 ∧ win0_3.index t 1 = 0 ∧ win0_3.index t 2 = 4 + t.val / 4 % 4
    ∧ win0_4.index t 0 = t.val / 16 ∧ win0_4.index t 1 = 0 ∧ win0_4.index t 2 = 8 + t.val / 4 % 4
    ∧ win0_5.index t 0 = t.val / 16 ∧ win0_5.index t 1 = t.val % 4 ∧ win0_5.index t 2 = t.val / 4 % 4 :=
  (by decide +kernel : ∀ t : Fin grid0.N, win0_0.index t 0 = 0 ∧ win0_0.index t 1 = 0 ∧ win0_1.index t 0 = 0 ∧ win0_1.index t 1 = 0
    ∧ win0_2.index t 0 = t.val / 16 ∧ win0_2.index t 1 = t.val % 4 ∧ win0_2.index t 2 = t.val / 4 % 4
    ∧ win0_3.index t 0 = t.val / 16 ∧ win0_3.index t 1 = 0 ∧ win0_3.index t 2 = 4 + t.val / 4 % 4
    ∧ win0_4.index t 0 = t.val / 16 ∧ win0_4.index t 1 = 0 ∧ win0_4.index t 2 = 8 + t.val / 4 % 4
    ∧ win0_5.index t 0 = t.val / 16 ∧ win0_5.index t 1 = t.val % 4 ∧ win0_5.index t 2 = t.val / 4 % 4)

theorem blk_lambda (c : Dev nD) (t : Fin cfg0.N) (a : Fin 4) (k : Fin 64) :
    iblk m c 0 t (ix2 a k) = m ((c : Thread nD τ).loc main_arg1) (ix2 a k) := by
  blk_ext [iblk, V, index_at t]

theorem blk_weight (c : Dev nD) (t : Fin cfg0.N) (k : Fin 128) :
    iblk m c 1 t (ix2 0 k) = m ((c : Thread nD τ).loc main_arg2) (ix1 k) := by
  have e : iblk m c 1 t (ix2 0 k) = V m c main_v0 (ix2 0 k) := by blk_ext [iblk, index_at t]
  rw [e]
  entry_read
  pointwise

theorem lt128 (t : Fin cfg0.N) : t.val < 128 := lt_of_lt_of_eq t.isLt (show cfg0.N = 128 from N_0)

theorem blk_query (c : Dev nD) (t : Fin cfg0.N) (row : Fin 1024) (l : Fin 128) :
    iblk m c 2 t (ix3 0 row l) = m ((c : Thread nD τ).loc main_arg0)
      (ix3 ⟨t.val / 16, by have := lt128 t; omega⟩ ⟨1024 * (t.val % 4) + row, by omega⟩ ⟨128 * (t.val / 4 % 4) + l, by omega⟩) := by
  blk_ext [iblk, V, index_at t]

theorem blk_key (c : Dev nD) (t : Fin cfg0.N) (pos : Fin 4096) (l : Fin 128) :
    iblk m c 3 t (ix3 0 pos l) = m ((c : Thread nD τ).loc main_arg0)
      (ix3 ⟨t.val / 16, by have := lt128 t; omega⟩ pos ⟨512 + 128 * (t.val / 4 % 4) + l, by omega⟩) := by
  blk_ext [iblk, V, index_at t]

theorem blk_value (c : Dev nD) (t : Fin cfg0.N) (pos : Fin 4096) (l : Fin 128) :
    iblk m c 4 t (ix3 0 pos l) = m ((c : Thread nD τ).loc main_arg0)
      (ix3 ⟨t.val / 16, by have := lt128 t; omega⟩ pos ⟨1024 + 128 * (t.val / 4 % 4) + l, by omega⟩) := by
  blk_ext [iblk, V, index_at t]

end Cert.Attn

end
-- ==== Proof.Attn.Layer.lean ====
/- The layer as real arithmetic over the arguments. -/
module

public import proofs.«01_k».proof.Proof.Attn.Out

@[expose] public section

set_option maxRecDepth 16384

noncomputable section

namespace Cert.Attn

open Idealize.ShloMosaic Idealize.ShloMosaic.TcCoe Idealize.SL.Sem
open Cert.Kernel4Ideal Cert.Kernel4Ideal.Gen

/-- Entry (`row`, `col`) of sequence `bt` of the projections, as a real number. -/
def proj (X : S8x4096x3584.Idx → EReal) (bt row col : ℕ) : ℝ :=
  if h : bt < 8 ∧ row < 4096 ∧ col < 3584 then (X (ix3 ⟨bt, h.1⟩ ⟨row, h.2.1⟩ ⟨col, h.2.2⟩)).toReal else 0

/-- Entry (`a`, `k`) of the lambda rows, as a real number. -/
def lrow (L : S4x64.Idx → EReal) (a k : ℕ) : ℝ :=
  if h : a < 4 ∧ k < 64 then (L (ix2 ⟨a, h.1⟩ ⟨k, h.2⟩)).toReal else 0

theorem proj_eq {X : S8x4096x3584.Idx → EReal} (hX : ∀ i, X i = (((X i).toReal : ℝ) : EReal)) (bt : Fin 8) (row : Fin 4096) (col : Fin 3584) :
    X (ix3 bt row col) = ((proj X bt row col : ℝ) : EReal) := by
  unfold proj
  rw [dif_pos ⟨bt.isLt, row.isLt, col.isLt⟩]
  exact hX _

theorem lrow_eq {L : S4x64.Idx → EReal} (hL : ∀ i, L i = (((L i).toReal : ℝ) : EReal)) (a : Fin 4) (k : Fin 64) :
    L (ix2 a k) = ((lrow L a k : ℝ) : EReal) := by
  unfold lrow
  rw [dif_pos ⟨a.isLt, k.isLt⟩]
  exact hL _

/-- The score of position `R` against position `pos`, under map `p` of head `h`. -/
def mapScore (X : S8x4096x3584.Idx → EReal) (bt h p R pos : ℕ) : ℝ :=
  (∑ d ∈ Finset.range 64, proj X bt R (128 * h + (64 * p + d)) * proj X bt pos (512 + 128 * h + (64 * p + d))) * (1 / 8)
    - slope h * |(R : ℝ) - (pos : ℝ)|

/-- The row of position `R` of head `h` before normalisation. -/
def attnRow (X : S8x4096x3584.Idx → EReal) (L : S4x64.Idx → EReal) (bt h R c : ℕ) : ℝ :=
  headRow (mapScore X bt h 0 R) (mapScore X bt h 1 R) (fun pos l => proj X bt pos (1024 + 128 * h + l)) (lamR (lrow L)) c

/-- Lane `c` of head `h` of the layer's result at position `R`. -/
def attnOut (X : S8x4096x3584.Idx → EReal) (L : S4x64.Idx → EReal) (G : S128.Idx → EReal) (bt h R : ℕ) (c : Fin 128) : EReal :=
  rowOut (fun k => ((attnRow X L bt h R k : ℝ) : EReal)) (G (ix1 c)) c

/-- A score in powers of two is the score over the logarithm of two. -/
theorem logit_score (X : S8x4096x3584.Idx → EReal) (bt h b : ℕ) (p : Fin 2) (row pos : ℕ) :
    logit (fun r l => proj X bt (b + r) (128 * h + l)) (fun r l => proj X bt r (512 + 128 * h + l)) (slope h * (Real.log 2)⁻¹) b p row pos * Real.log 2
      = mapScore X bt h p (b + row) pos := by
  have h2 : Real.log 2 ≠ 0 := (Real.log_pos (by norm_num)).ne'
  unfold logit mapScore dot qscale
  field_simp

end Cert.Attn

end
-- ==== Proof.Attn.Array.lean ====
/- The array the kernel leaves. -/
module

public import proofs.«01_k».proof.Proof.Attn.Blocks
public import proofs.«01_k».proof.Proof.Attn.Layer
public import Idealize.ShloMosaic.Lib.Pipeline.ValueKit
public import proofs.«01_k».proof.Proof.Gen.Kernel4Ideal.Value
import all proofs.«01_k».proof.Proof.Gen.Kernel4Ideal.Value

@[expose] public section

set_option maxRecDepth 16384

noncomputable section

namespace Cert.Attn

open Idealize.ShloMosaic Idealize.ShloMosaic.TcCoe Idealize.SL.Sem
open Cert.Kernel4Ideal Cert.Kernel4Ideal.Gen

variable (m : (ℓ : Loc nD τ sig) → Buf (Elt Ideal) ℓ) (c : Dev nD)
  (hX : ∀ i, m ((c : Thread nD τ).loc main_arg0) i = (((m ((c : Thread nD τ).loc main_arg0) i).toReal : ℝ) : EReal))
  (hL : ∀ i, m ((c : Thread nD τ).loc main_arg1) i = (((m ((c : Thread nD τ).loc main_arg1) i).toReal : ℝ) : EReal))

include hX in
theorem query_at (t : Fin cfg0.N) (row : Fin 1024) (l : Fin 128) :
    iblk m c 2 t (ix3 0 row l)
      = ((proj (m ((c : Thread nD τ).loc main_arg0)) (t.val / 16) (1024 * (t.val % 4) + row) (128 * (t.val / 4 % 4) + l) : ℝ) : EReal) := by
  rw [blk_query, proj_eq hX]

include hX in
theorem key_at (t : Fin cfg0.N) (pos : Fin 4096) (l : Fin 128) :
    iblk m c 3 t (ix3 0 pos l)
      = ((proj (m ((c : Thread nD τ).loc main_arg0)) (t.val / 16) pos (512 + 128 * (t.val / 4 % 4) + l) : ℝ) : EReal) := by
  rw [blk_key, proj_eq hX]

include hX in
theorem value_at (t : Fin cfg0.N) (pos : Fin 4096) (l : Fin 128) :
    iblk m c 4 t (ix3 0 pos l)
      = ((proj (m ((c : Thread nD τ).loc main_arg0)) (t.val / 16) pos (1024 + 128 * (t.val / 4 % 4) + l) : ℝ) : EReal) := by
  rw [blk_value, proj_eq hX]

include hL in
theorem lambda_at (t : Fin cfg0.N) (a : Fin 4) (k : Fin 64) :
    iblk m c 0 t (ix2 a k) = ((lrow (m ((c : Thread nD τ).loc main_arg1)) a k : ℝ) : EReal) := by
  rw [blk_lambda, lrow_eq hL]

include hX in
/-- What the arrays carried from a grid point to the next hold: the keys and values of its sequence and head, and its
    head's corrections. They are written at the first of the head's four points and kept at the others. -/
theorem carried (n : ℕ) : ∀ hn : n < cfg0.N,
    KeysHold (fun r l => proj (m ((c : Thread nD τ).loc main_arg0)) (n / 16) r (512 + 128 * (n / 4 % 4) + l)) (slope (n / 4 % 4) * (Real.log 2)⁻¹)
        (outsAt0 m c n hn).2.1
      ∧ ValsHold (vcols (fun r l => proj (m ((c : Thread nD τ).loc main_arg0)) (n / 16) r (1024 + 128 * (n / 4 % 4) + l))) (outsAt0 m c n hn).2.2.1
      ∧ FixHolds (slope (n / 4 % 4) * (Real.log 2)⁻¹) (outsAt0 m c n hn).2.2.2 := by
  have first : ∀ (n : ℕ) (hn : n < cfg0.N), n % 4 = 0 →
    KeysHold (fun r l => proj (m ((c : Thread nD τ).loc main_arg0)) (n / 16) r (512 + 128 * (n / 4 % 4) + l)) (slope (n / 4 % 4) * (Real.log 2)⁻¹)
        (outsAt0 m c n hn).2.1
      ∧ ValsHold (vcols (fun r l => proj (m ((c : Thread nD τ).loc main_arg0)) (n / 16) r (1024 + 128 * (n / 4 % 4) + l))) (outsAt0 m c n hn).2.2.1
      ∧ FixHolds (slope (n / 4 % 4) * (Real.log 2)⁻¹) (outsAt0 m c n hn).2.2.2 := by
    intro n hn h0
    have i1 : (grid0.coords ⟨n, hn⟩ 1).val = n / 4 % 4 := (coords_at ⟨n, hn⟩).2.1
    have e := outsAt0_A m c ⟨n, hn⟩ h0
    dsimp only at e
    rw [e]
    dsimp only
    rw [← i1]
    obtain ⟨l0, l1, l3⟩ := leftA c (grid0.coords ⟨n, hn⟩) _ (hs0_0 ⟨n, hn⟩) _ (hs0_1 ⟨n, hn⟩) _ (hs0_2 ⟨n, hn⟩) _ (hs0_3 ⟨n, hn⟩)
      _ (hs0_4 ⟨n, hn⟩) _ (hs0_5 ⟨n, hn⟩) scM0_0 (Memref.isWhole_whole _) scM0_1 (Memref.isWhole_whole _) scM0_2 (Memref.isWhole_whole _)
      scM0_3 (Memref.isWhole_whole _) scM0_4 (Memref.isWhole_whole _) scM0_5 (Memref.isWhole_whole _) ((hcond0_0 ⟨n, hn⟩).mpr h0)
      (iblk m c 0 ⟨n, hn⟩) (iblk m c 1 ⟨n, hn⟩) (iblk m c 2 ⟨n, hn⟩) (iblk m c 3 ⟨n, hn⟩) (iblk m c 4 ⟨n, hn⟩)
      (kk := (fun r l => proj (m ((c : Thread nD τ).loc main_arg0)) (n / 16) r (512 + 128 * (n / 4 % 4) + l)))
      (vv := (fun r l => proj (m ((c : Thread nD τ).loc main_arg0)) (n / 16) r (1024 + 128 * (n / 4 % 4) + l)))
      (key_at m c hX ⟨n, hn⟩) (value_at m c hX ⟨n, hn⟩)
    exact ⟨by rw [i1] at l0 ⊢; exact l0, by rw [i1]; exact l1, l3⟩
  induction n with
  | zero => exact fun hn => first 0 hn rfl
  | succ n ih =>
    intro hn
    by_cases h0 : (n + 1) % 4 = 0
    · exact first (n + 1) hn h0
    · obtain ⟨l0, l1, l3⟩ := ih (by omega)
      have e8 : (n + 1) / 16 = n / 16 := by omega
      have e2 : (n + 1) / 4 % 4 = n / 4 % 4 := by omega
      have e := outsAt0_B m c ⟨n + 1, hn⟩ h0
      dsimp only at e
      rw [e, e8, e2]
      exact ⟨l0, l1, l3⟩

include hX hL in
/-- What a grid point writes. -/
theorem point (t : Fin cfg0.N) (row : Fin 1024) (l : Fin 128) :
    (outsAt0 m c t.val t.isLt).1 (ix3 0 row l)
      = attnOut (m ((c : Thread nD τ).loc main_arg0)) (m ((c : Thread nD τ).loc main_arg1)) (m ((c : Thread nD τ).loc main_arg2))
          (t.val / 16) (t.val / 4 % 4) (1024 * (t.val % 4) + row) l := by
  obtain ⟨i0, i1, i2⟩ := coords_at t
  have key : ∀ (q kk vv lv : ℕ → ℕ → ℝ),
      q = (fun r l => proj (m ((c : Thread nD τ).loc main_arg0)) (t.val / 16) (1024 * (t.val % 4) + r) (128 * (t.val / 4 % 4) + l)) →
      kk = (fun r l => proj (m ((c : Thread nD τ).loc main_arg0)) (t.val / 16) r (512 + 128 * (t.val / 4 % 4) + l)) →
      vv = (fun r l => proj (m ((c : Thread nD τ).loc main_arg0)) (t.val / 16) r (1024 + 128 * (t.val / 4 % 4) + l)) →
      lv = lrow (m ((c : Thread nD τ).loc main_arg1)) →
      rowOut (fun k => ((headRow
          (fun pos => logit q kk (slope (grid0.coords t 1).val * (Real.log 2)⁻¹) (1024 * (grid0.coords t 2).val) 0 row pos * Real.log 2)
          (fun pos => logit q kk (slope (grid0.coords t 1).val * (Real.log 2)⁻¹) (1024 * (grid0.coords t 2).val) 1 row pos * Real.log 2)
          vv (lamR lv) k : ℝ) : EReal)) (iblk m c 1 t (ix2 0 l)) l
        = attnOut (m ((c : Thread nD τ).loc main_arg0)) (m ((c : Thread nD τ).loc main_arg1)) (m ((c : Thread nD τ).loc main_arg2))
          (t.val / 16) (t.val / 4 % 4) (1024 * (t.val % 4) + row) l := by
    intro q kk vv lv hq hk hv hl
    subst hq hk hv hl
    rw [blk_weight, i1, i2]
    simp only [logit_score]
    rfl
  by_cases h0 : t.val % 4 = 0
  · rw [outsAt0_A m c t h0]
    dsimp only
    rw [pointA _ _ _ _ _ _ _ _ _ _ _ _ _ _ _ _ _ _ _ _ _ _ _ _ _ _ ((hcond0_0 t).mpr h0) (iblk m c 0 t) (iblk m c 1 t) (iblk m c 2 t) (iblk m c 3 t) (iblk m c 4 t)
      (q := (fun r l => proj (m ((c : Thread nD τ).loc main_arg0)) (t.val / 16) (1024 * (t.val % 4) + r) (128 * (t.val / 4 % 4) + l)))
      (kk := (fun r l => proj (m ((c : Thread nD τ).loc main_arg0)) (t.val / 16) r (512 + 128 * (t.val / 4 % 4) + l)))
      (vv := (fun r l => proj (m ((c : Thread nD τ).loc main_arg0)) (t.val / 16) r (1024 + 128 * (t.val / 4 % 4) + l)))
      (lambda_at m c hL t) (query_at m c hX t) (key_at m c hX t) (value_at m c hX t) row l]
    exact key _ _ _ _ rfl rfl rfl rfl
  · obtain ⟨l0, l1, l3⟩ := carried m c hX (t.val - 1) (Nat.lt_of_le_of_lt (Nat.sub_le _ _) t.isLt)
    have e8 : (t.val - 1) / 16 = t.val / 16 := by omega
    have e2 : (t.val - 1) / 4 % 4 = t.val / 4 % 4 := by omega
    rw [e8, e2, ← i1] at l0
    rw [e8, e2] at l1
    rw [e2, ← i1] at l3
    rw [i1] at l0
    rw [outsAt0_B m c t h0]
    dsimp only
    rw [pointB _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t)
      _ _ _
      (q := (fun r l => proj (m ((c : Thread nD τ).loc main_arg0)) (t.val / 16) (1024 * (t.val % 4) + r) (128 * (t.val / 4 % 4) + l)))
      (lambda_at m c hL t) (query_at m c hX t) (by rw [i1]; exact l0) l1 l3 row l]
    exact key _ _ _ _ rfl rfl rfl rfl

include hX hL in
/-- The array the kernel leaves. -/
theorem array_at : (dats m 0 c).arrAt 5 cfg0.N
    = fun j => attnOut (m ((c : Thread nD τ).loc main_arg0)) (m ((c : Thread nD τ).loc main_arg1)) (m ((c : Thread nD τ).loc main_arg2))
        (j 0).val ((j 2).val / 128) (j 1).val ⟨(j 2).val % 128, Nat.mod_lt _ (by norm_num)⟩ := by
  refine (dats m 0 c).arrAt_eq_of_covers 5 _ (by decide +kernel) fun t hf y => ?_
  blk_simp
  rw [after0_5]
  idx_vars y
  obtain rfl : y0 = 0 := Subsingleton.elim _ _
  obtain ⟨-, -, -, -, -, -, -, -, -, -, -, -, -, e0, e1, e2⟩ := index_at t
  have q : (win0_5.index t 2 * 128 + (y2 : ℕ)) / 128 = t.val / 4 % 4 := by omega
  have r : (⟨(win0_5.index t 2 * 128 + (y2 : ℕ)) % 128, Nat.mod_lt _ (by norm_num)⟩ : Fin 128) = y2 := Fin.ext (by dsimp only; omega)
  have s : win0_5.index t 1 * 1024 + (y1 : ℕ) = 1024 * (t.val % 4) + y1 := by omega
  refine (point m c hX hL t y1 y2).trans ?_
  rw [e0, q, s]
  exact congrArg _ r.symm

end Cert.Attn

end
-- ==== Proof.Attn.RefTerms.lean ====
/- The steps of the plain layer, in order. -/
module

public import proofs.«01_k».proof.Proof.Attn.Layer
public import Idealize.ShloMosaic.Lib.Pipeline.ValueKit
public import proofs.«01_k».proof.Proof.Gen.Reference4Ideal.Run

@[expose] public section

set_option maxRecDepth 16384

noncomputable section

namespace Cert.Attn

open Idealize.ShloMosaic Idealize.ShloMosaic.TcCoe Idealize.SL.Sem
open Idealize.ShloMosaic.StableHlo Cert.Reference4Ideal Cert.Reference4Ideal.Gen

/-- Queries, by head and map. -/
def stepQueries (X : FVec Ideal S8x4096x3584 .f32) : FVec Ideal S8x4x2x4096x64 .f32 :=
  transpose S8x4x2x4096x64 [0, 2, 3, 1, 4] (shapeCast _ (extractStridedSlice S8x4096x512 ![0, 0, 0] X slices_S8x4096x3584_S8x4096x512_0_0_0) shapeCasts_S8x4096x512_S8x4096x4x2x64) transposes_S8x4096x4x2x64_S8x4x2x4096x64_0_2_3_1_4

/-- Keys, by head and map. -/
def stepKeys (X : FVec Ideal S8x4096x3584 .f32) : FVec Ideal S8x4x2x4096x64 .f32 :=
  transpose S8x4x2x4096x64 [0, 2, 3, 1, 4] (shapeCast _ (extractStridedSlice S8x4096x512 ![0, 0, 512] X slices_S8x4096x3584_S8x4096x512_0_0_512) shapeCasts_S8x4096x512_S8x4096x4x2x64) transposes_S8x4096x4x2x64_S8x4x2x4096x64_0_2_3_1_4

/-- Slopes of the heads. -/
def stepSlopes : FVec Ideal S4 .f32 :=
  Host.powf (F := Ideal) (broadcastInDim S4 ![] bcast_S_S4 (constant (F := Ideal) S_ .f32 0x40000000#32)) (Host.divf (F := Ideal) (mulf (F := Ideal) (broadcastInDim S4 ![] bcast_S_S4 (constant (F := Ideal) S_ .f32 0xC1000000#32)) (addf (F := Ideal) (broadcastInDim S4 ![] bcast_S_S4 (constant (F := Ideal) S_ .f32 0x3F800000#32)) (sitofp (F := Ideal) .f32 (iotaInDim S4 32 0)))) (broadcastInDim S4 ![] bcast_S_S4 (constant (F := Ideal) S_ .f32 0x40800000#32)))

/-- Distances of positions. -/
def stepDist : FVec Ideal S4096x4096 .f32 :=
  sitofp (F := Ideal) .f32 (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))

/-- Scores, from queries, keys, slopes and distances. -/
def stepScore (Q : FVec Ideal S8x4x2x4096x64 .f32) (K : FVec Ideal S8x4x2x4096x64 .f32) (Sl : FVec Ideal S4 .f32) (D : FVec Ideal S4096x4096 .f32) : FVec Ideal S8x4x2x4096x4096 .f32 :=
  addf (F := Ideal) (mulf (F := Ideal) (Host.dotGeneral (F := Ideal) dot_S8x4x2x4096x64_S8x4x2x4096x64_S8x4x2x4096x4096_4_4_3_3_012_012 none Q K) (broadcastInDim S8x4x2x4096x4096 ![] bcast_S_S8x4x2x4096x4096 (constant (F := Ideal) S_ .f32 0x3E000000#32))) (broadcastInDim S8x4x2x4096x4096 ![0, 1, 2, 3, 4] bcast_S1x4x1x4096x4096_S8x4x2x4096x4096_0_1_2_3_4 (broadcastInDim S1x4x1x4096x4096 ![1, 3, 4] bcast_S4x4096x4096_S1x4x1x4096x4096_1_3_4 (mulf (F := Ideal) (broadcastInDim S4x4096x4096 ![0, 1, 2] bcast_S4x1x1_S4x4096x4096_0_1_2 (Host.negf (F := Ideal) (broadcastInDim S4x1x1 ![0] bcast_S4_S4x1x1_0 Sl))) (broadcastInDim S4x4096x4096 ![0, 1, 2] bcast_S1x4096x4096_S4x4096x4096_0_1_2 (broadcastInDim S1x4096x4096 ![1, 2] bcast_S4096x4096_S1x4096x4096_1_2 D)))))

/-- Greatest score of each row. -/
def stepMax (S : FVec Ideal S8x4x2x4096x4096 .f32) : FVec Ideal S8x4x2x4096 .f32 :=
  Host.reduce (FloatOps.maximumf (F := Ideal) (φ := .f32)) S (constant (F := Ideal) S_ .f32 0xFF800000#32) reducesTo_S8x4x2x4096x4096_S8x4x2x4096_d4 h_S_

/-- Exponentials of the scores less the greatest. -/
def stepExp (S : FVec Ideal S8x4x2x4096x4096 .f32) (M : FVec Ideal S8x4x2x4096 .f32) : FVec Ideal S8x4x2x4096x4096 .f32 :=
  Host.exp (F := Ideal) (subf (F := Ideal) S (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (maximumf (F := Ideal) (broadcastInDim S8x4x2x4096 ![] bcast_S_S8x4x2x4096 (constant (F := Ideal) S_ .f32 0xFF800000#32)) M))))

/-- The two maps of each head. -/
def stepProb (E : FVec Ideal S8x4x2x4096x4096 .f32) : FVec Ideal S8x4x2x4096x4096 .f32 :=
  Host.divf (F := Ideal) E (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (Host.reduceAdd (F := Ideal) E (constant (F := Ideal) S_ .f32 0x00000000#32) reducesTo_S8x4x2x4096x4096_S8x4x2x4096_d4 h_S_)))

/-- Values, by head. -/
def stepValues (X : FVec Ideal S8x4096x3584 .f32) : FVec Ideal S8x4x4096x128 .f32 :=
  transpose S8x4x4096x128 [0, 2, 1, 3] (shapeCast _ (extractStridedSlice S8x4096x512 ![0, 0, 1024] X slices_S8x4096x3584_S8x4096x512_0_0_1024) shapeCasts_S8x4096x512_S8x4096x4x128) transposes_S8x4096x4x128_S8x4x4096x128_0_2_1_3

/-- Factor on the second map. -/
def stepLam (L : FVec Ideal S4x64 .f32) : FVec Ideal S_ .f32 :=
  addf (F := Ideal) (subf (F := Ideal) (Host.exp (F := Ideal) (Host.reduceAdd (F := Ideal) (mulf (F := Ideal) (shapeCast _ (extractStridedSlice S1x64 ![0, 0] L slices_S4x64_S1x64_0_0) shapeCasts_S1x64_S64) (shapeCast _ (extractStridedSlice S1x64 ![1, 0] L slices_S4x64_S1x64_1_0) shapeCasts_S1x64_S64)) (constant (F := Ideal) S_ .f32 0x00000000#32) reducesTo_S64_S_d0 h_S_)) (Host.exp (F := Ideal) (Host.reduceAdd (F := Ideal) (mulf (F := Ideal) (shapeCast _ (extractStridedSlice S1x64 ![2, 0] L slices_S4x64_S1x64_2_0) shapeCasts_S1x64_S64) (shapeCast _ (extractStridedSlice S1x64 ![3, 0] L slices_S4x64_S1x64_3_0) shapeCasts_S1x64_S64)) (constant (F := Ideal) S_ .f32 0x00000000#32) reducesTo_S64_S_d0 h_S_))) (constant (F := Ideal) S_ .f32 0x3E4CCCCD#32)

/-- Difference of the maps. -/
def stepWeights (P : FVec Ideal S8x4x2x4096x4096 .f32) (lam : FVec Ideal S_ .f32) : FVec Ideal S8x4x4096x4096 .f32 :=
  subf (F := Ideal) (shapeCast _ (extractStridedSlice S8x4x1x4096x4096 ![0, 0, 0, 0, 0] P slices_S8x4x2x4096x4096_S8x4x1x4096x4096_0_0_0_0_0) shapeCasts_S8x4x1x4096x4096_S8x4x4096x4096) (mulf (F := Ideal) (broadcastInDim S8x4x4096x4096 ![] bcast_S_S8x4x4096x4096 lam) (shapeCast _ (extractStridedSlice S8x4x1x4096x4096 ![0, 0, 1, 0, 0] P slices_S8x4x2x4096x4096_S8x4x1x4096x4096_0_0_1_0_0) shapeCasts_S8x4x1x4096x4096_S8x4x4096x4096))

/-- Rows before normalisation. -/
def stepRow (V : FVec Ideal S8x4x4096x128 .f32) (W : FVec Ideal S8x4x4096x4096 .f32) : FVec Ideal S8x4096x4x128 .f32 :=
  transpose S8x4096x4x128 [0, 2, 1, 3] (Host.dotGeneral (F := Ideal) dot_S8x4x4096x4096_S8x4x4096x128_S8x4x4096x128_3_2_2_3_01_01 none W V) transposes_S8x4x4096x128_S8x4096x4x128_0_2_1_3

/-- Normalised rows. -/
def stepOut (O : FVec Ideal S8x4096x4x128 .f32) (G : FVec Ideal S128 .f32) : FVec Ideal S8x4096x512 .f32 :=
  shapeCast _ (mulf (F := Ideal) (mulf (F := Ideal) (mulf (F := Ideal) O (broadcastInDim S8x4096x4x128 ![0, 1, 2, 3] bcast_S8x4096x4x1_S8x4096x4x128_0_1_2_3 (Host.rsqrt (F := Ideal) (addf (F := Ideal) (Host.divf (F := Ideal) (broadcastInDim S8x4096x4x1 ![0, 1, 2] bcast_S8x4096x4_S8x4096x4x1_0_1_2 (Host.reduceAdd (F := Ideal) (mulf (F := Ideal) O O) (constant (F := Ideal) S_ .f32 0x00000000#32) reducesTo_S8x4096x4x128_S8x4096x4_d3 h_S_)) (broadcastInDim S8x4096x4x1 ![] bcast_S_S8x4096x4x1 (constant (F := Ideal) S_ .f32 0x43000000#32))) (broadcastInDim S8x4096x4x1 ![] bcast_S_S8x4096x4x1 (constant (F := Ideal) S_ .f32 0x3727C5AC#32)))))) (broadcastInDim S8x4096x4x128 ![0, 1, 2, 3] bcast_S1x1x1x128_S8x4096x4x128_0_1_2_3 (broadcastInDim S1x1x1x128 ![3] bcast_S128_S1x1x1x128_3 G))) (broadcastInDim S8x4096x4x128 ![] bcast_S_S8x4096x4x128 (constant (F := Ideal) S_ .f32 0x3F4CCCCD#32))) shapeCasts_S8x4096x4x128_S8x4096x512

/-- Queries, by head and map, of the arguments. -/
def refQueries (X : FVec Ideal S8x4096x3584 .f32) : FVec Ideal S8x4x2x4096x64 .f32 := stepQueries X

/-- Keys, by head and map, of the arguments. -/
def refKeys (X : FVec Ideal S8x4096x3584 .f32) : FVec Ideal S8x4x2x4096x64 .f32 := stepKeys X

/-- Slopes of the heads, of the arguments. -/
def refSlopes : FVec Ideal S4 .f32 := stepSlopes

/-- Distances of positions, of the arguments. -/
def refDist : FVec Ideal S4096x4096 .f32 := stepDist

/-- Scores, from queries, keys, slopes and distances, of the arguments. -/
def refScore (X : FVec Ideal S8x4096x3584 .f32) : FVec Ideal S8x4x2x4096x4096 .f32 := stepScore (refQueries X) (refKeys X) refSlopes refDist

/-- Greatest score of each row, of the arguments. -/
def refMax (X : FVec Ideal S8x4096x3584 .f32) : FVec Ideal S8x4x2x4096 .f32 := stepMax (refScore X)

/-- Exponentials of the scores less the greatest, of the arguments. -/
def refExp (X : FVec Ideal S8x4096x3584 .f32) : FVec Ideal S8x4x2x4096x4096 .f32 := stepExp (refScore X) (refMax X)

/-- The two maps of each head, of the arguments. -/
def refProb (X : FVec Ideal S8x4096x3584 .f32) : FVec Ideal S8x4x2x4096x4096 .f32 := stepProb (refExp X)

/-- Values, by head, of the arguments. -/
def refValues (X : FVec Ideal S8x4096x3584 .f32) : FVec Ideal S8x4x4096x128 .f32 := stepValues X

/-- Factor on the second map, of the arguments. -/
def refLam (L : FVec Ideal S4x64 .f32) : FVec Ideal S_ .f32 := stepLam L

/-- Difference of the maps, of the arguments. -/
def refWeights (X : FVec Ideal S8x4096x3584 .f32) (L : FVec Ideal S4x64 .f32) : FVec Ideal S8x4x4096x4096 .f32 := stepWeights (refProb X) (refLam L)

/-- Rows before normalisation, of the arguments. -/
def refRow (X : FVec Ideal S8x4096x3584 .f32) (L : FVec Ideal S4x64 .f32) : FVec Ideal S8x4096x4x128 .f32 := stepRow (refValues X) (refWeights X L)

/-- Normalised rows, of the arguments. -/
def refOut (X : FVec Ideal S8x4096x3584 .f32) (L : FVec Ideal S4x64 .f32) (G : FVec Ideal S128 .f32) : FVec Ideal S8x4096x512 .f32 := stepOut (refRow X L) G

theorem ref_terms (m : (ℓ : Loc nD τ sig) → Buf (Elt Ideal) ℓ) (c : Dev nD) :
    Value.res_main_v89 (F := Ideal) m c
      = refOut (m ((c.tc : Thread nD τ).loc main_arg0)) (m ((c.tc : Thread nD τ).loc main_arg1)) (m ((c.tc : Thread nD τ).loc main_arg2)) := by
  unfold Value.res_main_v89
  unfold refOut refRow refWeights refLam refValues refProb refExp refMax refScore refDist refSlopes refKeys refQueries stepOut stepRow stepWeights stepLam stepValues stepProb stepExp stepMax stepScore stepDist stepSlopes stepKeys stepQueries
  rfl

end Cert.Attn

end
-- ==== Proof.Attn.RefRead.lean ====
/- The steps of the plain layer, read at an index. -/
module

public import proofs.«01_k».proof.Proof.Attn.RefTerms
public import Idealize.ShloMosaic.Lib.Pipeline.ValueKit
public import proofs.«01_k».proof.Proof.Gen.Reference4Ideal.Run

@[expose] public section

set_option maxRecDepth 16384

noncomputable section

namespace Cert.Attn

open Idealize.ShloMosaic Idealize.ShloMosaic.TcCoe Idealize.SL.Sem
open Idealize.ShloMosaic.StableHlo Cert.Reference4Ideal Cert.Reference4Ideal.Gen

theorem stepQueries_at (X : FVec Ideal S8x4096x3584 .f32) (b : Fin 8) (h : Fin 4) (p : Fin 2) (r : Fin 4096) (d : Fin 64) :
    stepQueries X (ix5 b h p r d) = X (ix3 b r ⟨128 * h + (64 * p + d), by omega⟩) := by
  pointwise [stepQueries]
  blk_ext []

theorem stepKeys_at (X : FVec Ideal S8x4096x3584 .f32) (b : Fin 8) (h : Fin 4) (p : Fin 2) (r : Fin 4096) (d : Fin 64) :
    stepKeys X (ix5 b h p r d) = X (ix3 b r ⟨512 + 128 * h + (64 * p + d), by omega⟩) := by
  pointwise [stepKeys]
  blk_ext []

theorem stepValues_at (X : FVec Ideal S8x4096x3584 .f32) (b : Fin 8) (h : Fin 4) (r : Fin 4096) (l : Fin 128) :
    stepValues X (ix4 b h r l) = X (ix3 b r ⟨1024 + 128 * h + l, by omega⟩) := by
  pointwise [stepValues]
  blk_ext []

theorem stepDist_at (r pos : Fin 4096) :
    stepDist (ix2 r pos) = FloatOps.sitofp (F := Ideal) FTy.f32 (IntOp.absi (IntOp.subi (BitVec.ofNat 32 r) (BitVec.ofNat 32 pos))) := by
  pointwise [stepDist]

theorem stepSlopes_at (h : Fin 4) :
    stepSlopes (ix1 h) = Ideal.pow (Ideal.ofBits FTy.f32 1073741824#32)
      (Ideal.div (Ideal.ofBits FTy.f32 3238002688#32 * (1 + FloatOps.sitofp (F := Ideal) FTy.f32 (BitVec.ofNat 32 h))) (Ideal.ofBits FTy.f32 1082130432#32)) := by
  pointwise [stepSlopes]

theorem stepLam_at (L : FVec Ideal S4x64 .f32) : stepLam L (ix0) = lamE L := by
  pointwise [stepLam, lamE]

theorem stepScore_at (Q K : FVec Ideal S8x4x2x4096x64 .f32) (Sl : FVec Ideal S4 .f32) (D : FVec Ideal S4096x4096 .f32)
    (b : Fin 8) (h : Fin 4) (p : Fin 2) (r pos : Fin 4096) :
    stepScore Q K Sl D (ix5 b h p r pos)
      = (∑ x, Q (ix5 b h p r x) * K (ix5 b h p pos x)) * Ideal.ofBits FTy.f32 1040187392#32 + -Sl (ix1 h) * D (ix2 r pos) := by
  pointwise [stepScore]

end Cert.Attn

end
-- ==== Proof.Attn.RefRead2.lean ====
/- The maps and rows of the plain layer, read at an index. -/
module

public import proofs.«01_k».proof.Proof.Attn.RefTerms
public import Idealize.ShloMosaic.Lib.Pipeline.ValueKit
public import proofs.«01_k».proof.Proof.Gen.Reference4Ideal.Run

@[expose] public section

set_option maxRecDepth 16384

noncomputable section

namespace Cert.Attn

open Idealize.ShloMosaic Idealize.ShloMosaic.TcCoe Idealize.SL.Sem
open Idealize.ShloMosaic.StableHlo Cert.Reference4Ideal Cert.Reference4Ideal.Gen

theorem stepMax_at (S : FVec Ideal S8x4x2x4096x4096 .f32) (b : Fin 8) (h : Fin 4) (p : Fin 2) (r : Fin 4096) :
    stepMax S (ix4 b h p r) = Finset.fold max (Ideal.ofBits FTy.f32 4286578688#32) (fun x => S (ix5 b h p r x)) Finset.univ := by
  pointwise [stepMax]

theorem stepExp_at (S : FVec Ideal S8x4x2x4096x4096 .f32) (M : FVec Ideal S8x4x2x4096 .f32) (b : Fin 8) (h : Fin 4) (p : Fin 2) (r pos : Fin 4096) :
    stepExp S M (ix5 b h p r pos) = Ideal.exp (S (ix5 b h p r pos) - max (Ideal.ofBits FTy.f32 4286578688#32) (M (ix4 b h p r))) := by
  pointwise [stepExp]

theorem stepProb_at (E : FVec Ideal S8x4x2x4096x4096 .f32) (b : Fin 8) (h : Fin 4) (p : Fin 2) (r pos : Fin 4096) :
    stepProb E (ix5 b h p r pos) = Ideal.div (E (ix5 b h p r pos)) (∑ x, E (ix5 b h p r x)) := by
  pointwise [stepProb]

theorem stepWeights_at (P : FVec Ideal S8x4x2x4096x4096 .f32) (lam : FVec Ideal S_ .f32) (b : Fin 8) (h : Fin 4) (r pos : Fin 4096) :
    stepWeights P lam (ix4 b h r pos) = P (ix5 b h 0 r pos) - lam ix0 * P (ix5 b h 1 r pos) := by
  pointwise [stepWeights]

theorem stepRow_at (V : FVec Ideal S8x4x4096x128 .f32) (W : FVec Ideal S8x4x4096x4096 .f32) (b : Fin 8) (h : Fin 4) (r : Fin 4096) (l : Fin 128) :
    stepRow V W (ix4 b r h l) = ∑ x, W (ix4 b h r x) * V (ix4 b h x l) := by
  pointwise [stepRow]

end Cert.Attn

end
-- ==== Proof.Attn.RefRead3.lean ====
/- The result of the plain layer, read at an index. -/
module

public import proofs.«01_k».proof.Proof.Attn.RefTerms
public import Idealize.ShloMosaic.Lib.Pipeline.ValueKit
public import proofs.«01_k».proof.Proof.Gen.Reference4Ideal.Run

@[expose] public section

set_option maxRecDepth 16384

noncomputable section

namespace Cert.Attn

open Idealize.ShloMosaic Idealize.ShloMosaic.TcCoe Idealize.SL.Sem
open Idealize.ShloMosaic.StableHlo Cert.Reference4Ideal Cert.Reference4Ideal.Gen

theorem stepOut_at (O : FVec Ideal S8x4096x4x128 .f32) (G : FVec Ideal S128 .f32) (b : Fin 8) (r : Fin 4096) (l : Fin 512) :
    stepOut O G (ix3 b r l)
      = rowOut (fun k => O (ix4 b r ⟨l / 128, by omega⟩ k)) (G (ix1 ⟨l % 128, by omega⟩)) ⟨l % 128, by omega⟩ := by
  pointwise [stepOut, rowOut]

end Cert.Attn

end
-- ==== Proof.Attn.RefValue.lean ====
/- What the plain layer computes, as real arithmetic. -/
module

public import proofs.«01_k».proof.Proof.Attn.RefRead
public import proofs.«01_k».proof.Proof.Attn.RefRead2
public import proofs.«01_k».proof.Proof.Attn.RefRead3
public import Idealize.ShloMosaic.Lib.Pipeline.ValueKit
public import proofs.«01_k».proof.Proof.Gen.Reference4Ideal.Run

@[expose] public section

set_option maxRecDepth 16384

noncomputable section

namespace Cert.Attn

open Idealize.ShloMosaic Idealize.ShloMosaic.TcCoe Idealize.SL.Sem
open Idealize.ShloMosaic.StableHlo Cert.Reference4Ideal Cert.Reference4Ideal.Gen

theorem ofBits_neg_eight : Ideal.ofBits .f32 0xC1000000#32 = ((-8 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ref_dist (r pos : Fin 4096) : refDist (ix2 r pos) = ((|(r : ℝ) - (pos : ℝ)| : ℝ) : EReal) := by
  refine (stepDist_at r pos).trans ?_
  have e : (IntOp.subi (BitVec.ofNat 32 r) (BitVec.ofNat 32 pos)).toInt = (r : ℤ) - (pos : ℤ) := by
    unfold IntOp.subi
    rw [BitVec.toInt_sub, toInt_small _ (by omega), toInt_small _ (by omega)]
    exact Int.bmod_eq_of_le (by omega) (by omega)
  have ha : (IntOp.absi (IntOp.subi (BitVec.ofNat 32 r) (BitVec.ofNat 32 pos))).toInt = |(r : ℤ) - (pos : ℤ)| := by
    unfold IntOp.absi
    rw [BitVec.msb_eq_toInt, e]
    by_cases h : (r : ℤ) - (pos : ℤ) < 0
    · rw [if_pos (by simpa using h), BitVec.toInt_neg, e, abs_of_neg h]
      exact Int.bmod_eq_of_le (by omega) (by omega)
    · rw [if_neg (by simpa using h), e, abs_of_nonneg (by omega)]
  rw [sitofp_eq, ha]
  push_cast
  rfl

theorem ref_slopes (h : Fin 4) : refSlopes (ix1 h) = ((slope h : ℝ) : EReal) := by
  refine (stepSlopes_at h).trans ?_
  rw [ofBits_two, ofBits_neg_eight, ofBits_four, sitofp_small _ (by omega), ← EReal.coe_one, ← EReal.coe_add, ← EReal.coe_mul, div_real (by norm_num)]
  show ((Real.rpow 2 (-8 * (1 + ((h : ℕ) : ℝ)) / 4) : ℝ) : EReal) = _
  refine congrArg Real.toEReal ?_
  show (2 : ℝ) ^ (-8 * (1 + ((h : ℕ) : ℝ)) / 4) = _
  have e : (-8 * (1 + ((h : ℕ) : ℝ)) / 4) = ((-(2 * (1 + (h : ℕ) : ℕ) : ℤ) : ℤ) : ℝ) := by push_cast; ring
  rw [e, Real.rpow_intCast]
  unfold slope
  fin_cases h <;> norm_num

section
variable {X : FVec Ideal S8x4096x3584 .f32} (hX : ∀ i, X i = (((X i).toReal : ℝ) : EReal))
  {L : FVec Ideal S4x64 .f32} (hL : ∀ i, L i = (((L i).toReal : ℝ) : EReal))

include hX in
theorem ref_score (b : Fin 8) (h : Fin 4) (p : Fin 2) (r pos : Fin 4096) :
    refScore X (ix5 b h p r pos) = ((mapScore X b h p r pos : ℝ) : EReal) := by
  refine (stepScore_at _ _ _ _ b h p r pos).trans ?_
  have hq : ∀ d : Fin 64, refQueries X (ix5 b h p r d) = ((proj X b r (128 * h + (64 * p + d)) : ℝ) : EReal) := fun d =>
    (stepQueries_at X b h p r d).trans (proj_eq hX _ _ _)
  have hk : ∀ d : Fin 64, refKeys X (ix5 b h p pos d) = ((proj X b pos (512 + 128 * h + (64 * p + d)) : ℝ) : EReal) := fun d =>
    (stepKeys_at X b h p pos d).trans (proj_eq hX _ _ _)
  simp only [hq, hk]
  rw [ref_slopes, ref_dist, ofBits_eighth]
  simp only [← EReal.coe_mul, coe_sum, ← EReal.coe_neg, ← EReal.coe_add]
  rw [Fin.sum_univ_eq_sum_range (fun d => proj X b r (128 * h + (64 * p + d)) * proj X b pos (512 + 128 * h + (64 * p + d))) 64]
  refine congrArg Real.toEReal ?_
  unfold mapScore
  ring

include hX in
theorem ref_max (b : Fin 8) (h : Fin 4) (p : Fin 2) (r : Fin 4096) : ∃ μ : ℝ, refMax X (ix4 b h p r) = ((μ : ℝ) : EReal) := by
  have e := stepMax_at (refScore X) b h p r
  simp only [ref_score hX] at e
  rw [ofBits_neg_inf] at e
  have key : ∀ s : Finset (Fin 4096), s.Nonempty →
      ∃ μ : ℝ, Finset.fold max (⊥ : EReal) (fun x : Fin 4096 => ((mapScore X b h p r x : ℝ) : EReal)) s = ((μ : ℝ) : EReal) := by
    intro s hs
    induction hs using Finset.Nonempty.cons_induction with
    | singleton a => exact ⟨mapScore X b h p r a, by rw [Finset.fold_singleton]; exact max_eq_left bot_le⟩
    | cons a s ha hs ih =>
      obtain ⟨μ, hμ⟩ := ih
      exact ⟨max (mapScore X b h p r a) μ, by rw [Finset.fold_cons, hμ]; exact (EReal.coe_strictMono.monotone.map_max).symm⟩
  obtain ⟨μ, hμ⟩ := key Finset.univ ⟨0, Finset.mem_univ _⟩
  exact ⟨μ, e.trans hμ⟩

include hX in
theorem ref_prob (b : Fin 8) (h : Fin 4) (p : Fin 2) (r pos : Fin 4096) :
    refProb X (ix5 b h p r pos)
      = ((Real.exp (mapScore X b h p r pos) / ∑ x ∈ Finset.range 4096, Real.exp (mapScore X b h p r x) : ℝ) : EReal) := by
  obtain ⟨μ, hμ⟩ := ref_max hX b h p r
  have hE : ∀ x : Fin 4096, refExp X (ix5 b h p r x) = ((Real.exp (mapScore X b h p r x - μ) : ℝ) : EReal) := by
    intro x
    refine (stepExp_at _ _ b h p r x).trans ?_
    rw [ref_score hX, hμ, ofBits_neg_inf, max_eq_right bot_le, ← EReal.coe_sub]
    rfl
  refine (stepProb_at _ b h p r pos).trans ?_
  simp only [hE, coe_sum]
  rw [Fin.sum_univ_eq_sum_range (fun x => Real.exp (mapScore X b h p r x - μ)) 4096, div_real (sum_exp_pos _).ne']
  refine congrArg Real.toEReal ?_
  simp only [Real.exp_sub, ← Finset.sum_div]
  rw [div_div_div_cancel_right₀ (Real.exp_pos μ).ne']

include hL in
theorem ref_lam : refLam L ix0 = ((lamR (lrow L) : ℝ) : EReal) :=
  (stepLam_at L).trans (lamE_eq (fun a k => lrow_eq hL a k))

include hX hL in
theorem ref_row (b : Fin 8) (h : Fin 4) (r : Fin 4096) (l : Fin 128) :
    refRow X L (ix4 b r h l) = ((attnRow X L b h r l : ℝ) : EReal) := by
  refine (stepRow_at _ _ b h r l).trans ?_
  have hw : ∀ x : Fin 4096, refWeights X L (ix4 b h r x)
      = ((Real.exp (mapScore X b h 0 r x) / (∑ x ∈ Finset.range 4096, Real.exp (mapScore X b h 0 r x))
          - lamR (lrow L) * (Real.exp (mapScore X b h 1 r x) / ∑ x ∈ Finset.range 4096, Real.exp (mapScore X b h 1 r x)) : ℝ) : EReal) := by
    intro x
    refine (stepWeights_at _ _ b h r x).trans ?_
    rw [ref_prob hX, ref_prob hX, ref_lam hL, ← EReal.coe_mul, ← EReal.coe_sub]
    rfl
  have hv : ∀ x : Fin 4096, refValues X (ix4 b h x l) = ((proj X b x (1024 + 128 * h + l) : ℝ) : EReal) := fun x =>
    (stepValues_at X b h x l).trans (proj_eq hX _ _ _)
  simp only [hw, hv, ← EReal.coe_mul, coe_sum]
  refine congrArg Real.toEReal ?_
  rw [Fin.sum_univ_eq_sum_range (fun x => (Real.exp (mapScore X b h 0 r x) / (∑ x ∈ Finset.range 4096, Real.exp (mapScore X b h 0 r x))
          - lamR (lrow L) * (Real.exp (mapScore X b h 1 r x) / ∑ x ∈ Finset.range 4096, Real.exp (mapScore X b h 1 r x)))
          * proj X b x (1024 + 128 * h + l)) 4096]
  unfold attnRow headRow weigh
  rw [Finset.sum_div, Finset.sum_div, Finset.mul_sum, ← Finset.sum_sub_distrib]
  refine Finset.sum_congr rfl fun x _ => ?_
  ring

include hX hL in
/-- The plain layer's result. -/
theorem refOut_at (G : FVec Ideal S128 .f32) (b : Fin 8) (r : Fin 4096) (l : Fin 512) :
    refOut X L G (ix3 b r l) = attnOut X L G b (l / 128) r ⟨l % 128, by omega⟩ := by
  refine (stepOut_at _ _ b r l).trans ?_
  simp only [ref_row hX hL]
  rfl

end

end Cert.Attn

end
-- ==== Proof.Attn.Finite.lean ====
/- What the precondition says: the projections and the lambda rows are finite. -/
module

public import proofs.«01_k».proof.Proof.Attn.RefValue
public import proofs.«01_k».proof.Proof.Gen.Pre_finite_inputs4
public import Idealize.ShloMosaic.Lib.ReduceAll
public import Idealize.ShloMosaic.Lib.Pipeline.ValueKit
public import proofs.«01_k».proof.Proof.Gen.Reference4Ideal.Run

@[expose] public section

set_option maxRecDepth 16384

noncomputable section

namespace Cert.Attn

open Idealize.ShloMosaic Idealize.ShloMosaic.TcCoe Idealize.SL.Sem
open Cert.Pre_finite_inputs4 Cert.Pre_finite_inputs4.Gen

theorem real_of_abs_lt {x : EReal} (h : Ideal.cmp .olt (max x (-x)) (Ideal.ofBits .f32 0x7F800000#32) = 1#1) : x = ((x.toReal : ℝ) : EReal) := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => simp

instance : Subsingleton S_.Idx := ⟨fun a b => funext fun i => i.elim0⟩

theorem finite_of_pre {X : FVec Ideal S8x4096x3584 .f32} {L : FVec Ideal S4x64 .f32} {G : FVec Ideal S128 .f32}
    (h : Cert.Pre_finite_inputs4.fn (F := Ideal) X L G = fun _ => 1#1) :
    (∀ i, X i = (((X i).toReal : ℝ) : EReal)) ∧ (∀ i, L i = (((L i).toReal : ℝ) : EReal)) := by
  have h0 := congrFun h ix0
  have hand : ∀ a b : BitVec 1, IntOp.andi a b = 1#1 → a = 1#1 ∧ b = 1#1 := by decide
  obtain ⟨hx, hl⟩ := hand _ _ h0
  exact ⟨fun i => real_of_abs_lt (Host.reduce_andi_all _ _ _ _ _ hx i), fun i => real_of_abs_lt (Host.reduce_andi_all _ _ _ _ _ hl i)⟩

end Cert.Attn

end
-- ==== Proof.lean ====
/- The expert call, the two input projections, the attention and the merge compute the plain layer: frames and the equations of the results. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_routing_weights
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite_inputs4
public import proofs.«01_k».proof.Proof.Merge.Ref
public import proofs.«01_k».proof.Proof.Gen.Kernel5.Frame
public import proofs.«01_k».proof.Proof.Gen.Kernel5Ideal.Value
public import proofs.«01_k».proof.Proof.Gen.Reference5Ideal.Run
public import proofs.«01_k».proof.Proof.Experts.Weights
public import proofs.«01_k».proof.Proof.Proj.FirstRef
public import proofs.«01_k».proof.Proof.Proj.SecondRef
public import proofs.«01_k».proof.Proof.Attn.Array
public import proofs.«01_k».proof.Proof.Attn.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs and leaves its arguments as they were. -/
theorem frame_p : Cert.quiescent_Kernel := fun m ρ _ => Cert.Kernel.Gen.frame m ρ

/-- So does its idealised reading. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The idealised reading is the program's own text. -/
theorem preserves : Cert.preserves_Kernel_KernelIdeal := trivial

/-- Where the routing weights are finite and not negative, the two results are the plain layer's. -/
theorem equal : Cert.algebraic_KernelIdeal_ReferenceIdeal_pre_routing_weights := by
  intro m g m' g' hpre hagree
  have hw := fun c => Cert.Experts.weights_of_pre (hpre c)
  refine ⟨_, _, Cert.KernelIdeal.Value.run_blocks (F := Ideal) m g, ?_⟩
  refine (θ_run _ _ _).mono (fun _ h c => ⟨(h c).1.trans ?_, (h c).2.1.trans ?_, (h c).2.2⟩) (Cert.ReferenceIdeal.Value.run (F := Ideal) m' g')
  · obtain ⟨e0, e1, e2, e3, e4, e5, e6⟩ := hagree c
    rw [Cert.Experts.first_eq, e0, e1, e2, e3, e4, e5, e6, Cert.Experts.array_at m c]
    funext j
    idx_vars j
    exact (Cert.Experts.result_eq _ _ _ _ _ _ _ (hw c) _ _).symm
  · obtain ⟨e0, e1, e2, e3, e4, e5, e6⟩ := hagree c
    rw [Cert.Experts.second_eq, e0, e1, e2, e3, e4, e5, e6, Cert.Experts.array_at' m c]
    funext j
    idx_vars j
    exact (Cert.Experts.result_eq _ _ _ _ _ _ _ (hw c) _ _).symm

/-- The first projection's call runs and leaves its arguments as they were. -/
theorem frame_p2 : Cert.quiescent_Kernel2 := fun m ρ _ => Cert.Kernel2.Gen.frame m ρ

/-- So does its idealised reading. -/
theorem frame_pi2 : Cert.quiescent_Kernel2Ideal := fun m ρ _ => Cert.Kernel2Ideal.Gen.frame m ρ

/-- So does its reference. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The second projection's call runs and leaves its arguments as they were. -/
theorem frame_p3 : Cert.quiescent_Kernel3 := fun m ρ _ => Cert.Kernel3.Gen.frame m ρ

/-- So does its idealised reading. -/
theorem frame_pi3 : Cert.quiescent_Kernel3Ideal := fun m ρ _ => Cert.Kernel3Ideal.Gen.frame m ρ

/-- So does its reference. -/
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The first projection's call leaves the projection's columns. -/
theorem equal2 : Cert.algebraic_Kernel2Ideal_Reference2Ideal := by
  intro m g m' g' _ hagree
  refine ⟨_, Cert.Kernel2Ideal.Value.run_blocks (F := Ideal) m g, ?_⟩
  refine (θ_run _ _ _).mono (fun _ h c => ⟨(h c).1.trans ?_, (h c).2⟩) (Cert.Reference2Ideal.Value.run (F := Ideal) m' g')
  obtain ⟨e0, e1⟩ := hagree c
  rw [e0, e1, Cert.ProjA.array_at m c]
  funext j
  idx_vars j
  exact Cert.ProjA.ref_at _ _ _ _

/-- The second projection's call leaves the merge gates' columns and the low-rank ones. -/
theorem equal3 : Cert.algebraic_Kernel3Ideal_Reference3Ideal := by
  intro m g m' g' _ hagree
  refine ⟨_, Cert.Kernel3Ideal.Value.run_blocks (F := Ideal) m g, ?_⟩
  refine (θ_run _ _ _).mono (fun _ h c => ⟨(h c).1.trans ?_, (h c).2⟩) (Cert.Reference3Ideal.Value.run (F := Ideal) m' g')
  obtain ⟨e0, e1⟩ := hagree c
  rw [e0, e1, Cert.ProjB.array_at m c]
  funext j
  idx_vars j
  exact Cert.ProjB.ref_at _ _ _ _

/-- The attention call runs and leaves its arguments as they were. -/
theorem frame_p4 : Cert.quiescent_Kernel4 := fun m ρ _ => Cert.Kernel4.Gen.frame m ρ

/-- So does its idealised reading. -/
theorem frame_pi4 : Cert.quiescent_Kernel4Ideal := fun m ρ _ => Cert.Kernel4Ideal.Gen.frame m ρ

/-- So does its reference. -/
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The two named constants of the attention have the values their names say. -/
theorem preserves4 : Cert.preserves_Kernel4_Kernel4Ideal :=
  ⟨IdealRules.named_const.statement Cert.Kernel4Ideal.κ "log2e" .f32 _ _ rfl,
   IdealRules.named_const.statement Cert.Kernel4Ideal.κ "qscale" .f32 _ _ rfl⟩

/-- On finite projections and lambda rows the attention's result is the plain layer's. -/
theorem equal4 : Cert.algebraic_Kernel4Ideal_Reference4Ideal_pre_finite_inputs4 := by
  intro m g m' g' hpre hagree
  have hfin := fun c => Cert.Attn.finite_of_pre (hpre c)
  refine ⟨_, Cert.Kernel4Ideal.Value.run_blocks (F := Ideal) m g, ?_⟩
  refine (θ_run _ _ _).mono (fun _ h c => ⟨(h c).1.trans ?_, (h c).2⟩) (Cert.Reference4Ideal.Value.run (F := Ideal) m' g')
  obtain ⟨e0, e1, e2⟩ := hagree c
  rw [Cert.Attn.ref_terms, e0, e1, e2, Cert.Attn.array_at m c (hfin c).1 (hfin c).2]
  funext j
  idx_vars j
  exact Cert.Attn.refOut_at (hfin c).1 (hfin c).2 _ _ _ _

/-- The merge call runs and leaves its arguments as they were. -/
theorem frame_p5 : Cert.quiescent_Kernel5 := fun m ρ _ => Cert.Kernel5.Gen.frame m ρ

/-- So does its idealised reading. -/
theorem frame_pi5 : Cert.quiescent_Kernel5Ideal := fun m ρ _ => Cert.Kernel5Ideal.Gen.frame m ρ

/-- So does its reference. -/
theorem frame_ri5 : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- The merged and normalised rows, the same rows again, and the routing weights are the plain layer's. -/
theorem equal5 : Cert.algebraic_Kernel5Ideal_Reference5Ideal := by
  intro m g m' g' _ hagree
  refine ⟨_, _, _, Cert.Kernel5Ideal.Value.run_blocks (F := Ideal) m g, ?_⟩
  refine (θ_run _ _ _).mono (fun _ h c => ⟨(h c).1.trans ?_, (h c).2.1.trans ?_, (h c).2.2.1.trans ?_, (h c).2.2.2⟩)
    (Cert.Reference5Ideal.Value.run (F := Ideal) m' g')
  · exact (Cert.Merge.ref_rows m' c).trans ((Cert.Merge.refRows_eq _ _ _ _ _ _ _ _ _ _ _ _ _ _ _ _ _ _ _ _ _ _ _ _ _ _ _ _ _ _ _ _ _ _ (hagree c)).trans (Cert.Merge.first_array m c).symm)
  · exact (Cert.Merge.ref_rows m' c).trans ((Cert.Merge.refRows_eq _ _ _ _ _ _ _ _ _ _ _ _ _ _ _ _ _ _ _ _ _ _ _ _ _ _ _ _ _ _ _ _ _ _ (hagree c)).trans (Cert.Merge.second_array m c).symm)
  · exact (Cert.Merge.ref_comb m' c).trans ((Cert.Merge.refComb_eq _ _ _ _ _ _ _ _ _ _ _ _ _ _ _ _ _ _ _ _ _ _ _ _ _ _ _ _ _ _ _ _ _ _ (hagree c)).trans (Cert.Merge.third_array m c).symm)

/-- The whole claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_routing_weights.Gen.facts, Cert.Pre_finite_inputs4.Gen.facts,
    frame_p, frame_pi, fun m g _ => frame_pi m g trivial, frame_ri, fun m g _ => frame_ri m g trivial,
    frame_p2, frame_pi2, frame_ri2, frame_p3, frame_pi3, frame_ri3,
    frame_p4, frame_pi4, fun m g _ => frame_pi4 m g trivial, frame_ri4, fun m g _ => frame_ri4 m g trivial,
    frame_p5, frame_pi5, frame_ri5,
    preserves, equal, trivial, equal2, trivial, equal3, preserves4, equal4, trivial, equal5⟩

end Cert.Proof

end
